-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal (hKernelIdeal := hKernelIdeal) (hReferenceIdeal := hReferenceIdeal) (hPre_routed := hPre_routed)
-- ==== Pre_routed.lean ====
abbrev S4096x8x128 : Shape := ⟨3, ![4096, 8, 128]⟩
abbrev S4096 : Shape := ⟨1, ![4096]⟩
abbrev S128 : Shape := ⟨1, ![128]⟩
abbrev S4096x1024 : Shape := ⟨2, ![4096, 1024]⟩
abbrev S4096x128 : Shape := ⟨2, ![4096, 128]⟩
abbrev S8x512x1024 : Shape := ⟨3, ![8, 512, 1024]⟩
abbrev S8x1024x512 : Shape := ⟨3, ![8, 1024, 512]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x128 : Shape := ⟨2, ![1, 128]⟩

class Facts : Prop where
  bcast_S_S4096 : S_.BroadcastsInDim S4096 (![] : Fin 0 → Fin S4096.rank)
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  natLt_1_32 : 1 < 32
  reducesTo_S4096x4096_S4096_d1 : S4096x4096.ReducesTo [1] S4096
  h_S_ : 0 < S_.numel
  bcast_S_S128 : S_.BroadcastsInDim S128 (![] : Fin 0 → Fin S128.rank)
  reducesTo_S4096_S_d0 : S4096.ReducesTo [0] S_
  reducesTo_S128_S_d0 : S128.ReducesTo [0] S_
  bcast_S128_S1x128_1 : S128.BroadcastsInDim S1x128 (![1] : Fin 1 → Fin S1x128.rank)
  bcast_S4096x1_S4096x128_0_1 : S4096x1.BroadcastsInDim S4096x128 (![0, 1] : Fin 2 → Fin S4096x128.rank)
  bcast_S1x128_S4096x128_0_1 : S1x128.BroadcastsInDim S4096x128 (![0, 1] : Fin 2 → Fin S4096x128.rank)
  bcast_S_S1x128 : S_.BroadcastsInDim S1x128 (![] : Fin 0 → Fin S1x128.rank)
  reducesTo_S4096x128_S4096_d1 : S4096x128.ReducesTo [1] S4096

variable [Facts]

def fn_part5 {F : FTy → Type} [FloatOps F] (main_arg2 : IVec S4096 32) (main_arg4 : IVec S128 32) (main_v74 : IVec S128 32) (main_v95 : IVec S_ 1) (main_v96 : IVec S4096 32) : IVec S_ 1 :=
  let main_v97 : IVec S4096 32 := Host.divsi main_arg2 main_v96
  let main_v98 : IVec S4096x1 32 := broadcastInDim S4096x1 ![0] bcast_S4096_S4096x1_0 main_v97
  let main_v99 : IVec S1x128 32 := broadcastInDim S1x128 ![1] bcast_S128_S1x128_1 main_arg4
  let main_v100 : IVec S4096x128 32 := broadcastInDim S4096x128 ![0, 1] bcast_S4096x1_S4096x128_0_1 main_v98
  let main_v101 : IVec S4096x128 32 := broadcastInDim S4096x128 ![0, 1] bcast_S1x128_S4096x128_0_1 main_v99
  let main_v102 : IVec S4096x128 1 := cmpi .eq main_v100 main_v101
  let main_v103 : IVec S1x128 32 := broadcastInDim S1x128 ![1] bcast_S128_S1x128_1 main_v74
  let main_c_22 : IVec S_ 32 := constantI S_ 32 23#32
  let main_v104 : IVec S1x128 32 := broadcastInDim S1x128 ![] bcast_S_S1x128 main_c_22
  let main_v105 : IVec S1x128 1 := cmpi .slt main_v103 main_v104
  let main_v106 : IVec S4096x128 1 := broadcastInDim S4096x128 ![0, 1] bcast_S1x128_S4096x128_0_1 main_v105
  let main_v107 : IVec S4096x128 1 := andi main_v102 main_v106
  let main_v108 : IVec S4096x128 32 := (extui 32 · natLt_1_32) main_v107
  let main_c_23 : IVec S_ 32 := constantI S_ 32 0#32
  let main_v109 : IVec S4096 32 := (fun x v => Host.reduce IntOp.addi x v reducesTo_S4096x128_S4096_d1 h_S_) main_v108 main_c_23
  let main_c_24 : IVec S_ 32 := constantI S_ 32 0#32
  let main_v110 : IVec S4096 32 := broadcastInDim S4096 ![] bcast_S_S4096 main_c_24
  let main_v111 : IVec S4096 1 := cmpi .sgt main_v109 main_v110
  let main_c_25 : IVec S_ 1 := constantI S_ 1 1#1
  let main_v112 : IVec S_ 1 := (fun x v => Host.reduce IntOp.andi x v reducesTo_S4096_S_d0 h_S_) main_v111 main_c_25
  let main_v113 : IVec S_ 1 := andi main_v95 main_v112
  main_v113

def fn_part4 {F : FTy → Type} [FloatOps F] (main_arg1 : IVec S4096 32) (main_arg2 : IVec S4096 32) (main_arg4 : IVec S128 32) (main_v74 : IVec S128 32) (main_v77 : IVec S_ 1) (main_c_16 : IVec S_ 32) : IVec S_ 1 :=
  let main_v78 : IVec S4096 32 := broadcastInDim S4096 ![] bcast_S_S4096 main_c_16
  let main_v79 : IVec S4096 32 := Host.divsi main_arg1 main_v78
  let main_v80 : IVec S4096x1 32 := broadcastInDim S4096x1 ![0] bcast_S4096_S4096x1_0 main_v79
  let main_v81 : IVec S1x128 32 := broadcastInDim S1x128 ![1] bcast_S128_S1x128_1 main_arg4
  let main_v82 : IVec S4096x128 32 := broadcastInDim S4096x128 ![0, 1] bcast_S4096x1_S4096x128_0_1 main_v80
  let main_v83 : IVec S4096x128 32 := broadcastInDim S4096x128 ![0, 1] bcast_S1x128_S4096x128_0_1 main_v81
  let main_v84 : IVec S4096x128 1 := cmpi .eq main_v82 main_v83
  let main_v85 : IVec S1x128 32 := broadcastInDim S1x128 ![1] bcast_S128_S1x128_1 main_v74
  let main_c_17 : IVec S_ 32 := constantI S_ 32 23#32
  let main_v86 : IVec S1x128 32 := broadcastInDim S1x128 ![] bcast_S_S1x128 main_c_17
  let main_v87 : IVec S1x128 1 := cmpi .slt main_v85 main_v86
  let main_v88 : IVec S4096x128 1 := broadcastInDim S4096x128 ![0, 1] bcast_S1x128_S4096x128_0_1 main_v87
  let main_v89 : IVec S4096x128 1 := andi main_v84 main_v88
  let main_v90 : IVec S4096x128 32 := (extui 32 · natLt_1_32) main_v89
  let main_c_18 : IVec S_ 32 := constantI S_ 32 0#32
  let main_v91 : IVec S4096 32 := (fun x v => Host.reduce IntOp.addi x v reducesTo_S4096x128_S4096_d1 h_S_) main_v90 main_c_18
  let main_c_19 : IVec S_ 32 := constantI S_ 32 0#32
  let main_v92 : IVec S4096 32 := broadcastInDim S4096 ![] bcast_S_S4096 main_c_19
  let main_v93 : IVec S4096 1 := cmpi .sgt main_v91 main_v92
  let main_c_20 : IVec S_ 1 := constantI S_ 1 1#1
  let main_v94 : IVec S_ 1 := (fun x v => Host.reduce IntOp.andi x v reducesTo_S4096_S_d0 h_S_) main_v93 main_c_20
  let main_v95 : IVec S_ 1 := andi main_v77 main_v94
  let main_c_21 : IVec S_ 32 := constantI S_ 32 512#32
  let main_v96 : IVec S4096 32 := broadcastInDim S4096 ![] bcast_S_S4096 main_c_21
  fn_part5 (F := F) main_arg2 main_arg4 main_v74 main_v95 main_v96

def fn_part3 {F : FTy → Type} [FloatOps F] (main_arg1 : IVec S4096 32) (main_arg2 : IVec S4096 32) (main_arg3 : IVec S128 32) (main_arg4 : IVec S128 32) (main_v58 : IVec S4096 1) (main_v60 : IVec S128 1) : IVec S_ 1 :=
  let main_c_10 : IVec S_ 32 := constantI S_ 32 8#32
  let main_v61 : IVec S128 32 := broadcastInDim S128 ![] bcast_S_S128 main_c_10
  let main_v62 : IVec S128 1 := cmpi .slt main_arg3 main_v61
  let main_v63 : IVec S128 1 := andi main_v60 main_v62
  let main_c_11 : IVec S_ 32 := constantI S_ 32 0#32
  let main_v64 : IVec S128 32 := broadcastInDim S128 ![] bcast_S_S128 main_c_11
  let main_v65 : IVec S128 1 := cmpi .sge main_arg4 main_v64
  let main_v66 : IVec S128 1 := andi main_v63 main_v65
  let main_c_12 : IVec S_ 32 := constantI S_ 32 64#32
  let main_v67 : IVec S128 32 := broadcastInDim S128 ![] bcast_S_S128 main_c_12
  let main_v68 : IVec S128 1 := cmpi .slt main_arg4 main_v67
  let main_v69 : IVec S128 1 := andi main_v66 main_v68
  let main_c_13 : IVec S_ 32 := constantI S_ 32 8#32
  let main_v70 : IVec S128 32 := broadcastInDim S128 ![] bcast_S_S128 main_c_13
  let main_v71 : IVec S128 32 := Host.divsi main_arg4 main_v70
  let main_v72 : IVec S128 1 := cmpi .eq main_v71 main_arg3
  let main_v73 : IVec S128 1 := andi main_v69 main_v72
  let main_v74 : IVec S128 32 := iotaInDim S128 32 0
  let main_c_14 : IVec S_ 1 := constantI S_ 1 1#1
  let main_v75 : IVec S_ 1 := (fun x v => Host.reduce IntOp.andi x v reducesTo_S4096_S_d0 h_S_) main_v58 main_c_14
  let main_c_15 : IVec S_ 1 := constantI S_ 1 1#1
  let main_v76 : IVec S_ 1 := (fun x v => Host.reduce IntOp.andi x v reducesTo_S128_S_d0 h_S_) main_v73 main_c_15
  let main_v77 : IVec S_ 1 := andi main_v75 main_v76
  let main_c_16 : IVec S_ 32 := constantI S_ 32 512#32
  fn_part4 (F := F) main_arg1 main_arg2 main_arg4 main_v74 main_v77 main_c_16

def fn_part2 {F : FTy → Type} [FloatOps F] (main_arg1 : IVec S4096 32) (main_arg2 : IVec S4096 32) (main_arg3 : IVec S128 32) (main_arg4 : IVec S128 32) (main_v1 : IVec S4096 32) (main_v3 : IVec S4096 32) (main_v5 : IVec S4096 32) (main_v7 : IVec S4096 32) (main_v13 : IVec S4096x4096 1) (main_v26 : IVec S4096 1) (main_v39 : IVec S4096x4096 32) : IVec S_ 1 :=
  let main_c_7 : IVec S_ 32 := constantI S_ 32 0#32
  let main_v40 : IVec S4096 32 := (fun x v => Host.reduce IntOp.addi x v reducesTo_S4096x4096_S4096_d1 h_S_) main_v39 main_c_7
  let main_v41 : IVec S4096 1 := cmpi .eq main_v5 main_v40
  let main_v42 : IVec S4096 1 := andi main_v26 main_v41
  let main_v43 : IVec S4096x1 32 := broadcastInDim S4096x1 ![0] bcast_S4096_S4096x1_0 main_v3
  let main_v44 : IVec S1x4096 32 := broadcastInDim S1x4096 ![1] bcast_S4096_S1x4096_1 main_v1
  let main_v45 : IVec S4096x4096 32 := broadcastInDim S4096x4096 ![0, 1] bcast_S4096x1_S4096x4096_0_1 main_v43
  let main_v46 : IVec S4096x4096 32 := broadcastInDim S4096x4096 ![0, 1] bcast_S1x4096_S4096x4096_0_1 main_v44
  let main_v47 : IVec S4096x4096 1 := cmpi .eq main_v45 main_v46
  let main_v48 : IVec S4096x1 32 := broadcastInDim S4096x1 ![0] bcast_S4096_S4096x1_0 main_v3
  let main_v49 : IVec S1x4096 32 := broadcastInDim S1x4096 ![1] bcast_S4096_S1x4096_1 main_v3
  let main_v50 : IVec S4096x4096 32 := broadcastInDim S4096x4096 ![0, 1] bcast_S4096x1_S4096x4096_0_1 main_v48
  let main_v51 : IVec S4096x4096 32 := broadcastInDim S4096x4096 ![0, 1] bcast_S1x4096_S4096x4096_0_1 main_v49
  let main_v52 : IVec S4096x4096 1 := cmpi .eq main_v50 main_v51
  let main_v53 : IVec S4096x4096 1 := ori main_v47 main_v52
  let main_v54 : IVec S4096x4096 1 := andi main_v13 main_v53
  let main_v55 : IVec S4096x4096 32 := (extui 32 · natLt_1_32) main_v54
  let main_c_8 : IVec S_ 32 := constantI S_ 32 0#32
  let main_v56 : IVec S4096 32 := (fun x v => Host.reduce IntOp.addi x v reducesTo_S4096x4096_S4096_d1 h_S_) main_v55 main_c_8
  let main_v57 : IVec S4096 1 := cmpi .eq main_v7 main_v56
  let main_v58 : IVec S4096 1 := andi main_v42 main_v57
  let main_c_9 : IVec S_ 32 := constantI S_ 32 0#32
  let main_v59 : IVec S128 32 := broadcastInDim S128 ![] bcast_S_S128 main_c_9
  let main_v60 : IVec S128 1 := cmpi .sge main_arg3 main_v59
  fn_part3 (F := F) main_arg1 main_arg2 main_arg3 main_arg4 main_v58 main_v60

def fn_part1 {F : FTy → Type} [FloatOps F] (main_arg1 : IVec S4096 32) (main_arg2 : IVec S4096 32) (main_arg3 : IVec S128 32) (main_arg4 : IVec S128 32) (main_v1 : IVec S4096 32) (main_v3 : IVec S4096 32) (main_v5 : IVec S4096 32) (main_v7 : IVec S4096 32) (main_v13 : IVec S4096x4096 1) (main_v15 : IVec S4096 1) (main_v17 : IVec S4096 1) : IVec S_ 1 :=
  let main_v18 : IVec S4096 1 := andi main_v15 main_v17
  let main_c_5 : IVec S_ 32 := constantI S_ 32 0#32
  let main_v19 : IVec S4096 32 := broadcastInDim S4096 ![] bcast_S_S4096 main_c_5
  let main_v20 : IVec S4096 1 := cmpi .sge main_arg2 main_v19
  let main_v21 : IVec S4096 1 := andi main_v18 main_v20
  let main_c_6 : IVec S_ 32 := constantI S_ 32 32768#32
  let main_v22 : IVec S4096 32 := broadcastInDim S4096 ![] bcast_S_S4096 main_c_6
  let main_v23 : IVec S4096 1 := cmpi .slt main_arg2 main_v22
  let main_v24 : IVec S4096 1 := andi main_v21 main_v23
  let main_v25 : IVec S4096 1 := cmpi .ne main_v1 main_v3
  let main_v26 : IVec S4096 1 := andi main_v24 main_v25
  let main_v27 : IVec S4096x1 32 := broadcastInDim S4096x1 ![0] bcast_S4096_S4096x1_0 main_v1
  let main_v28 : IVec S1x4096 32 := broadcastInDim S1x4096 ![1] bcast_S4096_S1x4096_1 main_v1
  let main_v29 : IVec S4096x4096 32 := broadcastInDim S4096x4096 ![0, 1] bcast_S4096x1_S4096x4096_0_1 main_v27
  let main_v30 : IVec S4096x4096 32 := broadcastInDim S4096x4096 ![0, 1] bcast_S1x4096_S4096x4096_0_1 main_v28
  let main_v31 : IVec S4096x4096 1 := cmpi .eq main_v29 main_v30
  let main_v32 : IVec S4096x1 32 := broadcastInDim S4096x1 ![0] bcast_S4096_S4096x1_0 main_v1
  let main_v33 : IVec S1x4096 32 := broadcastInDim S1x4096 ![1] bcast_S4096_S1x4096_1 main_v3
  let main_v34 : IVec S4096x4096 32 := broadcastInDim S4096x4096 ![0, 1] bcast_S4096x1_S4096x4096_0_1 main_v32
  let main_v35 : IVec S4096x4096 32 := broadcastInDim S4096x4096 ![0, 1] bcast_S1x4096_S4096x4096_0_1 main_v33
  let main_v36 : IVec S4096x4096 1 := cmpi .eq main_v34 main_v35
  let main_v37 : IVec S4096x4096 1 := ori main_v31 main_v36
  let main_v38 : IVec S4096x4096 1 := andi main_v13 main_v37
  let main_v39 : IVec S4096x4096 32 := (extui 32 · natLt_1_32) main_v38
  fn_part2 (F := F) main_arg1 main_arg2 main_arg3 main_arg4 main_v1 main_v3 main_v5 main_v7 main_v13 main_v26 main_v39

def fn {F : FTy → Type} [FloatOps F] (main_arg0 : FVec F S4096x8x128 .f32) (main_arg1 : IVec S4096 32) (main_arg2 : IVec S4096 32) (main_arg3 : IVec S128 32) (main_arg4 : IVec S128 32) (main_arg5 : FVec F S4096x1024 .f32) (main_arg6 : FVec F S4096x128 .f32) (main_arg7 : FVec F S8x512x1024 .f32) (main_arg8 : FVec F S8x512x1024 .f32) (main_arg9 : FVec F S8x1024x512 .f32) : IVec S_ 1 :=
  let main_c : IVec S_ 32 := constantI S_ 32 4096#32
  let main_v0 : IVec S4096 32 := broadcastInDim S4096 ![] bcast_S_S4096 main_c
  let main_v1 : IVec S4096 32 := Host.divsi main_arg1 main_v0
  let main_c_0 : IVec S_ 32 := constantI S_ 32 4096#32
  let main_v2 : IVec S4096 32 := broadcastInDim S4096 ![] bcast_S_S4096 main_c_0
  let main_v3 : IVec S4096 32 := Host.divsi main_arg2 main_v2
  let main_c_1 : IVec S_ 32 := constantI S_ 32 4096#32
  let main_v4 : IVec S4096 32 := broadcastInDim S4096 ![] bcast_S_S4096 main_c_1
  let main_v5 : IVec S4096 32 := Host.remsi main_arg1 main_v4
  let main_c_2 : IVec S_ 32 := constantI S_ 32 4096#32
  let main_v6 : IVec S4096 32 := broadcastInDim S4096 ![] bcast_S_S4096 main_c_2
  let main_v7 : IVec S4096 32 := Host.remsi main_arg2 main_v6
  let main_v8 : IVec S4096 32 := iotaInDim S4096 32 0
  let main_v9 : IVec S1x4096 32 := broadcastInDim S1x4096 ![1] bcast_S4096_S1x4096_1 main_v8
  let main_v10 : IVec S4096x1 32 := broadcastInDim S4096x1 ![0] bcast_S4096_S4096x1_0 main_v8
  let main_v11 : IVec S4096x4096 32 := broadcastInDim S4096x4096 ![0, 1] bcast_S1x4096_S4096x4096_0_1 main_v9
  let main_v12 : IVec S4096x4096 32 := broadcastInDim S4096x4096 ![0, 1] bcast_S4096x1_S4096x4096_0_1 main_v10
  let main_v13 : IVec S4096x4096 1 := cmpi .slt main_v11 main_v12
  let main_c_3 : IVec S_ 32 := constantI S_ 32 0#32
  let main_v14 : IVec S4096 32 := broadcastInDim S4096 ![] bcast_S_S4096 main_c_3
  let main_v15 : IVec S4096 1 := cmpi .sge main_arg1 main_v14
  let main_c_4 : IVec S_ 32 := constantI S_ 32 32768#32
  let main_v16 : IVec S4096 32 := broadcastInDim S4096 ![] bcast_S_S4096 main_c_4
  let main_v17 : IVec S4096 1 := cmpi .slt main_arg1 main_v16
  fn_part1 (F := F) main_arg1 main_arg2 main_arg3 main_arg4 main_v1 main_v3 main_v5 main_v7 main_v13 main_v15 main_v17
-- ==== Kernel.lean ====
abbrev S4096x8x128 : Shape := ⟨3, ![4096, 8, 128]⟩
abbrev S4096 : Shape := ⟨1, ![4096]⟩
abbrev S128 : Shape := ⟨1, ![128]⟩
abbrev S4096x1024 : Shape := ⟨2, ![4096, 1024]⟩
abbrev S4096x128 : Shape := ⟨2, ![4096, 128]⟩
abbrev S8x512x1024 : Shape := ⟨3, ![8, 512, 1024]⟩
abbrev S8x1024x512 : Shape := ⟨3, ![8, 1024, 512]⟩
abbrev S16384x2x128 : Shape := ⟨3, ![16384, 2, 128]⟩
abbrev S4096x1 : Shape := ⟨2, ![4096, 1]⟩
abbrev S_ : Shape := ⟨0, ![]⟩
abbrev S4 : Shape := ⟨1, ![4]⟩
abbrev S1x4 : Shape := ⟨2, ![1, 4]⟩
abbrev S4096x4 : Shape := ⟨2, ![4096, 4]⟩
abbrev S16384 : Shape := ⟨1, ![16384]⟩
abbrev S131072x2x128 : Shape := ⟨3, ![131072, 2, 128]⟩
abbrev S256 : Shape := ⟨1, ![256]⟩
abbrev S256x2x128 : Shape := ⟨3, ![256, 2, 128]⟩
abbrev S32768x8x128 : Shape := ⟨3, ![32768, 8, 128]⟩
abbrev S512x8x128 : Shape := ⟨3, ![512, 8, 128]⟩
abbrev S1 : Shape := ⟨1, ![1]⟩
abbrev S1x1024x512 : Shape := ⟨3, ![1, 1024, 512]⟩
abbrev S1x512x1024 : Shape := ⟨3, ![1, 512, 1024]⟩
abbrev S512x1x128 : Shape := ⟨3, ![512, 1, 128]⟩
abbrev S512x128 : Shape := ⟨2, ![512, 128]⟩
abbrev S512x1024 : Shape := ⟨2, ![512, 1024]⟩
abbrev S1024x512 : Shape := ⟨2, ![1024, 512]⟩
abbrev S512x512 : Shape := ⟨2, ![512, 512]⟩
abbrev S512x1 : Shape := ⟨2, ![512, 1]⟩

abbrev nBuf : Table → Nat
  | .hbm => 64
  | .local .tc .vmem => 20
  | .local .tc .smem => 2
  | .local .scVector .vmem => 5
  | _ => 0

abbrev bufTy : (tb : Table) → Fin (nBuf tb) → BufTy
  | .hbm, ⟨0, _⟩ => ⟨S4096x8x128, .f32⟩
  | .hbm, ⟨1, _⟩ => ⟨S4096, .i32⟩
  | .hbm, ⟨2, _⟩ => ⟨S4096, .i32⟩
  | .hbm, ⟨3, _⟩ => ⟨S4096x1024, .f32⟩
  | .hbm, ⟨4, _⟩ => ⟨S4096x128, .f32⟩
  | .hbm, ⟨5, _⟩ => ⟨S8x512x1024, .f32⟩
  | .hbm, ⟨6, _⟩ => ⟨S8x512x1024, .f32⟩
  | .hbm, ⟨7, _⟩ => ⟨S8x1024x512, .f32⟩
  | .hbm, ⟨8, _⟩ => ⟨S16384x2x128, .f32⟩
  | .hbm, ⟨9, _⟩ => ⟨S4096x1, .i32⟩
  | .hbm, ⟨10, _⟩ => ⟨S_, .i32⟩
  | .hbm, ⟨11, _⟩ => ⟨S4096x1, .i32⟩
  | .hbm, ⟨12, _⟩ => ⟨S4096x1, .i32⟩
  | .hbm, ⟨13, _⟩ => ⟨S4, .i32⟩
  | .hbm, ⟨14, _⟩ => ⟨S1x4, .i32⟩
  | .hbm, ⟨15, _⟩ => ⟨S4096x4, .i32⟩
  | .hbm, ⟨16, _⟩ => ⟨S4096x4, .i32⟩
  | .hbm, ⟨17, _⟩ => ⟨S4096x4, .i32⟩
  | .hbm, ⟨18, _⟩ => ⟨S16384, .i32⟩
  | .hbm, ⟨19, _⟩ => ⟨S4096x1, .i32⟩
  | .hbm, ⟨20, _⟩ => ⟨S_, .i32⟩
  | .hbm, ⟨21, _⟩ => ⟨S4096x1, .i32⟩
  | .hbm, ⟨22, _⟩ => ⟨S4096x1, .i32⟩
  | .hbm, ⟨23, _⟩ => ⟨S4, .i32⟩
  | .hbm, ⟨24, _⟩ => ⟨S1x4, .i32⟩
  | .hbm, ⟨25, _⟩ => ⟨S4096x4, .i32⟩
  | .hbm, ⟨26, _⟩ => ⟨S4096x4, .i32⟩
  | .hbm, ⟨27, _⟩ => ⟨S4096x4, .i32⟩
  | .hbm, ⟨28, _⟩ => ⟨S16384, .i32⟩
  | .hbm, ⟨29, _⟩ => ⟨S131072x2x128, .f32⟩
  | .hbm, ⟨30, _⟩ => ⟨S32768x8x128, .f32⟩
  | .hbm, ⟨31, _⟩ => ⟨S8x1024x512, .f32⟩
  | .hbm, ⟨32, _⟩ => ⟨S8x1024x512, .bf16⟩
  | .hbm, ⟨33, _⟩ => ⟨S8x1024x512, .f32⟩
  | .hbm, ⟨34, _⟩ => ⟨S8x1024x512, .bf16⟩
  | .hbm, ⟨35, _⟩ => ⟨S8x512x1024, .f32⟩
  | .hbm, ⟨36, _⟩ => ⟨S8x512x1024, .bf16⟩
  | .hbm, ⟨37, _⟩ => ⟨S32768x8x128, .f32⟩
  | .hbm, ⟨38, _⟩ => ⟨S131072x2x128, .f32⟩
  | .hbm, ⟨39, _⟩ => ⟨S4096x1, .i32⟩
  | .hbm, ⟨40, _⟩ => ⟨S_, .i32⟩
  | .hbm, ⟨41, _⟩ => ⟨S4096x1, .i32⟩
  | .hbm, ⟨42, _⟩ => ⟨S4096x1, .i32⟩
  | .hbm, ⟨43, _⟩ => ⟨S4, .i32⟩
  | .hbm, ⟨44, _⟩ => ⟨S1x4, .i32⟩
  | .hbm, ⟨45, _⟩ => ⟨S4096x4, .i32⟩
  | .hbm, ⟨46, _⟩ => ⟨S4096x4, .i32⟩
  | .hbm, ⟨47, _⟩ => ⟨S4096x4, .i32⟩
  | .hbm, ⟨48, _⟩ => ⟨S16384, .i32⟩
  | .hbm, ⟨49, _⟩ => ⟨S4096x1, .i32⟩
  | .hbm, ⟨50, _⟩ => ⟨S_, .i32⟩
  | .hbm, ⟨51, _⟩ => ⟨S4096x1, .i32⟩
  | .hbm, ⟨52, _⟩ => ⟨S4096x1, .i32⟩
  | .hbm, ⟨53, _⟩ => ⟨S4, .i32⟩
  | .hbm, ⟨54, _⟩ => ⟨S1x4, .i32⟩
  | .hbm, ⟨55, _⟩ => ⟨S4096x4, .i32⟩
  | .hbm, ⟨56, _⟩ => ⟨S4096x4, .i32⟩
  | .hbm, ⟨57, _⟩ => ⟨S4096x4, .i32⟩
  | .hbm, ⟨58, _⟩ => ⟨S16384, .i32⟩
  | .hbm, ⟨59, _⟩ => ⟨S16384x2x128, .f32⟩
  | .hbm, ⟨60, _⟩ => ⟨S16384x2x128, .f32⟩
  | .hbm, ⟨61, _⟩ => ⟨S4096x8x128, .f32⟩
  | .hbm, ⟨62, _⟩ => ⟨S4096x8x128, .f32⟩
  | .hbm, ⟨63, _⟩ => ⟨S4096x1024, .f32⟩
  | .local .tc .vmem, ⟨0, _⟩ => ⟨S512x8x128, .f32⟩
  | .local .tc .vmem, ⟨1, _⟩ => ⟨S512x8x128, .f32⟩
  | .local .tc .vmem, ⟨2, _⟩ => ⟨S1x1024x512, .bf16⟩
  | .local .tc .vmem, ⟨3, _⟩ => ⟨S1x1024x512, .bf16⟩
  | .local .tc .vmem, ⟨4, _⟩ => ⟨S1x1024x512, .bf16⟩
  | .local .tc .vmem, ⟨5, _⟩ => ⟨S1x1024x512, .bf16⟩
  | .local .tc .vmem, ⟨6, _⟩ => ⟨S1x512x1024, .bf16⟩
  | .local .tc .vmem, ⟨7, _⟩ => ⟨S1x512x1024, .bf16⟩
  | .local .tc .vmem, ⟨8, _⟩ => ⟨S512x8x128, .f32⟩
  | .local .tc .vmem, ⟨9, _⟩ => ⟨S512x8x128, .f32⟩
  | .local .tc .vmem, ⟨10, _⟩ => ⟨S512x1024, .f32⟩
  | .local .tc .vmem, ⟨11, _⟩ => ⟨S512x1024, .f32⟩
  | .local .tc .vmem, ⟨12, _⟩ => ⟨S512x8x128, .f32⟩
  | .local .tc .vmem, ⟨13, _⟩ => ⟨S512x8x128, .f32⟩
  | .local .tc .vmem, ⟨14, _⟩ => ⟨S512x8x128, .f32⟩
  | .local .tc .vmem, ⟨15, _⟩ => ⟨S512x8x128, .f32⟩
  | .local .tc .vmem, ⟨16, _⟩ => ⟨S512x128, .f32⟩
  | .local .tc .vmem, ⟨17, _⟩ => ⟨S512x128, .f32⟩
  | .local .tc .vmem, ⟨18, _⟩ => ⟨S512x1024, .f32⟩
  | .local .tc .vmem, ⟨19, _⟩ => ⟨S512x1024, .f32⟩
  | .local .tc .smem, ⟨0, _⟩ => ⟨S128, .i32⟩
  | .local .tc .smem, ⟨1, _⟩ => ⟨S128, .i32⟩
  | .local .scVector .vmem, ⟨0, _⟩ => ⟨S256, .i32⟩
  | .local .scVector .vmem, ⟨1, _⟩ => ⟨S256, .i32⟩
  | .local .scVector .vmem, ⟨2, _⟩ => ⟨S256x2x128, .f32⟩
  | .local .scVector .vmem, ⟨3, _⟩ => ⟨S256, .i32⟩
  | .local .scVector .vmem, ⟨4, _⟩ => ⟨S256x2x128, .f32⟩
  | _, _ => ⟨S4096x8x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 37 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTables nBuf rfl bufTy 4 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47_0 : Ref sig .tc := ⟨.hbm, 59, rfl⟩
abbrev main_v47_1 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_arg3 : Ref sig .tc := ⟨.smem, 0, rfl⟩
abbrev main_arg4 : Ref sig .tc := ⟨.smem, 1, rfl⟩
abbrev main_v0_scv : Ref sig .scVector := ⟨.hbm, 8, rfl⟩
abbrev main_v9_scv : Ref sig .scVector := ⟨.hbm, 18, rfl⟩
abbrev main_v18_scv : Ref sig .scVector := ⟨.hbm, 28, rfl⟩
abbrev main_v19_scv : Ref sig .scVector := ⟨.hbm, 29, rfl⟩
abbrev main_v28_scv : Ref sig .scVector := ⟨.hbm, 38, rfl⟩
abbrev main_v37_scv : Ref sig .scVector := ⟨.hbm, 48, rfl⟩
abbrev main_v46_scv : Ref sig .scVector := ⟨.hbm, 58, rfl⟩
abbrev main_v47_0_scv : Ref sig .scVector := ⟨.hbm, 59, rfl⟩
abbrev main_v47_1_scv : Ref sig .scVector := ⟨.hbm, 60, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc3_stg0_0 : Ref sig .tc := ⟨.vmem, 10, rfl⟩
abbrev cc3_stg0_1 : Ref sig .tc := ⟨.vmem, 11, rfl⟩
abbrev cc3_stg1_0 : Ref sig .tc := ⟨.vmem, 12, rfl⟩
abbrev cc3_stg1_1 : Ref sig .tc := ⟨.vmem, 13, rfl⟩
abbrev cc3_stg2_0 : Ref sig .tc := ⟨.vmem, 14, rfl⟩
abbrev cc3_stg2_1 : Ref sig .tc := ⟨.vmem, 15, rfl⟩
abbrev cc3_stg3_0 : Ref sig .tc := ⟨.vmem, 16, rfl⟩
abbrev cc3_stg3_1 : Ref sig .tc := ⟨.vmem, 17, rfl⟩
abbrev cc3_stg4_0 : Ref sig .tc := ⟨.vmem, 18, rfl⟩
abbrev cc3_stg4_1 : Ref sig .tc := ⟨.vmem, 19, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem4_1 : DmaSem sig := 36
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let v4 : BitVec 32 := Scalar.muli c4_i32 v3
  ![v4.toNat]
def k0_off2 (i : grid0.Coords) (c0_i32 : BitVec 32) : Fin 3 → Nat :=
  let c4_i32_1 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let v6 : BitVec 32 := Scalar.muli c4_i32_1 v3
  let c0_i32_29_r2 : BitVec 32 := 0#32
  let c0_i32_30_r2 : BitVec 32 := 0#32
  ![v6.toNat, 0, 0]
abbrev grid1 : Pipeline.Grid := ⟨1, ![23], ![false]⟩

abbrev pre1 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S128.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S128) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S128.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S128) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S128.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S128) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S128.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S128) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (k1_off1_inb : ∀ i : grid1.Coords, ∀ a, (k1_off1 i) a + S1.size a ≤ S128.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S128) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S512x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def k2_off1 (i : grid2.Coords) (c0_i32 : BitVec 32) : Fin 1 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let v4 : BitVec 32 := Scalar.muli c4_i32 v3
  ![v4.toNat]
def k2_off2 (i : grid2.Coords) (c0_i32 : BitVec 32) : Fin 3 → Nat :=
  let c4_i32_6 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let v7 : BitVec 32 := Scalar.muli c4_i32_6 v3
  let c0_i32_31_r1 : BitVec 32 := 0#32
  let c0_i32_32_r1 : BitVec 32 := 0#32
  ![v7.toNat, 0, 0]
abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x8x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x8x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096x8x128 : Shape := ⟨3, ![4096, 8, 128]⟩
abbrev S4096 : Shape := ⟨1, ![4096]⟩
abbrev S128 : Shape := ⟨1, ![128]⟩
abbrev S4096x1024 : Shape := ⟨2, ![4096, 1024]⟩
abbrev S4096x128 : Shape := ⟨2, ![4096, 128]⟩
abbrev S8x512x1024 : Shape := ⟨3, ![8, 512, 1024]⟩
abbrev S8x1024x512 : Shape := ⟨3, ![8, 1024, 512]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x8x512 : Shape := ⟨3, ![4096, 8, 512]⟩
abbrev S8x1024x4096 : Shape := ⟨3, ![8, 1024, 4096]⟩
abbrev S4096x8x1024 : Shape := ⟨3, ![4096, 8, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x8x128, .f32⟩
  | .hbm, ⟨1, _⟩ => ⟨S4096, .i32⟩
  | .hbm, ⟨2, _⟩ => ⟨S4096, .i32⟩
  | .hbm, ⟨3, _⟩ => ⟨S128, .i32⟩
  | .hbm, ⟨4, _⟩ => ⟨S128, .i32⟩
  | .hbm, ⟨5, _⟩ => ⟨S4096x1024, .f32⟩
  | .hbm, ⟨6, _⟩ => ⟨S4096x128, .f32⟩
  | .hbm, ⟨7, _⟩ => ⟨S8x512x1024, .f32⟩
  | .hbm, ⟨8, _⟩ => ⟨S8x512x1024, .f32⟩
  | .hbm, ⟨9, _⟩ => ⟨S8x1024x512, .f32⟩
  | .hbm, ⟨10, _⟩ => ⟨S4096x1024, .f32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096x1, .f32⟩
  | .hbm, ⟨18, _⟩ => ⟨S4096x1, .i32⟩
  | .hbm, ⟨19, _⟩ => ⟨S1x8, .i32⟩
  | .hbm, ⟨20, _⟩ => ⟨S4096x8, .i32⟩
  | .hbm, ⟨21, _⟩ => ⟨S4096x8, .i32⟩
  | .hbm, ⟨22, _⟩ => ⟨S4096x8, .i1⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S4096x1, .f32⟩
  | .hbm, ⟨27, _⟩ => ⟨S4096x1, .i32⟩
  | .hbm, ⟨28, _⟩ => ⟨S1x8, .i32⟩
  | .hbm, ⟨29, _⟩ => ⟨S4096x8, .i32⟩
  | .hbm, ⟨30, _⟩ => ⟨S4096x8, .i32⟩
  | .hbm, ⟨31, _⟩ => ⟨S4096x8, .i1⟩
  | .hbm, ⟨32, _⟩ => ⟨S4096x8, .f32⟩
  | .hbm, ⟨33, _⟩ => ⟨S4096x8, .f32⟩
  | .hbm, ⟨34, _⟩ => ⟨S4096x8, .f32⟩
  | .hbm, ⟨35, _⟩ => ⟨S4096x8, .f32⟩
  | .hbm, ⟨36, _⟩ => ⟨S4096x8x512, .f32⟩
  | .hbm, ⟨37, _⟩ => ⟨S4096x8x512, .f32⟩
  | .hbm, ⟨38, _⟩ => ⟨S4096x8x512, .f32⟩
  | .hbm, ⟨39, _⟩ => ⟨S4096x8x512, .f32⟩
  | .hbm, ⟨40, _⟩ => ⟨S_, .f32⟩
  | .hbm, ⟨41, _⟩ => ⟨S4096x8x512, .f32⟩
  | .hbm, ⟨42, _⟩ => ⟨S4096x8x512, .f32⟩
  | .hbm, ⟨43, _⟩ => ⟨S_, .f32⟩
  | .hbm, ⟨44, _⟩ => ⟨S4096x8x512, .f32⟩
  | .hbm, ⟨45, _⟩ => ⟨S4096x8x512, .f32⟩
  | .hbm, ⟨46, _⟩ => ⟨S4096x8x512, .f32⟩
  | .hbm, ⟨47, _⟩ => ⟨S4096x8x512, .f32⟩
  | .hbm, ⟨48, _⟩ => ⟨S8x1024x4096, .f32⟩
  | .hbm, ⟨49, _⟩ => ⟨S4096x8x1024, .f32⟩
  | .hbm, ⟨50, _⟩ => ⟨S4096x1024, .f32⟩
  | .hbm, ⟨51, _⟩ => ⟨S4096x1024, .f32⟩
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩

abbrev nD : Nat := 1
abbrev τ : Topo := Topo.v7x

variable {F : FTy → Type} [FloatOps F]
-- ==== Proof.Setup.lean ====
/-
  The program as the SparseCore launch theorem sees it, the ghost state the proof uses, and the names of the buffers the two
  SparseCore calls move: shared by every later module.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP [FloatOps F] : Labels := Pipeline.Sig Λ₀ (Fin 2) fun p => (pcfgs (F := F) p).Adm
abbrev K [FloatOps F] : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

abbrev UH : Type := URounds (GSem nD τ sig) ℕ
abbrev UP : Type := URounds (GSem nD τ sig) Unit
abbrev UU : Type := UH × (UP × Counters)

/-- The algebra every assertion of the proof lives in. -/
abbrev MM (F : FTy → Type) : Type := MT nD τ sig (HIx 2) (Elt F) ℕ UU ℕ

abbrev EH : Emb UH (MM F) := embL
abbrev EP : Emb UP (MM F) := (Emb.inl : Emb UP (UP × Counters)).trans embR

instance EP_landsIn : (EP : Emb UP (MM F)).LandsIn (upEmb : UEmb _ (MM F)) := by unfold EP embR; infer_instance

/-! ## A tile's name and its storage -/

abbrev c0 (L : grid0.Coords) : Fin τ.nSC := (L 0).castLE hcore0
abbrev j0 (L : grid0.Coords) : Fin τ.nSub := (L 1).castLE hsub0
abbrev c2 (L : grid2.Coords) : Fin τ.nSC := (L 0).castLE hcore2
abbrev j2 (L : grid2.Coords) : Fin τ.nSub := (L 1).castLE hsub2

end Cert.Proof

end
-- ==== Proof.Shares.lean ====
/-
  Read shares for the thirty-two tiles, and a big separating conjunction with a list of its members taken out.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

/-- A big conjunction over a set is its members of a list without repetition, one after the other, and the rest. -/
theorem bigSep_take {A : Type} [DecidableEq A] (Φ : A → sProp (MM F)) : ∀ (l : List A) (s : Finset A), l.Nodup → (∀ a ∈ l, a ∈ s) →
    bigSep s Φ = l.foldr (fun a R => iprop(Φ a ∗ R)) (bigSep (s \ l.toFinset) Φ)
  | [], s, _, _ => by simp
  | a :: l, s, hn, hs => by
    obtain ⟨ha, hl⟩ := List.nodup_cons.mp hn
    rw [SparseCore.bigSep_erase' (hs a (List.mem_cons_self ..)),
      bigSep_take Φ l (s.erase a) hl fun b hb => Finset.mem_erase.mpr ⟨fun e => ha (e ▸ hb), hs b (List.mem_cons_of_mem _ hb)⟩,
      List.foldr_cons, List.toFinset_cons, Finset.erase_sdiff_comm, Finset.sdiff_insert]

/-- The share of half `b` of a share. -/
def half (q : PosShare TreeShare) (b : Bool) : PosShare TreeShare := if b then q.right else q.left

/-- The share of the tile whose five binary digits are these: five halvings of the full share. -/
def shr5 (b : Fin 5 → Bool) : PosShare TreeShare := half (half (half (half (half fullShare (b 0)) (b 1)) (b 2)) (b 3)) (b 4)

/-- The binary digits of a tile: its SparseCore, and its number on it. -/
def bits (c : Fin 2) (i : Fin 16) : Fin 5 → Bool := ![c.val.testBit 0, i.val.testBit 0, i.val.testBit 1, i.val.testBit 2, i.val.testBit 3]

/-- The read share of tile `i` of SparseCore `c`. -/
abbrev tq (c : Fin 2) (i : Fin 16) : PosShare TreeShare := shr5 (bits c i)

theorem bigSep_bool (Φ : Bool → sProp (MM F)) : bigSep Finset.univ Φ = iprop(Φ false ∗ Φ true) := by
  rw [show (Finset.univ : Finset Bool) = {false, true} by decide, bigSep_insert (by decide), bigSep_singleton]; rfl

theorem pointsTo_half {ℓ : Loc nD τ sig} (I : Finset (Idx ℓ)) (f : Buf (Elt F) ℓ) (q : PosShare TreeShare) :
    (ℓ ↦[I]{q} f : sProp (MM F)) = bigSep Finset.univ fun b => ℓ ↦[I]{half q b} f := by
  rw [bigSep_bool]
  exact BI.Entails.antisymm (pointsTo_share (PosShare.mem_left_op_right q)).1 (pointsTo_share (PosShare.mem_left_op_right q)).2

/-- The tile of five binary digits. -/
def ofBits (b : Bool × Bool × Bool × Bool × Bool) : Fin 2 × Fin 16 :=
  (Fin.ofNat 2 b.1.toNat, Fin.ofNat 16 (b.2.1.toNat + 2 * b.2.2.1.toNat + 4 * b.2.2.2.1.toNat + 8 * b.2.2.2.2.toNat))

theorem ofBits_inj : Function.Injective ofBits := by unfold Function.Injective; decide
theorem ofBits_surj : Function.Surjective ofBits := by unfold Function.Surjective; decide

def bitsEquiv : Bool × Bool × Bool × Bool × Bool ≃ Fin 2 × Fin 16 := Equiv.ofBijective ofBits ⟨ofBits_inj, ofBits_surj⟩

theorem bits_ofBits : ∀ b0 b1 b2 b3 b4, bits (ofBits (b0, b1, b2, b3, b4)).1 (ofBits (b0, b1, b2, b3, b4)).2 = ![b0, b1, b2, b3, b4] := by
  decide

/-- A buffer at the full share is the thirty-two tiles' read shares of it at once. -/
theorem pointsTo_tiles {ℓ : Loc nD τ sig} (I : Finset (Idx ℓ)) (f : Buf (Elt F) ℓ) :
    (ℓ ↦[I]{fullShare} f : sProp (MM F)) = bigSep Finset.univ fun c : Fin 2 => bigSep Finset.univ fun i : Fin 16 => ℓ ↦[I]{tq c i} f := by
  rw [← bigSep_univ_prod (Φ := fun p : Fin 2 × Fin 16 => (ℓ ↦[I]{tq p.1 p.2} f : sProp (MM F))), bigSep_univ_equiv bitsEquiv]
  simp only [bigSep_univ_prod]
  rw [pointsTo_half]; refine bigSep_congr fun b0 _ => ?_
  rw [pointsTo_half]; refine bigSep_congr fun b1 _ => ?_
  rw [pointsTo_half]; refine bigSep_congr fun b2 _ => ?_
  rw [pointsTo_half]; refine bigSep_congr fun b3 _ => ?_
  rw [pointsTo_half]; refine bigSep_congr fun b4 _ => ?_
  have e : tq (bitsEquiv (b0, b1, b2, b3, b4)).1 (bitsEquiv (b0, b1, b2, b3, b4)).2 = half (half (half (half (half fullShare b0) b1) b2) b3) b4 := by
    show shr5 (bits (ofBits (b0, b1, b2, b3, b4)).1 (ofBits (b0, b1, b2, b3, b4)).2) = _
    rw [bits_ofBits]; rfl
  rw [e]

end Cert.Proof

end
-- ==== Proof.Collect.lean ====
/-
  The gathering call's task on one tile: two halves of 256 quarter rows for each of its two index lists.
-/
module

public import proofs.«01_k».proof.Proof.Shares
public import Idealize.ShloMosaic.Lib.ValueIdxCore

@[expose] public section

noncomputable section

namespace Cert.Proof.Collect

open Cert.KernelIdeal Cert.KernelIdeal.Gen Cert.Proof
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "xM" => (Memref.whole Cert.KernelIdeal.main_v28_scv : Memref Cert.KernelIdeal.sig Kind.scVector Space.hbm Cert.KernelIdeal.S131072x2x128 EltTy.f32)
local notation "aM" => (Memref.whole Cert.KernelIdeal.main_v37_scv : Memref Cert.KernelIdeal.sig Kind.scVector Space.hbm Cert.KernelIdeal.S16384 EltTy.i32)
local notation "bM" => (Memref.whole Cert.KernelIdeal.main_v46_scv : Memref Cert.KernelIdeal.sig Kind.scVector Space.hbm Cert.KernelIdeal.S16384 EltTy.i32)
local notation "pM" => (Memref.whole Cert.KernelIdeal.main_v47_0_scv : Memref Cert.KernelIdeal.sig Kind.scVector Space.hbm Cert.KernelIdeal.S16384x2x128 EltTy.f32)
local notation "rM" => (Memref.whole Cert.KernelIdeal.main_v47_1_scv : Memref Cert.KernelIdeal.sig Kind.scVector Space.hbm Cert.KernelIdeal.S16384x2x128 EltTy.f32)
local notation "sM" => (Memref.whole Cert.KernelIdeal.cc2_scratch0 : Memref Cert.KernelIdeal.sig Kind.scVector Space.vmem Cert.KernelIdeal.S256 EltTy.i32)
local notation "gM" => (Memref.whole Cert.KernelIdeal.cc2_scratch1 : Memref Cert.KernelIdeal.sig Kind.scVector Space.vmem Cert.KernelIdeal.S256x2x128 EltTy.f32)

variable (d : Dev nD) (L : grid2.Coords)

/-- The tile's thread. -/
abbrev thr : Thread nD τ := V d (c2 L) (j2 L)

abbrev lr0 : Rect S16384 := Rect.unit (s := S16384) (k2_off1 L 0#32) S256.size (k2_off1_inb L 0)
abbrev lr1 : Rect S16384 := Rect.unit (s := S16384) (k2_off1 L 64#32) S256.size (k2_off1_inb L 1)
abbrev or0 : Rect S16384x2x128 := Rect.unit (s := S16384x2x128) (k2_off2 L 0#32) S256x2x128.size (k2_off2_inb L 0)
abbrev or1 : Rect S16384x2x128 := Rect.unit (s := S16384x2x128) (k2_off2 L 64#32) S256x2x128.size (k2_off2_inb L 1)
/-- The list's windows and the results' windows, as the tile addresses them. -/
abbrev a0 : Memref sig .scVector .hbm S256 .i32 := (aM).slice (lr0 L) (fun _ => rfl)
abbrev a1 : Memref sig .scVector .hbm S256 .i32 := (aM).slice (lr1 L) (fun _ => rfl)
abbrev b0 : Memref sig .scVector .hbm S256 .i32 := (bM).slice (lr0 L) (fun _ => rfl)
abbrev b1 : Memref sig .scVector .hbm S256 .i32 := (bM).slice (lr1 L) (fun _ => rfl)
abbrev p0 : Memref sig .scVector .hbm S256x2x128 .f32 := (pM).slice (or0 L) (fun _ => rfl)
abbrev p1 : Memref sig .scVector .hbm S256x2x128 .f32 := (pM).slice (or1 L) (fun _ => rfl)
abbrev r0 : Memref sig .scVector .hbm S256x2x128 .f32 := (rM).slice (or0 L) (fun _ => rfl)
abbrev r1 : Memref sig .scVector .hbm S256x2x128 .f32 := (rM).slice (or1 L) (fun _ => rfl)

abbrev cell (s : DmaSem sig) : GSem nD τ sig := (thr d L, .dma s)

omit [FloatOps F] in
/-- A list window's words, fetched over whatever the list's buffer held, are in range. -/
theorem inb (v : Memref sig .scVector .hbm S256 .i32) (f : Buf (Elt F) (v.view.loc (thr d L))) (h : ∀ x, (v.view.read (Elt F) f x).toNat < 131072) :
    ∀ (pr : Buf (Elt F) ((sM).view.loc (thr d L))) x,
      ((sM).view.read (Elt F) (View.write (Elt F) (sM).view pr (v.view.read (Elt F) f) Finset.univ) x).toNat
        < S131072x2x128.size gathers_S131072x2x128_S256x2x128.axis := by
  intro pr x
  rw [View.write_whole_univ]
  simp only [Memref.view_whole, View.read_whole]
  exact h _

/-- Row `k` of a gathered array: the row of `fx` the list's word `k` names. -/
def gath (fx : S131072x2x128.Idx → Elt F .f32) (f : S16384.Idx → Elt F .i32) : S16384x2x128.Idx → Elt F .f32 := fun k =>
  fx (ValueIdx.ix3 (Fin.ofNat 131072 (BitVec.toNat (f (ValueIdx.ix1 (k 0))))) (k 1) (k 2))

omit [FloatOps F] in
/-- The `n`-th word of a list, by its place. -/
theorem rows_at (rd : S256.Idx → Elt F .i32) (hn : S256.numel = 256) (h : ∀ x, BitVec.toNat (rd x) < 131072) (n : Fin 256) :
    (SparseCore.rows (F := F) rd hn h n).val = BitVec.toNat (rd (ValueIdx.ix1 n)) := by
  have hsym : S256.rowMajor.symm (Fin.cast hn.symm n) = ValueIdx.ix1 n :=
    (S256.rowMajor.symm_apply_eq).2 (Fin.ext (by rw [Shape.rowMajor_val_one]; rfl))
  show BitVec.toNat (rd (S256.rowMajor.symm (Fin.cast hn.symm n))) = _
  rw [hsym]

omit [FloatOps F] in
/-- A gather's source place, coordinate by coordinate. -/
theorem idx_at (hg : S131072x2x128.Gathers 0 S256x2x128) (r : Fin 256 → Fin 131072) (j : S256x2x128.Idx) :
    (hg.idx r j : S131072x2x128.Idx) = ValueIdx.ix3 (r (j 0)) (j 1) (j 2) := by
  funext a
  apply Fin.ext
  match a with
  | 0 => exact congrArg Fin.val (hg.idx_axis r j)
  | 1 => exact hg.idx_of_ne r j 1 (by decide)
  | 2 => exact hg.idx_of_ne r j 2 (by decide)

omit [FloatOps F] in
/-- The row a list's word names, at the window's own lane. -/
theorem gathers_at (fx : S131072x2x128.Idx → Elt F .f32) (rd : S256.Idx → Elt F .i32) (hn : S256.numel = 256)
    (h : ∀ x, BitVec.toNat (rd x) < 131072) (hg : S131072x2x128.Gathers 0 S256x2x128) (j : S256x2x128.Idx) :
    SparseCore.gatherPayload hg (View.read (Elt F) ((xM).slice (Rect.unit (s := S131072x2x128) ![0, 0, 0] S131072x2x128.size inb_S131072x2x128_S131072x2x128_0_0_0) (fun _ => rfl)).view fx)
        (SparseCore.rows rd hn h) j
      = fx (ValueIdx.ix3 (Fin.ofNat 131072 (BitVec.toNat (rd (ValueIdx.ix1 (j 0))))) (j 1) (j 2)) := by
  unfold SparseCore.gatherPayload
  refine (View.read_apply _ _).trans ((cast_eq _ _).trans (congrArg fx ?_))
  have e := idx_at hg (SparseCore.rows (F := F) rd hn h) j
  refine (congrArg _ e).trans ?_
  funext a
  apply Fin.ext
  match a with
  | 0 =>
    show 0 + 1 * (SparseCore.rows (F := F) rd hn h (j 0)).val = BitVec.toNat (rd (ValueIdx.ix1 (j 0))) % 131072
    have := rows_at (F := F) rd hn h (j 0)
    rw [Nat.mod_eq_of_lt (h _)]
    exact (Nat.zero_add _).trans ((Nat.one_mul _).trans this)
  | 1 => exact (Nat.zero_add _).trans (Nat.one_mul _)
  | 2 => exact (Nat.zero_add _).trans (Nat.one_mul _)

omit [FloatOps F] in
/-- A window after its copy lands holds `G` there when the copy's payload is `G`'s window. -/
theorem landed (v : Memref sig .scVector .hbm S256x2x128 .f32) (fo G : Buf (Elt F) (v.view.loc (thr d L))) (pay : S256x2x128.Idx → Elt F .f32) :
    (v.view.loc (thr d L) ↦[v.view.set]{fullShare} v.view.writes (Elt F) fo [⟨Rect.whole S256x2x128, pay⟩] : sProp (MM F))
      ⊢ iprop(⌜∀ j, pay j = v.view.read (Elt F) G j⌝ -∗ (v.view.loc (thr d L) ↦[v.view.set]{fullShare} G)) := by
  iintro H %h
  iapply (Entails.of_eq (pointsTo_congr (ℓ := v.view.loc (thr d L)) (q := fullShare)
    (f := v.view.writes (Elt F) fo [⟨Rect.whole S256x2x128, pay⟩]) (g := G) fun k hk => by
      obtain ⟨j, -, rfl⟩ := Finset.mem_map.mp hk
      have e1 := (congrFun (View.read_writes_whole (Val := Elt F) v.view fo pay) j).trans (h j)
      exact (cast_inj _).mp ((View.read_apply _ _).symm.trans (e1.trans (View.read_apply _ _))))) $$ H

omit [FloatOps F] in
/-- What a copy out of the gather's buffer carries, whatever the scratch buffers held before: the rows the list's window names. -/
theorem carried (l : Memref sig .scVector .hbm S256 .i32)
    (fx : S131072x2x128.Idx → Elt F .f32) (f : Buf (Elt F) (l.view.loc (thr d L)))
    (fg : Buf (Elt F) ((gM).view.loc (thr d L))) (pr : Buf (Elt F) ((sM).view.loc (thr d L)))
    (Lp : List (View.Piece (Elt F) S256x2x128 .f32)) (hn : S256.numel = 256) (hg : S131072x2x128.Gathers 0 S256x2x128)
    (h : ∀ x, BitVec.toNat ((sM).view.read (Elt F) (View.write (Elt F) (sM).view pr (l.view.read (Elt F) f) Finset.univ) x) < 131072) (j : S256x2x128.Idx) :
    (gM).view.read (Elt F) ((gM).view.writes (Elt F) fg (⟨Rect.whole S256x2x128, SparseCore.gatherPayload hg
          (View.read (Elt F) ((xM).slice (Rect.unit (s := S131072x2x128) ![0, 0, 0] S131072x2x128.size inb_S131072x2x128_S131072x2x128_0_0_0) (fun _ => rfl)).view fx)
          (SparseCore.rows ((sM).view.read (Elt F) (View.write (Elt F) (sM).view pr (l.view.read (Elt F) f) Finset.univ)) hn h)⟩ :: Lp)) j
      = fx (ValueIdx.ix3 (Fin.ofNat 131072 (BitVec.toNat (l.view.read (Elt F) f (ValueIdx.ix1 (j 0))))) (j 1) (j 2)) := by
  have e0 : ∀ pay : S256x2x128.Idx → Elt F .f32, (gM).view.read (Elt F)
        ((gM).view.writes (Elt F) fg (⟨Rect.whole S256x2x128, pay⟩ :: Lp)) j = pay j := fun pay =>
    congrFun (View.read_writes_whole (Val := Elt F) (gM).view ((gM).view.writes (Elt F) fg Lp) pay) j
  have e1 := (e0 _).trans (gathers_at fx _ hn h hg j)
  have e2 : ∀ x, (sM).view.read (Elt F) (View.write (Elt F) (sM).view pr (l.view.read (Elt F) f) Finset.univ) x = l.view.read (Elt F) f x := by
    intro x
    rw [View.write_whole_univ]
    simp only [Memref.view_whole, View.read_whole]
  rw [e2] at e1
  exact e1

omit [FloatOps F] in
/-- The gathered array on a result's window, from the list's window of the same half. -/
theorem gath_win (fx : S131072x2x128.Idx → Elt F .f32) (f : S16384.Idx → Elt F .i32) (c : BitVec 32)
    (hi1 : ∀ a, (k2_off1 L c) a + S256.size a ≤ S16384.size a) (hi2 : ∀ a, (k2_off2 L c) a + S256x2x128.size a ≤ S16384x2x128.size a) (j : S256x2x128.Idx) :
    gath fx f ((Rect.unit (s := S16384x2x128) (k2_off2 L c) S256x2x128.size hi2).emb j)
      = fx (ValueIdx.ix3 (Fin.ofNat 131072 (BitVec.toNat (f ((Rect.unit (s := S16384) (k2_off1 L c) S256.size hi1).emb (ValueIdx.ix1 (j 0)))))) (j 1) (j 2)) := by
  unfold gath
  have h0 : (ValueIdx.ix1 ((Rect.unit (s := S16384x2x128) (k2_off2 L c) S256x2x128.size hi2).emb j 0) : S16384.Idx)
      = (Rect.unit (s := S16384) (k2_off1 L c) S256.size hi1).emb (ValueIdx.ix1 (j 0)) := by
    funext a; match a with | 0 => rfl
  have h1 : (Rect.unit (s := S16384x2x128) (k2_off2 L c) S256x2x128.size hi2).emb j 1 = j 1 :=
    Fin.ext ((Nat.zero_add _).trans (Nat.one_mul _))
  have h2 : (Rect.unit (s := S16384x2x128) (k2_off2 L c) S256x2x128.size hi2).emb j 2 = j 2 :=
    Fin.ext ((Nat.zero_add _).trans (Nat.one_mul _))
  rw [h0, h1, h2]

set_option maxHeartbeats 4000000 in
theorem core (q : PosShare TreeShare)
    (fx : Buf (Elt F) ((T d : Thread nD τ).loc main_v28)) (f1 : Buf (Elt F) ((T d : Thread nD τ).loc main_v37)) (f2 : Buf (Elt F) ((T d : Thread nD τ).loc main_v46))
    (fp : Buf (Elt F) ((T d : Thread nD τ).loc main_v47_0)) (fr : Buf (Elt F) ((T d : Thread nD τ).loc main_v47_1))
    (fs : Buf (Elt F) ((sM).view.loc (thr d L))) (fg : Buf (Elt F) ((gM).view.loc (thr d L)))
    (h1 : ∀ x, (f1 x).toNat < 131072) (h2 : ∀ x, (f2 x).toNat < 131072)
    (O : CellTallies nD τ sig (HIx 2)) (W : Waits sig (HIx 2)) (hO : ∀ g, O g none = 0) :
    iprop((levAts (K (F := F)).L (K (F := F)).lev : sProp (MM F))
        ∗ (((xM).view.loc (thr d L) ↦{q} fx) ∗ ((aM).view.loc (thr d L) ↦{q} f1) ∗ ((bM).view.loc (thr d L) ↦{q} f2)
          ∗ ((p0 L).view.loc (thr d L) ↦[(p0 L).view.set]{fullShare} fp) ∗ ((p1 L).view.loc (thr d L) ↦[(p1 L).view.set]{fullShare} fp)
          ∗ ((r0 L).view.loc (thr d L) ↦[(r0 L).view.set]{fullShare} fr) ∗ ((r1 L).view.loc (thr d L) ↦[(r1 L).view.set]{fullShare} fr))
        ∗ (((sM).view.loc (thr d L) ↦{fullShare} fs) ∗ ((gM).view.loc (thr d L) ↦{fullShare} fg))
        ∗ (semVal (cell d L cc2_scratch2.sem) 0 ∗ semVal (cell d L cc2_scoped0.sem) 0 ∗ semVal (cell d L cc2_scoped1.sem) 0
          ∗ semVal (cell d L cc2_scoped2.sem) 0 ∗ semVal (cell d L cc2_scoped3.sem) 0 ∗ semVal (cell d L cc2_scoped4.sem) 0
          ∗ semVal (cell d L cc2_scoped5.sem) 0 ∗ semVal (cell d L cc2_scoped6.sem) 0 ∗ semVal (cell d L cc2_scoped7.sem) 0)
        ∗ owes (thr d L) O W)
      ⊢ wp frame (wpE (defs₀ (F := F)) 𝒱₀ (thr d L) none) Set.univ
          (cc2_k L xM (Memref.isWhole_whole _) aM (Memref.isWhole_whole _) bM (Memref.isWhole_whole _) pM (Memref.isWhole_whole _)
            rM (Memref.isWhole_whole _) sM (Memref.isWhole_whole _) gM (Memref.isWhole_whole _) cc2_scratch2 cc2_scoped0 cc2_scoped1
            cc2_scoped2 cc2_scoped3 cc2_scoped4 cc2_scoped5 cc2_scoped6 cc2_scoped7)
          fun _ => iprop((((xM).view.loc (thr d L) ↦{q} fx) ∗ ((aM).view.loc (thr d L) ↦{q} f1) ∗ ((bM).view.loc (thr d L) ↦{q} f2)
            ∗ ((p0 L).view.loc (thr d L) ↦[(p0 L).view.set]{fullShare} gath fx f1) ∗ ((p1 L).view.loc (thr d L) ↦[(p1 L).view.set]{fullShare} gath fx f1)
            ∗ ((r0 L).view.loc (thr d L) ↦[(r0 L).view.set]{fullShare} gath fx f2) ∗ ((r1 L).view.loc (thr d L) ↦[(r1 L).view.set]{fullShare} gath fx f2))
            ∗ ((∃ f, ((sM).view.loc (thr d L) ↦{fullShare} f)) ∗ (∃ f, ((gM).view.loc (thr d L) ↦{fullShare} f)))
            ∗ (semVal (cell d L cc2_scratch2.sem) 0 ∗ semVal (cell d L cc2_scoped0.sem) 0 ∗ semVal (cell d L cc2_scoped1.sem) 0
              ∗ semVal (cell d L cc2_scoped2.sem) 0 ∗ semVal (cell d L cc2_scoped3.sem) 0 ∗ semVal (cell d L cc2_scoped4.sem) 0
              ∗ semVal (cell d L cc2_scoped5.sem) 0 ∗ semVal (cell d L cc2_scoped6.sem) 0 ∗ semVal (cell d L cc2_scoped7.sem) 0)
            ∗ ∃ W', ⌜∀ p ∈ W', p ∈ W ∨ p.2 = none⌝ ∗ owes (thr d L) O W') := by
  rw [cc2_k_eq_skeleton]; unfold cc2_k_skel
  iintro ⟨#Hlv, ⟨Hx, Ha, Hb, Hp0, Hp1, Hr0, Hr1⟩, ⟨Hs, Hg⟩, ⟨HsemG, Hsem0, Hsem1, Hsem2, Hsem3, Hsem4, Hsem5, Hsem6, Hsem7⟩, HO⟩
  ihave Hmw := (show levAts (K (F := F)).L (K (F := F)).lev ⊢ Transfers.MayWaits (thr d L) (default : HIx 2) O from
    (K (F := F)).mayWaits_none (thr := thr d L) hO) $$ Hlv
  have hin1 := inb d L (a0 L) f1 (fun x => h1 _)
  have hin2 := inb d L (b0 L) f2 (fun x => h2 _)
  have hin3 := inb d L (a1 L) f1 (fun x => h1 _)
  have hin4 := inb d L (b1 L) f2 (fun x => h2 _)
  sl_exec
  sl_step
  have g0 : ∀ f G j, G = gath fx f → (p0 L).view.read (Elt F) G j = fx (ValueIdx.ix3 (Fin.ofNat 131072 (BitVec.toNat ((a0 L).view.read (Elt F) f (ValueIdx.ix1 (j 0))))) (j 1) (j 2)) := by
    intro f G j e
    subst e
    exact gath_win L fx f _ (k2_off1_inb L 0) (k2_off2_inb L 0) j
  have g1 : ∀ f G j, G = gath fx f → (p1 L).view.read (Elt F) G j = fx (ValueIdx.ix3 (Fin.ofNat 131072 (BitVec.toNat ((a1 L).view.read (Elt F) f (ValueIdx.ix1 (j 0))))) (j 1) (j 2)) := by
    intro f G j e
    subst e
    exact gath_win L fx f _ (k2_off1_inb L 1) (k2_off2_inb L 1) j
  isplitl [Hx Ha Hb Hp0 Hp1 Hr0 Hr1]
  · isplitl [Hx]; · iexact Hx
    isplitl [Ha]; · iexact Ha
    isplitl [Hb]; · iexact Hb
    isplitl [Hp0]
    · ihave H' := (landed d L (p0 L) fp (gath fx f1) _) $$ Hp0
      iapply H'
      ipureintro
      intro j
      exact (carried d L (a0 L) fx f1 fg _ _ rfl _ _ j).trans (g0 _ _ j rfl).symm
    isplitl [Hp1]
    · ihave H' := (landed d L (p1 L) fp (gath fx f1) _) $$ Hp1
      iapply H'
      ipureintro
      intro j
      exact (carried d L (a1 L) fx f1 fg _ _ rfl _ _ j).trans (g1 _ _ j rfl).symm
    isplitl [Hr0]
    · ihave H' := (landed d L (r0 L) fr (gath fx f2) _) $$ Hr0
      iapply H'
      ipureintro
      intro j
      exact (carried d L (b0 L) fx f2 fg _ _ rfl _ _ j).trans (g0 _ _ j rfl).symm
    · ihave H' := (landed d L (r1 L) fr (gath fx f2) _) $$ Hr1
      iapply H'
      ipureintro
      intro j
      exact (carried d L (b1 L) fx f2 fg _ _ rfl _ _ j).trans (g1 _ _ j rfl).symm
  isplitl [Hs Hg]
  · isplitl [Hs]
    · iexists _; iexact Hs
    · iexists _; iexact Hg
  isplitl [HsemG Hsem0 Hsem1 Hsem2 Hsem3 Hsem4 Hsem5 Hsem6 Hsem7]
  · isplitl [HsemG]; · iexact HsemG
    isplitl [Hsem0]; · iexact Hsem0
    isplitl [Hsem1]; · iexact Hsem1
    isplitl [Hsem2]; · iexact Hsem2
    isplitl [Hsem3]; · iexact Hsem3
    isplitl [Hsem4]; · iexact Hsem4
    isplitl [Hsem5]; · iexact Hsem5
    isplitl [Hsem6]; · iexact Hsem6
    iexact Hsem7
  iexists _
  isplitr [HO]
  rotate_left
  · iexact HO
  · ipureintro
    intro p hp
    simp only [Finset.mem_insert] at hp
    rcases hp with h | h | h | h | h | h | h | h | h | h | h | h | h
    all_goals first
      | exact Or.inl h
      | exact Or.inr (by rw [h]; rfl)

end Cert.Proof.Collect

end
-- ==== Proof.Dispatch.lean ====
/-
  The scattering call's task on one tile: two halves of 256 quarter rows, each sent to the rows two index lists name.
-/
module

public import proofs.«01_k».proof.Proof.Shares
public import proofs.«01_k».proof.Proof.Collect

@[expose] public section

noncomputable section

namespace Cert.Proof.Dispatch

open Cert.KernelIdeal Cert.KernelIdeal.Gen Cert.Proof
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "xM" => (Memref.whole Cert.KernelIdeal.main_v0_scv : Memref Cert.KernelIdeal.sig Kind.scVector Space.hbm Cert.KernelIdeal.S16384x2x128 EltTy.f32)
local notation "aM" => (Memref.whole Cert.KernelIdeal.main_v9_scv : Memref Cert.KernelIdeal.sig Kind.scVector Space.hbm Cert.KernelIdeal.S16384 EltTy.i32)
local notation "bM" => (Memref.whole Cert.KernelIdeal.main_v18_scv : Memref Cert.KernelIdeal.sig Kind.scVector Space.hbm Cert.KernelIdeal.S16384 EltTy.i32)
local notation "oM" => (Memref.whole Cert.KernelIdeal.main_v19_scv : Memref Cert.KernelIdeal.sig Kind.scVector Space.hbm Cert.KernelIdeal.S131072x2x128 EltTy.f32)
local notation "sM" => (Memref.whole Cert.KernelIdeal.cc0_scratch0 : Memref Cert.KernelIdeal.sig Kind.scVector Space.vmem Cert.KernelIdeal.S256 EltTy.i32)
local notation "tM" => (Memref.whole Cert.KernelIdeal.cc0_scratch1 : Memref Cert.KernelIdeal.sig Kind.scVector Space.vmem Cert.KernelIdeal.S256 EltTy.i32)
local notation "gM" => (Memref.whole Cert.KernelIdeal.cc0_scratch2 : Memref Cert.KernelIdeal.sig Kind.scVector Space.vmem Cert.KernelIdeal.S256x2x128 EltTy.f32)
-- the slots, as the indirect copies address them
local notation "oW" => (Memref.slice (Memref.whole Cert.KernelIdeal.main_v19_scv : Memref Cert.KernelIdeal.sig Kind.scVector Space.hbm Cert.KernelIdeal.S131072x2x128 EltTy.f32) (Rect.unit (s := S131072x2x128) ![0, 0, 0] S131072x2x128.size inb_S131072x2x128_S131072x2x128_0_0_0) (fun _ => rfl) : Memref Cert.KernelIdeal.sig Kind.scVector Space.hbm Cert.KernelIdeal.S131072x2x128 EltTy.f32)

variable (d : Dev nD) (L : grid0.Coords)

/-- The tile's thread. -/
abbrev thr : Thread nD τ := V d (c0 L) (j0 L)

abbrev lr0 : Rect S16384 := Rect.unit (s := S16384) (k0_off1 L 0#32) S256.size (k0_off1_inb L 0)
abbrev lr1 : Rect S16384 := Rect.unit (s := S16384) (k0_off1 L 64#32) S256.size (k0_off1_inb L 1)
abbrev xr0 : Rect S16384x2x128 := Rect.unit (s := S16384x2x128) (k0_off2 L 0#32) S256x2x128.size (k0_off2_inb L 0)
abbrev xr1 : Rect S16384x2x128 := Rect.unit (s := S16384x2x128) (k0_off2 L 64#32) S256x2x128.size (k0_off2_inb L 1)
/-- The lists' windows and the rows' windows, as the tile addresses them. -/
abbrev a0 : Memref sig .scVector .hbm S256 .i32 := (aM).slice (lr0 L) (fun _ => rfl)
abbrev a1 : Memref sig .scVector .hbm S256 .i32 := (aM).slice (lr1 L) (fun _ => rfl)
abbrev b0 : Memref sig .scVector .hbm S256 .i32 := (bM).slice (lr0 L) (fun _ => rfl)
abbrev b1 : Memref sig .scVector .hbm S256 .i32 := (bM).slice (lr1 L) (fun _ => rfl)
abbrev x0 : Memref sig .scVector .hbm S256x2x128 .f32 := (xM).slice (xr0 L) (fun _ => rfl)
abbrev x1 : Memref sig .scVector .hbm S256x2x128 .f32 := (xM).slice (xr1 L) (fun _ => rfl)
abbrev cell (s : DmaSem sig) : GSem nD τ sig := (thr d L, .dma s)

/-- The tile an entry of a list belongs to: tile `w` has the entries `512 w … 512 w + 511`. -/
def tileOf (L : grid0.Coords) : ℕ := 2 * (L 1).val + (L 0).val

/-- Row `n` is one the tile `w`'s entries name. -/
def named (f1 f2 : S16384.Idx → Elt F .i32) (w n : ℕ) : Prop :=
  ∃ x : S16384.Idx, (x 0).val / 512 = w ∧ (BitVec.toNat (f1 x) = n ∨ BitVec.toNat (f2 x) = n)

open scoped Classical in
/-- The slots after every tile's copies: on a row a list's entry names, that entry's row of `fx`; as before elsewhere. -/
def disp (f0 : S131072x2x128.Idx → Elt F .f32) (fx : S16384x2x128.Idx → Elt F .f32) (f1 f2 : S16384.Idx → Elt F .i32) :
    S131072x2x128.Idx → Elt F .f32 := fun k =>
  if h : ∃ t : Fin 16384, BitVec.toNat (f1 (ValueIdx.ix1 t)) = (k 0).val then fx (ValueIdx.ix3 h.choose (k 1) (k 2))
  else if h : ∃ t : Fin 16384, BitVec.toNat (f2 (ValueIdx.ix1 t)) = (k 0).val then fx (ValueIdx.ix3 h.choose (k 1) (k 2))
  else f0 k

/-- What the lists must satisfy: in range, and no row named twice. -/
structure Distinct (f1 f2 : S16384.Idx → Elt F .i32) : Prop where
  lt1 : ∀ x, BitVec.toNat (f1 x) < 131072
  lt2 : ∀ x, BitVec.toNat (f2 x) < 131072
  inj1 : Function.Injective fun x => BitVec.toNat (f1 x)
  inj2 : Function.Injective fun x => BitVec.toNat (f2 x)
  ne : ∀ x y, BitVec.toNat (f1 x) ≠ BitVec.toNat (f2 y)

local notation "hG" => (gathers_S131072x2x128_S256x2x128 : S131072x2x128.Gathers 0 S256x2x128)

/-- An index carried along an equation of shapes has the coordinates it had. -/
theorem idxEquiv_val {s s' : Shape} (h : s = s') (x : s'.Idx) (a : ℕ) (ha : a < s.rank) (ha' : a < s'.rank) :
    ((Shape.idxEquiv h).symm x ⟨a, ha⟩).val = (x ⟨a, ha'⟩).val := by
  subst h; rfl

omit [FloatOps F] in
/-- Row `n` of the rows' buffer, as its copy sends it. -/
theorem payload_at (g : Buf (Elt F) ((gM).view.loc (thr d L))) (n : Fin 256) (x : (S131072x2x128.rowShape (hG).axis).Idx) (k : S131072x2x128.Idx)
    (h1 : (x ⟨1, by decide⟩).val = (k 1).val) (h2 : (x ⟨2, by decide⟩).val = (k 2).val) :
    SparseCore.scatterRowPayload (thr d L) (gM) (hG) g n x = (gM).view.read (Elt F) g (ValueIdx.ix3 n (k 1) (k 2)) := by
  refine (View.read_apply _ _).trans (Eq.trans ?_ (View.read_apply _ _).symm)
  refine (cast_eq _ _).trans (Eq.trans ?_ (cast_eq _ _).symm)
  refine congrArg g ?_
  have e := idxEquiv_val (hG).rowShape_eq x
  funext a
  apply Fin.ext
  match a with
  | 0 =>
    have e0 := e 0 (by decide) (by decide)
    have l0 : (x ⟨0, by decide⟩).val < 1 := (x ⟨0, by decide⟩).isLt
    show n.val + 1 * ((Shape.idxEquiv (hG).rowShape_eq).symm x ⟨0, by decide⟩).val = n.val
    omega
  | 1 =>
    have e0 := e 1 (by decide) (by decide)
    show 0 + 1 * ((Shape.idxEquiv (hG).rowShape_eq).symm x ⟨1, by decide⟩).val = (k 1).val
    omega
  | 2 =>
    have e0 := e 2 (by decide) (by decide)
    show 0 + 1 * ((Shape.idxEquiv (hG).rowShape_eq).symm x ⟨2, by decide⟩).val = (k 2).val
    omega

omit [FloatOps F] in
/-- A row a list's entry names, after the list's copies. -/
theorem scat_hit (rd : S256.Idx → Elt F .i32) (hn : S256.numel = 256) (h : ∀ x, BitVec.toNat (rd x) < S131072x2x128.size (hG).axis)
    (hj : Function.Injective fun x => BitVec.toNat (rd x)) (g : Buf (Elt F) ((gM).view.loc (thr d L))) (fd : Buf (Elt F) ((oW).view.loc (thr d L)))
    (k : S131072x2x128.Idx) (n : Fin 256) (hk : BitVec.toNat (rd (ValueIdx.ix1 n)) = (k 0).val) :
    SparseCore.scatterBuf (thr d L) (oW).view (hG).axis (SparseCore.rows (F := F) rd hn h) (SparseCore.scatterRowPayload (thr d L) (gM) (hG) g) fd k
      = (gM).view.read (Elt F) g (ValueIdx.ix3 n (k 1) (k 2)) := by
  have hr : (SparseCore.rows (F := F) rd hn h n).val = (k 0).val := (Collect.rows_at (F := F) rd hn h n).trans hk
  have hm : k ∈ ((oW).view.slice (S131072x2x128.rowRect (hG).axis (SparseCore.rows (F := F) rd hn h n))).set := by
    rw [View.set_slice]
    refine Finset.mem_map.mpr ⟨k, Rect.mem_set_unit.mpr fun a => ?_, ?_⟩
    · match a with
      | 0 => exact ⟨hr.le, by show (k 0).val < (SparseCore.rows (F := F) rd hn h n).val + 1; omega⟩
      | 1 => exact ⟨Nat.zero_le _, by show (k 1).val < 0 + 2; have h2 : (k 1).val < 2 := (k 1).isLt; omega⟩
      | 2 => exact ⟨Nat.zero_le _, by show (k 2).val < 0 + 128; have h2 : (k 2).val < 128 := (k 2).isLt; omega⟩
    · funext a
      apply Fin.ext
      match a with
      | 0 => exact (Nat.zero_add _).trans (Nat.one_mul _)
      | 1 => exact (Nat.zero_add _).trans (Nat.one_mul _)
      | 2 => exact (Nat.zero_add _).trans (Nat.one_mul _)
  obtain ⟨x, -, hx⟩ := Finset.mem_map.mp hm
  have hinj := SparseCore.rows_injective (F := F) (idx := rd) (hn := hn) (h := h) hj
  refine (SparseCore.scatterBuf_of_mem (thr d L) (oW).view (hG).axis _ hinj _ fd hm).trans ?_
  have e := congrFun (View.read_write_univ (Val := Elt F) (v := (oW).view.slice (S131072x2x128.rowRect (hG).axis (SparseCore.rows (F := F) rd hn h n))) fd
    (SparseCore.scatterRowPayload (thr d L) (gM) (hG) g n)) x
  have e1 := (View.read_apply _ _).symm.trans e
  rw [hx] at e1
  refine Eq.trans ?_ (e1.trans (payload_at d L g n x k ?_ ?_))
  · exact (cast_eq _ _).symm
  · have q : 0 + 1 * (0 + 1 * (x 1).val) = (k 1).val := congrArg (fun i : S131072x2x128.Idx => (i 1).val) hx
    show (x 1).val = (k 1).val
    omega
  · have q : 0 + 1 * (0 + 1 * (x 2).val) = (k 2).val := congrArg (fun i : S131072x2x128.Idx => (i 2).val) hx
    show (x 2).val = (k 2).val
    omega

omit [FloatOps F] in
/-- A row no entry of a list names, after the list's copies. -/
theorem scat_miss (rd : S256.Idx → Elt F .i32) (hn : S256.numel = 256) (h : ∀ x, BitVec.toNat (rd x) < S131072x2x128.size (hG).axis)
    (w : Fin 256 → (S131072x2x128.rowShape (hG).axis).Idx → Elt F .f32) (fd : Buf (Elt F) ((oW).view.loc (thr d L)))
    (k : S131072x2x128.Idx) (hk : ∀ n : Fin 256, BitVec.toNat (rd (ValueIdx.ix1 n)) ≠ (k 0).val) :
    SparseCore.scatterBuf (thr d L) (oW).view (hG).axis (SparseCore.rows (F := F) rd hn h) w fd k = fd k := by
  refine SparseCore.scatterBuf_of_not_mem (thr d L) (oW).view (hG).axis _ w fd fun hm => ?_
  rw [SparseCore.namedRows_eq, Finset.mem_biUnion] at hm
  obtain ⟨n, -, hm⟩ := hm
  obtain ⟨x, -, hx⟩ := Finset.mem_map.mp hm
  refine hk n ((Collect.rows_at (F := F) rd hn h n).symm.trans ?_)
  have q : 0 + 1 * ((SparseCore.rows (F := F) rd hn h n).val + 1 * (x 0).val) = (k 0).val := congrArg (fun i : S131072x2x128.Idx => (i 0).val) hx
  have key : ∀ r y k : ℕ, 0 + 1 * (r + 1 * y) = k → y < 1 → r = k := by intro r y k; omega
  exact key _ _ _ q (x 0).isLt

omit [FloatOps F] in
/-- The slots after the copies, on a row the first list names. -/
theorem disp_fst {f0 : S131072x2x128.Idx → Elt F .f32} {fx : S16384x2x128.Idx → Elt F .f32} {f1 f2 : S16384.Idx → Elt F .i32} (hd : Distinct f1 f2)
    (k : S131072x2x128.Idx) (t : Fin 16384) (h : BitVec.toNat (f1 (ValueIdx.ix1 t)) = (k 0).val) :
    disp f0 fx f1 f2 k = fx (ValueIdx.ix3 t (k 1) (k 2)) := by
  have ex : ∃ t : Fin 16384, BitVec.toNat (f1 (ValueIdx.ix1 t)) = (k 0).val := ⟨t, h⟩
  have e : ex.choose = t := congrFun (hd.inj1 (ex.choose_spec.trans h.symm) : (ValueIdx.ix1 ex.choose : S16384.Idx) = ValueIdx.ix1 t) 0
  unfold disp
  rw [dif_pos ex, e]

omit [FloatOps F] in
/-- The slots after the copies, on a row the second list names. -/
theorem disp_snd {f0 : S131072x2x128.Idx → Elt F .f32} {fx : S16384x2x128.Idx → Elt F .f32} {f1 f2 : S16384.Idx → Elt F .i32} (hd : Distinct f1 f2)
    (k : S131072x2x128.Idx) (t : Fin 16384) (h : BitVec.toNat (f2 (ValueIdx.ix1 t)) = (k 0).val) :
    disp f0 fx f1 f2 k = fx (ValueIdx.ix3 t (k 1) (k 2)) := by
  have nx : ¬ ∃ t : Fin 16384, BitVec.toNat (f1 (ValueIdx.ix1 t)) = (k 0).val := fun ⟨t', h'⟩ => hd.ne _ _ (h'.trans h.symm)
  have ex : ∃ t : Fin 16384, BitVec.toNat (f2 (ValueIdx.ix1 t)) = (k 0).val := ⟨t, h⟩
  have e : ex.choose = t := congrFun (hd.inj2 (ex.choose_spec.trans h.symm) : (ValueIdx.ix1 ex.choose : S16384.Idx) = ValueIdx.ix1 t) 0
  unfold disp
  rw [dif_neg nx, dif_pos ex, e]

omit [FloatOps F] in
/-- The slots after the copies, on a row neither list names. -/
theorem disp_none {f0 : S131072x2x128.Idx → Elt F .f32} {fx : S16384x2x128.Idx → Elt F .f32} {f1 f2 : S16384.Idx → Elt F .i32}
    (k : S131072x2x128.Idx) (h1 : ∀ t, BitVec.toNat (f1 (ValueIdx.ix1 t)) ≠ (k 0).val) (h2 : ∀ t, BitVec.toNat (f2 (ValueIdx.ix1 t)) ≠ (k 0).val) :
    disp f0 fx f1 f2 k = f0 k := by
  unfold disp
  rw [dif_neg fun ⟨t, h⟩ => h1 t h, dif_neg fun ⟨t, h⟩ => h2 t h]

/-- Entry `n` of the tile's first and of its second half. -/
theorem lr0_at (n : Fin 256) : ((lr0 L).emb (ValueIdx.ix1 n) 0).val = 512 * tileOf L + n.val := by
  have e : (k0_off1 L 0#32) = ![1024 * (L 1).val + 512 * (L 0).val + 256 * 0] := k0_off1_eq L 0
  show (k0_off1 L 0#32) 0 + 1 * n.val = 512 * (2 * (L 1).val + (L 0).val) + n.val
  rw [e]
  show 1024 * (L 1).val + 512 * (L 0).val + 256 * 0 + 1 * n.val = _
  omega

theorem lr1_at (n : Fin 256) : ((lr1 L).emb (ValueIdx.ix1 n) 0).val = 512 * tileOf L + 256 + n.val := by
  have e : (k0_off1 L 64#32) = ![1024 * (L 1).val + 512 * (L 0).val + 256 * 1] := k0_off1_eq L 1
  show (k0_off1 L 64#32) 0 + 1 * n.val = 512 * (2 * (L 1).val + (L 0).val) + 256 + n.val
  rw [e]
  show 1024 * (L 1).val + 512 * (L 0).val + 256 * 1 + 1 * n.val = _
  omega

omit [FloatOps F] in
/-- The tile's rows of the slots, after its four copies: what all the copies together leave there. -/
theorem layers {f1 f2 : S16384.Idx → Elt F .i32} (hd : Distinct f1 f2) (fx : S16384x2x128.Idx → Elt F .f32)
    (fo : Buf (Elt F) ((oW).view.loc (thr d L))) (g0 g1 : Buf (Elt F) ((gM).view.loc (thr d L)))
    (hg0 : (gM).view.read (Elt F) g0 = fun j => fx ((xr0 L).emb j)) (hg1 : (gM).view.read (Elt F) g1 = fun j => fx ((xr1 L).emb j))
    (A0 B0 A1 B1 : S256.Idx → Elt F .i32) (hn : S256.numel = 256)
    (eA0 : A0 = fun x => f1 ((lr0 L).emb x)) (eB0 : B0 = fun x => f2 ((lr0 L).emb x)) (eA1 : A1 = fun x => f1 ((lr1 L).emb x)) (eB1 : B1 = fun x => f2 ((lr1 L).emb x))
    (iA0 : ∀ x, BitVec.toNat (A0 x) < S131072x2x128.size (hG).axis) (iB0 : ∀ x, BitVec.toNat (B0 x) < S131072x2x128.size (hG).axis)
    (iA1 : ∀ x, BitVec.toNat (A1 x) < S131072x2x128.size (hG).axis) (iB1 : ∀ x, BitVec.toNat (B1 x) < S131072x2x128.size (hG).axis)
    (k : S131072x2x128.Idx) (hk : named f1 f2 (tileOf L) (k 0).val) :
    SparseCore.scatterBuf (thr d L) (oW).view (hG).axis (SparseCore.rows (F := F) B1 hn iB1) (SparseCore.scatterRowPayload (thr d L) (gM) (hG) g1)
      (SparseCore.scatterBuf (thr d L) (oW).view (hG).axis (SparseCore.rows (F := F) A1 hn iA1) (SparseCore.scatterRowPayload (thr d L) (gM) (hG) g1)
        (SparseCore.scatterBuf (thr d L) (oW).view (hG).axis (SparseCore.rows (F := F) B0 hn iB0) (SparseCore.scatterRowPayload (thr d L) (gM) (hG) g0)
          (SparseCore.scatterBuf (thr d L) (oW).view (hG).axis (SparseCore.rows (F := F) A0 hn iA0) (SparseCore.scatterRowPayload (thr d L) (gM) (hG) g0) fo))) k
      = disp fo fx f1 f2 k := by
  subst eA0 eB0 eA1 eB1
  obtain ⟨x, hw, hx⟩ := hk
  have hlt : (x 0).val < 16384 := (x 0).isLt
  have ex1 : (ValueIdx.ix1 (x 0) : S16384.Idx) = x := by funext a; match a with | 0 => rfl
  -- an entry of the other half, or of the other list, is another row
  have far0 : (x 0).val % 512 < 256 → ∀ m : Fin 256, (lr1 L).emb (ValueIdx.ix1 m) ≠ x := fun hh m e => by
    have := congrArg (fun i : S16384.Idx => (i 0).val) e
    have h1 := lr1_at L m
    have hm := m.isLt
    have e' : ((lr1 L).emb (ValueIdx.ix1 m) 0).val = (x 0).val := this
    omega
  have far1 : ¬ (x 0).val % 512 < 256 → ∀ m : Fin 256, (lr0 L).emb (ValueIdx.ix1 m) ≠ x := fun hh m e => by
    have := congrArg (fun i : S16384.Idx => (i 0).val) e
    have h1 := lr0_at L m
    have hm := m.isLt
    have e' : ((lr0 L).emb (ValueIdx.ix1 m) 0).val = (x 0).val := this
    omega
  have at0 : ∀ hh : (x 0).val % 512 < 256, (lr0 L).emb (ValueIdx.ix1 ⟨(x 0).val % 512, hh⟩) = x := fun hh => by
    funext a; match a with
    | 0 => exact Fin.ext ((lr0_at L _).trans (by show 512 * tileOf L + (x 0).val % 512 = (x 0).val; omega))
  have at1 : ∀ hh : ¬ (x 0).val % 512 < 256, (lr1 L).emb (ValueIdx.ix1 ⟨(x 0).val % 512 - 256, by omega⟩) = x := fun hh => by
    funext a; match a with
    | 0 => exact Fin.ext ((lr1_at L _).trans (by show 512 * tileOf L + 256 + ((x 0).val % 512 - 256) = (x 0).val; omega))
  have row0 : ∀ (n : Fin 256), (lr0 L).emb (ValueIdx.ix1 n) = x → (gM).view.read (Elt F) g0 (ValueIdx.ix3 n (k 1) (k 2)) = fx (ValueIdx.ix3 (x 0) (k 1) (k 2)) := fun n e => by
    rw [hg0]
    refine congrArg fx ?_
    funext a
    apply Fin.ext
    match a with
    | 0 => exact congrArg (fun i : S16384.Idx => (i 0).val) e
    | 1 => exact (Nat.zero_add _).trans (Nat.one_mul _)
    | 2 => exact (Nat.zero_add _).trans (Nat.one_mul _)
  have row1 : ∀ (n : Fin 256), (lr1 L).emb (ValueIdx.ix1 n) = x → (gM).view.read (Elt F) g1 (ValueIdx.ix3 n (k 1) (k 2)) = fx (ValueIdx.ix3 (x 0) (k 1) (k 2)) := fun n e => by
    rw [hg1]
    refine congrArg fx ?_
    funext a
    apply Fin.ext
    match a with
    | 0 => exact congrArg (fun i : S16384.Idx => (i 0).val) e
    | 1 => exact (Nat.zero_add _).trans (Nat.one_mul _)
    | 2 => exact (Nat.zero_add _).trans (Nat.one_mul _)
  rcases hx with hx | hx
  · rw [disp_fst hd k (x 0) (by rw [ex1]; exact hx)]
    by_cases hh : (x 0).val % 512 < 256
    · refine (scat_miss d L _ hn iB1 _ _ k fun m hm => hd.ne _ _ (hx.trans hm.symm)).trans ?_
      refine (scat_miss d L _ hn iA1 _ _ k fun m hm => far0 hh m (hd.inj1 (hm.trans hx.symm))).trans ?_
      refine (scat_miss d L _ hn iB0 _ _ k fun m hm => hd.ne _ _ (hx.trans hm.symm)).trans ?_
      refine (scat_hit d L _ hn iA0 (hd.inj1.comp (lr0 L).emb.injective) g0 fo k ⟨(x 0).val % 512, hh⟩ ?_).trans (row0 _ (at0 hh))
      rw [at0 hh]; exact hx
    · refine (scat_miss d L _ hn iB1 _ _ k fun m hm => hd.ne _ _ (hx.trans hm.symm)).trans ?_
      refine (scat_hit d L _ hn iA1 (hd.inj1.comp (lr1 L).emb.injective) g1 _ k ⟨(x 0).val % 512 - 256, by omega⟩ ?_).trans (row1 _ (at1 hh))
      rw [at1 hh]; exact hx
  · rw [disp_snd hd k (x 0) (by rw [ex1]; exact hx)]
    by_cases hh : (x 0).val % 512 < 256
    · refine (scat_miss d L _ hn iB1 _ _ k fun m hm => far0 hh m (hd.inj2 (hm.trans hx.symm))).trans ?_
      refine (scat_miss d L _ hn iA1 _ _ k fun m hm => hd.ne _ _ (hm.trans hx.symm)).trans ?_
      refine (scat_hit d L _ hn iB0 (hd.inj2.comp (lr0 L).emb.injective) g0 _ k ⟨(x 0).val % 512, hh⟩ ?_).trans (row0 _ (at0 hh))
      rw [at0 hh]; exact hx
    · refine (scat_hit d L _ hn iB1 (hd.inj2.comp (lr1 L).emb.injective) g1 _ k ⟨(x 0).val % 512 - 256, by omega⟩ ?_).trans (row1 _ (at1 hh))
      rw [at1 hh]; exact hx

omit [FloatOps F] in
/-- The tile's rows of the slots hold `G` when their contents agree with it on the rows the tile names. -/
theorem settled (f1 f2 : S16384.Idx → Elt F .i32) (fin G : Buf (Elt F) ((oW).view.loc (thr d L))) :
    ((oW).view.loc (thr d L) ↦[SparseCore.rowsWhere (oW).view ⟨0, by decide⟩ (named f1 f2 (tileOf L))]{fullShare} fin : sProp (MM F))
      ⊢ iprop(⌜∀ k : S131072x2x128.Idx, named f1 f2 (tileOf L) (k 0).val → fin k = G k⌝
        -∗ ((oW).view.loc (thr d L) ↦[SparseCore.rowsWhere (oW).view ⟨0, by decide⟩ (named f1 f2 (tileOf L))]{fullShare} G)) := by
  iintro H %h
  have hc : ∀ k ∈ SparseCore.rowsWhere (oW).view ⟨0, by decide⟩ (named f1 f2 (tileOf L)), fin k = G k := fun k hk => by
    rw [SparseCore.mem_rowsWhere] at hk
    obtain ⟨i, hi, hm⟩ := hk
    obtain ⟨x, -, hx⟩ := Finset.mem_map.mp hm
    have q : 0 + 1 * (i.val + 1 * (x 0).val) = ((k : S131072x2x128.Idx) 0).val := congrArg (fun i : S131072x2x128.Idx => (i 0).val) hx
    have key : ∀ r y k : ℕ, 0 + 1 * (r + 1 * y) = k → y < 1 → r = k := by intro r y k; omega
    have e : i.val = ((k : S131072x2x128.Idx) 0).val := key i.val (x 0).val ((k : S131072x2x128.Idx) 0).val q (x 0).isLt
    exact h k (Eq.mp (congrArg (named f1 f2 (tileOf L)) e) hi)
  have he := pointsTo_congr (Ix := HIx 2) (Name := ℕ) (U := UU) (Lvl := ℕ) (ℓ := (oW).view.loc (thr d L)) (q := fullShare) hc
  iapply (Entails.of_eq he) $$ H

omit [FloatOps F] in
/-- The rows' buffer in two halves, one for each of the two copies out of it that are in flight together. -/
theorem split2 (f : Buf (Elt F) ((gM).view.loc (thr d L))) :
    ((gM).view.loc (thr d L) ↦{fullShare} f : sProp (MM F))
      ⊣⊢ iprop(((gM).view.loc (thr d L) ↦{fullShare.left} f) ∗ ((gM).view.loc (thr d L) ↦{fullShare.right} f)) :=
  pointsTo_share (PosShare.mem_left_op_right fullShare)

set_option maxHeartbeats 8000000 in
/-- One tile's task: every row its entries name holds that entry's row. -/
theorem core (q : PosShare TreeShare)
    (fx : Buf (Elt F) ((T d : Thread nD τ).loc main_v0)) (f1 : Buf (Elt F) ((T d : Thread nD τ).loc main_v9)) (f2 : Buf (Elt F) ((T d : Thread nD τ).loc main_v18))
    (fo : Buf (Elt F) ((T d : Thread nD τ).loc main_v19))
    (fs : Buf (Elt F) ((sM).view.loc (thr d L))) (ft : Buf (Elt F) ((tM).view.loc (thr d L))) (fg : Buf (Elt F) ((gM).view.loc (thr d L)))
    (hd : Distinct f1 f2)
    (O : CellTallies nD τ sig (HIx 2)) (W : Waits sig (HIx 2)) (hO : ∀ g, O g none = 0) :
    iprop((levAts (K (F := F)).L (K (F := F)).lev : sProp (MM F))
        ∗ (((xM).view.loc (thr d L) ↦{q} fx) ∗ ((aM).view.loc (thr d L) ↦{q} f1) ∗ ((bM).view.loc (thr d L) ↦{q} f2)
          ∗ ((oW).view.loc (thr d L) ↦[SparseCore.rowsWhere (oW).view ⟨0, by decide⟩ (named f1 f2 (tileOf L))]{fullShare} fo))
        ∗ (((sM).view.loc (thr d L) ↦{fullShare} fs) ∗ ((tM).view.loc (thr d L) ↦{fullShare} ft) ∗ ((gM).view.loc (thr d L) ↦{fullShare} fg))
        ∗ (semVal (cell d L cc0_scratch3.sem) 0 ∗ semVal (cell d L cc0_scratch4.sem) 0 ∗ semVal (cell d L cc0_scoped0.sem) 0 ∗ semVal (cell d L cc0_scoped1.sem) 0
          ∗ semVal (cell d L cc0_scoped2.sem) 0 ∗ semVal (cell d L cc0_scoped3.sem) 0 ∗ semVal (cell d L cc0_scoped4.sem) 0
          ∗ semVal (cell d L cc0_scoped5.sem) 0)
        ∗ owes (thr d L) O W)
      ⊢ wp frame (wpE (defs₀ (F := F)) 𝒱₀ (thr d L) none) Set.univ
          (cc0_k L xM (Memref.isWhole_whole _) aM (Memref.isWhole_whole _) bM (Memref.isWhole_whole _) oM (Memref.isWhole_whole _)
            sM (Memref.isWhole_whole _) tM (Memref.isWhole_whole _) gM (Memref.isWhole_whole _) cc0_scratch3 cc0_scratch4 cc0_scoped0 cc0_scoped1
            cc0_scoped2 cc0_scoped3 cc0_scoped4 cc0_scoped5)
          fun _ => iprop((((xM).view.loc (thr d L) ↦{q} fx) ∗ ((aM).view.loc (thr d L) ↦{q} f1) ∗ ((bM).view.loc (thr d L) ↦{q} f2)
            ∗ ((oW).view.loc (thr d L) ↦[SparseCore.rowsWhere (oW).view ⟨0, by decide⟩ (named f1 f2 (tileOf L))]{fullShare} disp fo fx f1 f2))
            ∗ ((∃ f, ((sM).view.loc (thr d L) ↦{fullShare} f)) ∗ (∃ f, ((tM).view.loc (thr d L) ↦{fullShare} f)) ∗ (∃ f, ((gM).view.loc (thr d L) ↦{fullShare} f)))
            ∗ (semVal (cell d L cc0_scratch3.sem) 0 ∗ semVal (cell d L cc0_scratch4.sem) 0 ∗ semVal (cell d L cc0_scoped0.sem) 0 ∗ semVal (cell d L cc0_scoped1.sem) 0
              ∗ semVal (cell d L cc0_scoped2.sem) 0 ∗ semVal (cell d L cc0_scoped3.sem) 0 ∗ semVal (cell d L cc0_scoped4.sem) 0
              ∗ semVal (cell d L cc0_scoped5.sem) 0)
            ∗ ∃ W', ⌜∀ p ∈ W', p ∈ W ∨ p.2 = none⌝ ∗ owes (thr d L) O W') := by
  rw [cc0_k_eq_skeleton]; unfold cc0_k_skel
  iintro ⟨#Hlv, ⟨Hx, Ha, Hb, Ho⟩, ⟨Hs, Ht, Hg⟩, ⟨HsemA, HsemB, Hsem0, Hsem1, Hsem2, Hsem3, Hsem4, Hsem5⟩, HO⟩
  ihave Hmw := (show levAts (K (F := F)).L (K (F := F)).lev ⊢ Transfers.MayWaits (thr d L) (default : HIx 2) O from
    (K (F := F)).mayWaits_none (thr := thr d L) hO) $$ Hlv
  have w1 : Function.Injective (lr0 L).emb := (lr0 L).emb.injective
  have w2 : Function.Injective (lr1 L).emb := (lr1 L).emb.injective
  have m0 : ∀ x, ((lr0 L).emb x 0).val / 512 = tileOf L := fun x => by
    have e : (k0_off1 L 0#32) = ![1024 * (L 1).val + 512 * (L 0).val + 256 * 0] := k0_off1_eq L 0
    show ((k0_off1 L 0#32) 0 + 1 * (x 0).val) / 512 = _
    rw [e]
    have := (x 0).isLt
    show (1024 * (L 1).val + 512 * (L 0).val + 256 * 0 + 1 * (x 0).val) / 512 = 2 * (L 1).val + (L 0).val
    have h256 : (x 0).val < 256 := this
    omega
  have m1 : ∀ x, ((lr1 L).emb x 0).val / 512 = tileOf L := fun x => by
    have e : (k0_off1 L 64#32) = ![1024 * (L 1).val + 512 * (L 0).val + 256 * 1] := k0_off1_eq L 1
    show ((k0_off1 L 64#32) 0 + 1 * (x 0).val) / 512 = _
    rw [e]
    have := (x 0).isLt
    show (1024 * (L 1).val + 512 * (L 0).val + 256 * 1 + 1 * (x 0).val) / 512 = 2 * (L 1).val + (L 0).val
    have h256 : (x 0).val < 256 := this
    omega
  -- the four fetched lists, whatever the scratch buffers held
  have eA0 : ∀ pr, (sM).view.read (Elt F) (View.write (Elt F) (sM).view pr ((a0 L).view.read (Elt F) f1) Finset.univ) = fun x => f1 ((lr0 L).emb x) := fun pr => View.read_write_univ _ _
  have eA1 : ∀ pr, (sM).view.read (Elt F) (View.write (Elt F) (sM).view pr ((a1 L).view.read (Elt F) f1) Finset.univ) = fun x => f1 ((lr1 L).emb x) := fun pr => View.read_write_univ _ _
  have eB0 : ∀ pr, (tM).view.read (Elt F) (View.write (Elt F) (tM).view pr ((b0 L).view.read (Elt F) f2) Finset.univ) = fun x => f2 ((lr0 L).emb x) := fun pr => View.read_write_univ _ _
  have eB1 : ∀ pr, (tM).view.read (Elt F) (View.write (Elt F) (tM).view pr ((b1 L).view.read (Elt F) f2) Finset.univ) = fun x => f2 ((lr1 L).emb x) := fun pr => View.read_write_univ _ _
  have iA0 : ∀ pr x, ((sM).view.read (Elt F) (View.write (Elt F) (sM).view pr ((a0 L).view.read (Elt F) f1) Finset.univ) x).toNat < S131072x2x128.size gathers_S131072x2x128_S256x2x128.axis := fun pr x => by rw [eA0]; exact hd.lt1 _
  have iA1 : ∀ pr x, ((sM).view.read (Elt F) (View.write (Elt F) (sM).view pr ((a1 L).view.read (Elt F) f1) Finset.univ) x).toNat < S131072x2x128.size gathers_S131072x2x128_S256x2x128.axis := fun pr x => by rw [eA1]; exact hd.lt1 _
  have iB0 : ∀ pr x, ((tM).view.read (Elt F) (View.write (Elt F) (tM).view pr ((b0 L).view.read (Elt F) f2) Finset.univ) x).toNat < S131072x2x128.size gathers_S131072x2x128_S256x2x128.axis := fun pr x => by rw [eB0]; exact hd.lt2 _
  have iB1 : ∀ pr x, ((tM).view.read (Elt F) (View.write (Elt F) (tM).view pr ((b1 L).view.read (Elt F) f2) Finset.univ) x).toNat < S131072x2x128.size gathers_S131072x2x128_S256x2x128.axis := fun pr x => by rw [eB1]; exact hd.lt2 _
  have jA0 : ∀ pr, Function.Injective fun x => ((sM).view.read (Elt F) (View.write (Elt F) (sM).view pr ((a0 L).view.read (Elt F) f1) Finset.univ) x).toNat := fun pr => by rw [eA0]; exact hd.inj1.comp w1
  have jA1 : ∀ pr, Function.Injective fun x => ((sM).view.read (Elt F) (View.write (Elt F) (sM).view pr ((a1 L).view.read (Elt F) f1) Finset.univ) x).toNat := fun pr => by rw [eA1]; exact hd.inj1.comp w2
  have jB0 : ∀ pr, Function.Injective fun x => ((tM).view.read (Elt F) (View.write (Elt F) (tM).view pr ((b0 L).view.read (Elt F) f2) Finset.univ) x).toNat := fun pr => by rw [eB0]; exact hd.inj2.comp w1
  have jB1 : ∀ pr, Function.Injective fun x => ((tM).view.read (Elt F) (View.write (Elt F) (tM).view pr ((b1 L).view.read (Elt F) f2) Finset.univ) x).toNat := fun pr => by rw [eB1]; exact hd.inj2.comp w2
  have oA0 : ∀ pr x, named f1 f2 (tileOf L) ((sM).view.read (Elt F) (View.write (Elt F) (sM).view pr ((a0 L).view.read (Elt F) f1) Finset.univ) x).toNat := fun pr x => by rw [eA0]; exact ⟨_, m0 x, Or.inl rfl⟩
  have oA1 : ∀ pr x, named f1 f2 (tileOf L) ((sM).view.read (Elt F) (View.write (Elt F) (sM).view pr ((a1 L).view.read (Elt F) f1) Finset.univ) x).toNat := fun pr x => by rw [eA1]; exact ⟨_, m1 x, Or.inl rfl⟩
  have oB0 : ∀ pr x, named f1 f2 (tileOf L) ((tM).view.read (Elt F) (View.write (Elt F) (tM).view pr ((b0 L).view.read (Elt F) f2) Finset.univ) x).toNat := fun pr x => by rw [eB0]; exact ⟨_, m0 x, Or.inr rfl⟩
  have oB1 : ∀ pr x, named f1 f2 (tileOf L) ((tM).view.read (Elt F) (View.write (Elt F) (tM).view pr ((b1 L).view.read (Elt F) f2) Finset.univ) x).toNat := fun pr x => by rw [eB1]; exact ⟨_, m1 x, Or.inr rfl⟩
  have n0 : ∀ pr pr' x y, ((sM).view.read (Elt F) (View.write (Elt F) (sM).view pr ((a0 L).view.read (Elt F) f1) Finset.univ) x).toNat
      ≠ ((tM).view.read (Elt F) (View.write (Elt F) (tM).view pr' ((b0 L).view.read (Elt F) f2) Finset.univ) y).toNat := fun pr pr' x y => by rw [eA0, eB0]; exact hd.ne _ _
  have n1 : ∀ pr pr' x y, ((sM).view.read (Elt F) (View.write (Elt F) (sM).view pr ((a1 L).view.read (Elt F) f1) Finset.univ) x).toNat
      ≠ ((tM).view.read (Elt F) (View.write (Elt F) (tM).view pr' ((b1 L).view.read (Elt F) f2) Finset.univ) y).toNat := fun pr pr' x y => by rw [eA1, eB1]; exact hd.ne _ _
  set_option sl_exec.maxSteps 7 in sl_exec
  ihave Hg' := (split2 d L _).1 $$ Hg
  icases Hg' with ⟨Hg, Hg2⟩
  sl_exec
  ihave Hg := (split2 d L _).2 $$ [Hg Hg2]
  · isplitl [Hg]; · iexact Hg
    iexact Hg2
  set_option sl_exec.maxSteps 2 in sl_exec
  ihave Hg' := (split2 d L _).1 $$ Hg
  icases Hg' with ⟨Hg, Hg2⟩
  sl_exec
  ihave Hg := (split2 d L _).2 $$ [Hg Hg2]
  · isplitl [Hg]; · iexact Hg
    iexact Hg2
  sl_step
  isplitl [Hx Ha Hb Ho]
  · isplitl [Hx]; · iexact Hx
    isplitl [Ha]; · iexact Ha
    isplitl [Hb]; · iexact Hb
    ihave H' := (settled d L f1 f2 _ (disp fo fx f1 f2)) $$ Ho
    iapply H'
    ipureintro
    intro k hk
    exact layers d L hd fx fo _ _ (View.read_write_univ _ _) (View.read_write_univ _ _) _ _ _ _ rfl
      (eA0 _) (eB0 _) (eA1 _) (eB1 _) _ _ _ _ k hk
  isplitl [Hs Ht Hg]
  · isplitl [Hs]
    · iexists _; iexact Hs
    isplitl [Ht]
    · iexists _; iexact Ht
    · iexists _; iexact Hg
  isplitl [HsemA HsemB Hsem0 Hsem1 Hsem2 Hsem3 Hsem4 Hsem5]
  · isplitl [HsemA]; · iexact HsemA
    isplitl [HsemB]; · iexact HsemB
    isplitl [Hsem0]; · iexact Hsem0
    isplitl [Hsem1]; · iexact Hsem1
    isplitl [Hsem2]; · iexact Hsem2
    isplitl [Hsem3]; · iexact Hsem3
    isplitl [Hsem4]; · iexact Hsem4
    iexact Hsem5
  iexists _
  isplitr [HO]
  rotate_left
  · iexact HO
  · ipureintro
    intro p hp
    simp only [Finset.mem_insert] at hp
    rcases hp with h | h | h | h | h | h | h | h | h | h | h
    all_goals first
      | exact Or.inl h
      | exact Or.inr (by rw [h]; rfl)

end Cert.Proof.Dispatch

end
-- ==== Proof.Tiles.lean ====
/-
  The two SparseCore calls' tiles as the launch runs them: what a call hands a tile and takes back, the tile's scratch and
  semaphores found among what the launch leaves it, and the launch's obligation from the two tile proofs.
-/
module

public import proofs.«01_k».proof.Proof.Dispatch

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The contents of a device's buffers. -/
abbrev Vals (F : FTy → Type) : Type := Valuation τ sig (Elt F)

/-- The contents of one buffer the TensorCore names. -/
abbrev at' (d : Dev nD) (W : Vals F) (b : Ref sig .tc) : Buf (Elt F) ((T d : Thread nD τ).loc b) := W ((.tc : Proc τ).devRef b)

/-! ## A tile's own storage -/

omit [FloatOps F] in
/-- The named semaphores among a tile's own, the rest set aside. -/
theorem ownSems0_take (thr : Thread nD τ) (l : List (DmaSem sig)) (hn : l.Nodup) (hs : ∀ s ∈ l, (SemLoc.dma s : SemLoc sig).isScoped thr.2.kind = true) :
    ∃ R : sProp (MM F), (ownSems0 thr : sProp (MM F)) = l.foldr (fun s Q => iprop(semVal ((thr, SemLoc.dma s) : GSem nD τ sig) 0 ∗ Q)) R := by
  refine ⟨bigSep (ownCells thr \ (l.map fun s => ((thr, SemLoc.dma s) : GSem nD τ sig)).toFinset) fun g => semVal g 0, ?_⟩
  unfold SparseCore.Cfg.ownSems0
  rw [bigSep_take _ (l.map fun s => ((thr, SemLoc.dma s) : GSem nD τ sig)), List.foldr_map]
  · exact hn.map fun a b e => by simpa using e
  · intro a ha
    obtain ⟨s, hsl, rfl⟩ := List.mem_map.mp ha
    exact mem_ownCells.mpr ⟨rfl, hs s hsl⟩

omit [FloatOps F] in
/-- The named buffers among a tile's own, the rest set aside. -/
theorem ownBufs_take (d : Dev nD) (c : Fin τ.nSC) (j : Fin τ.nSub) (l : List (Ref sig .scVector)) (hn : l.Nodup)
    (hs : ∀ b ∈ l, ((Proc.scVector c j).devRef b : DevRef τ sig).owner = .proc (Proc.scVector c j)) :
    ∃ R : sProp (MM F), (ownBufs (V d c j : Thread nD τ) : sProp (MM F))
      = l.foldr (fun b Q => iprop((∃ f, (V d c j : Thread nD τ).loc b ↦{fullShare} f) ∗ Q)) R := by
  refine ⟨bigSep (ownRefs (τ := τ) (Proc.scVector c j) \ (l.map fun b => ((Proc.scVector c j).devRef b : DevRef τ sig)).toFinset)
    fun b => iprop(∃ f, ((d, b) : Loc nD τ sig) ↦{fullShare} f), ?_⟩
  unfold SparseCore.Cfg.ownBufs
  refine (bigSep_take _ (l.map fun b => ((Proc.scVector c j).devRef b : DevRef τ sig)) _ (hn.map (Proc.devRef_injective _)) ?_).trans ?_
  · intro a ha
    obtain ⟨s, hsl, rfl⟩ := List.mem_map.mp ha
    exact SparseCore.Cfg.mem_ownRefs_of_owner (hs s hsl)
  · rw [List.foldr_map]

omit [FloatOps F] in
/-- Waits recorded at no call's index are among those the launch admits of a task. -/
theorem obl_post {thr : Thread nD τ} {A B C : sProp (MM F)} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'; isplitr
  · ipureintro; exact fun p hp => (hW p hp).imp_right Or.inl
  iexact HO

/-! ## The scattering call -/

namespace Dispatch

local notation "xD" => (Memref.whole Cert.KernelIdeal.main_v0_scv : Memref Cert.KernelIdeal.sig Kind.scVector Space.hbm Cert.KernelIdeal.S16384x2x128 EltTy.f32)
local notation "aD" => (Memref.whole Cert.KernelIdeal.main_v9_scv : Memref Cert.KernelIdeal.sig Kind.scVector Space.hbm Cert.KernelIdeal.S16384 EltTy.i32)
local notation "bD" => (Memref.whole Cert.KernelIdeal.main_v18_scv : Memref Cert.KernelIdeal.sig Kind.scVector Space.hbm Cert.KernelIdeal.S16384 EltTy.i32)
local notation "oD" => (Memref.whole Cert.KernelIdeal.main_v19_scv : Memref Cert.KernelIdeal.sig Kind.scVector Space.hbm Cert.KernelIdeal.S131072x2x128 EltTy.f32)
local notation "sD" => (Memref.whole Cert.KernelIdeal.cc0_scratch0 : Memref Cert.KernelIdeal.sig Kind.scVector Space.vmem Cert.KernelIdeal.S256 EltTy.i32)
local notation "tD" => (Memref.whole Cert.KernelIdeal.cc0_scratch1 : Memref Cert.KernelIdeal.sig Kind.scVector Space.vmem Cert.KernelIdeal.S256 EltTy.i32)
local notation "gD" => (Memref.whole Cert.KernelIdeal.cc0_scratch2 : Memref Cert.KernelIdeal.sig Kind.scVector Space.vmem Cert.KernelIdeal.S256x2x128 EltTy.f32)
local notation "oDW" => (Memref.slice (Memref.whole Cert.KernelIdeal.main_v19_scv : Memref Cert.KernelIdeal.sig Kind.scVector Space.hbm Cert.KernelIdeal.S131072x2x128 EltTy.f32) (Rect.unit (s := S131072x2x128) ![0, 0, 0] S131072x2x128.size inb_S131072x2x128_S131072x2x128_0_0_0) (fun _ => rfl) : Memref Cert.KernelIdeal.sig Kind.scVector Space.hbm Cert.KernelIdeal.S131072x2x128 EltTy.f32)
local notation "hG" => (gathers_S131072x2x128_S256x2x128 : S131072x2x128.Gathers 0 S256x2x128)

variable (d : Dev nD) (L : grid0.Coords)

/-- The grid point of tile `i` of SparseCore `c`. -/
def crd (c : Fin (grid0.bound 0)) (s : Fin (grid0.bound 1)) : grid0.Coords :=
  fun | 0 => c | 1 => s | ⟨_ + 2, h⟩ => absurd h (Nat.not_lt.2 (Nat.le_add_left _ _))

/-- What a tile is handed: its share of the rows and of the lists, and the slots its entries name, at contents `fo`. -/
@[irreducible] def hold (W : Vals F) (fo : Buf (Elt F) ((T d : Thread nD τ).loc main_v19)) : sProp (MM F) :=
  iprop(((xD).view.loc (thr d L) ↦{tq (L 0) (L 1)} (at' d W main_v0)) ∗ ((aD).view.loc (thr d L) ↦{tq (L 0) (L 1)} (at' d W main_v9))
    ∗ ((bD).view.loc (thr d L) ↦{tq (L 0) (L 1)} (at' d W main_v18))
    ∗ ((oDW).view.loc (thr d L) ↦[SparseCore.rowsWhere (oDW).view ⟨0, by decide⟩ (named (at' d W main_v9) (at' d W main_v18) (tileOf L))]{fullShare} fo))

instance hold_storable (W : Vals F) (fo : Buf (Elt F) ((T d : Thread nD τ).loc main_v19)) : BI.Storable (upEmb : UEmb _ (MM F)) (hold d L W fo) := by
  unfold hold; infer_instance

/-- The slots after the call. -/
abbrev out (W : Vals F) : Buf (Elt F) ((T d : Thread nD τ).loc main_v19) :=
  disp (at' d W main_v19) (at' d W main_v0) (at' d W main_v9) (at' d W main_v18)

set_option maxHeartbeats 1000000 in
/-- A tile's task, from and to what the launch deals in. -/
theorem body (W : Vals F) (hd : Distinct (F := F) (at' d W main_v9) (at' d W main_v18))
    (O : CellTallies nD τ sig (HIx 2)) (Ws : Waits sig (HIx 2)) (hO : ∀ g, O g none = 0) :
    iprop((levAts (K (F := F)).L (K (F := F)).lev : sProp (MM F)) ∗ emp ∗ hold d L W (at' d W main_v19)
        ∗ scopedBufs (thr d L) ∗ scopedSems0 (thr d L) ∗ owes (thr d L) O Ws)
      ⊢ wp frame (wpE (defs₀ (F := F)) 𝒱₀ (thr d L) none) Set.univ
          (cc0_k L xD (Memref.isWhole_whole _) aD (Memref.isWhole_whole _) bD (Memref.isWhole_whole _) oD (Memref.isWhole_whole _)
            sD (Memref.isWhole_whole _) tD (Memref.isWhole_whole _) gD (Memref.isWhole_whole _) cc0_scratch3 cc0_scratch4 cc0_scoped0 cc0_scoped1
            cc0_scoped2 cc0_scoped3 cc0_scoped4 cc0_scoped5)
          fun _ => iprop(hold d L W (out d W) ∗ scopedBufs (thr d L) ∗ scopedSems0 (thr d L)
            ∗ ∃ W', ⌜∀ p ∈ W', p ∈ Ws ∨ p.2 = none⌝ ∗ owes (thr d L) O W') := by
  obtain ⟨RS, hRS⟩ := ownSems0_take (F := F) (thr d L) [cc0_scratch3.sem, cc0_scratch4.sem, cc0_scoped0.sem, cc0_scoped1.sem, cc0_scoped2.sem,
    cc0_scoped3.sem, cc0_scoped4.sem, cc0_scoped5.sem] (by decide) (by
      show ∀ s ∈ [cc0_scratch3.sem, cc0_scratch4.sem, cc0_scoped0.sem, cc0_scoped1.sem, cc0_scoped2.sem,
        cc0_scoped3.sem, cc0_scoped4.sem, cc0_scoped5.sem], (SemLoc.dma s : SemLoc sig).isScoped .scVector = true
      decide)
  obtain ⟨RB, hRB⟩ := ownBufs_take (F := F) d (c0 L) (j0 L) [cc0_scratch0, cc0_scratch1, cc0_scratch2] (by decide) (by
    intro b hb
    simp only [List.mem_cons, List.not_mem_nil, or_false] at hb
    rcases hb with rfl | rfl | rfl <;> rfl)
  rw [(K (F := F)).scopedBufs_V facts d (c0 L) (j0 L), SparseCore.Cfg.scopedSems0_V (Val := Elt F) d (c0 L) (j0 L), hRS, hRB]
  simp only [List.foldr_cons, List.foldr_nil]
  unfold hold
  iintro ⟨#Hlv, -, ⟨Hx, Ha, Hb, Ho⟩, ⟨⟨%fs, Hs⟩, ⟨%ft, Ht⟩, ⟨%fg, Hg⟩, HRB⟩, ⟨H0, H1, H2, H3, H4, H5, H6, H7, HRS⟩, HO⟩
  iapply (wp_wand_r frame _ Set.univ)
  isplitl [Hx Ha Hb Ho Hs Ht Hg H0 H1 H2 H3 H4 H5 H6 H7 HO]
  · iapply (core d L (tq (L 0) (L 1)) (at' d W main_v0) (at' d W main_v9) (at' d W main_v18) (at' d W main_v19) fs ft fg hd O Ws hO)
    isplitr; · iexact Hlv
    isplitl [Hx Ha Hb Ho]
    · isplitl [Hx]; · iexact Hx
      isplitl [Ha]; · iexact Ha
      isplitl [Hb]; · iexact Hb
      iexact Ho
    isplitl [Hs Ht Hg]
    · isplitl [Hs]; · iexact Hs
      isplitl [Ht]; · iexact Ht
      iexact Hg
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact HO
  iintro %_ ⟨Hr, ⟨Hs, Ht, Hg⟩, ⟨H0, H1, H2, H3, H4, H5, H6, H7⟩, HO⟩
  isplitl [Hr]; · iexact Hr
  isplitl [Hs Ht Hg HRB]
  · isplitl [Hs]; · iexact Hs
    isplitl [Ht]; · iexact Ht
    isplitl [Hg]; · iexact Hg
    iexact HRB
  isplitl [H0 H1 H2 H3 H4 H5 H6 H7 HRS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HRS
  iexact HO

theorem defs₀_vector (c : Fin τ.nSC) (s : Fin τ.nSub) :
    defs₀ (F := F) (.scVector c s) 0 ()
      = SparseCore.onTile hcore0 hsub0 (fun c s => cc0_k (crd c s) xD (Memref.isWhole_whole _) aD (Memref.isWhole_whole _) bD (Memref.isWhole_whole _)
          oD (Memref.isWhole_whole _) sD (Memref.isWhole_whole _) tD (Memref.isWhole_whole _) gD (Memref.isWhole_whole _) cc0_scratch3 cc0_scratch4
          cc0_scoped0 cc0_scoped1 cc0_scoped2 cc0_scoped3 cc0_scoped4 cc0_scoped5) ⟨⟩ c s := rfl

end Dispatch

/-! ## The gathering call -/

namespace Collect

local notation "xC" => (Memref.whole Cert.KernelIdeal.main_v28_scv : Memref Cert.KernelIdeal.sig Kind.scVector Space.hbm Cert.KernelIdeal.S131072x2x128 EltTy.f32)
local notation "aC" => (Memref.whole Cert.KernelIdeal.main_v37_scv : Memref Cert.KernelIdeal.sig Kind.scVector Space.hbm Cert.KernelIdeal.S16384 EltTy.i32)
local notation "bC" => (Memref.whole Cert.KernelIdeal.main_v46_scv : Memref Cert.KernelIdeal.sig Kind.scVector Space.hbm Cert.KernelIdeal.S16384 EltTy.i32)
local notation "pC" => (Memref.whole Cert.KernelIdeal.main_v47_0_scv : Memref Cert.KernelIdeal.sig Kind.scVector Space.hbm Cert.KernelIdeal.S16384x2x128 EltTy.f32)
local notation "rC" => (Memref.whole Cert.KernelIdeal.main_v47_1_scv : Memref Cert.KernelIdeal.sig Kind.scVector Space.hbm Cert.KernelIdeal.S16384x2x128 EltTy.f32)
local notation "sC" => (Memref.whole Cert.KernelIdeal.cc2_scratch0 : Memref Cert.KernelIdeal.sig Kind.scVector Space.vmem Cert.KernelIdeal.S256 EltTy.i32)
local notation "gC" => (Memref.whole Cert.KernelIdeal.cc2_scratch1 : Memref Cert.KernelIdeal.sig Kind.scVector Space.vmem Cert.KernelIdeal.S256x2x128 EltTy.f32)

variable (d : Dev nD) (L : grid2.Coords)

/-- The grid point of tile `i` of SparseCore `c`. -/
def crd (c : Fin (grid2.bound 0)) (s : Fin (grid2.bound 1)) : grid2.Coords :=
  fun | 0 => c | 1 => s | ⟨_ + 2, h⟩ => absurd h (Nat.not_lt.2 (Nat.le_add_left _ _))

/-- What a tile is handed: its share of the slots and of the lists, and its two windows of either result. -/
@[irreducible] def hold (W : Vals F) (fp : Buf (Elt F) ((T d : Thread nD τ).loc main_v47_0)) (fr : Buf (Elt F) ((T d : Thread nD τ).loc main_v47_1)) : sProp (MM F) :=
  iprop(((xC).view.loc (thr d L) ↦{tq (L 0) (L 1)} (at' d W main_v28)) ∗ ((aC).view.loc (thr d L) ↦{tq (L 0) (L 1)} (at' d W main_v37))
    ∗ ((bC).view.loc (thr d L) ↦{tq (L 0) (L 1)} (at' d W main_v46))
    ∗ ((p0 L).view.loc (thr d L) ↦[(p0 L).view.set]{fullShare} fp) ∗ ((p1 L).view.loc (thr d L) ↦[(p1 L).view.set]{fullShare} fp)
    ∗ ((r0 L).view.loc (thr d L) ↦[(r0 L).view.set]{fullShare} fr) ∗ ((r1 L).view.loc (thr d L) ↦[(r1 L).view.set]{fullShare} fr))

set_option synthInstance.maxHeartbeats 400000 in
instance hold_storable (W : Vals F) (fp : Buf (Elt F) ((T d : Thread nD τ).loc main_v47_0)) (fr : Buf (Elt F) ((T d : Thread nD τ).loc main_v47_1)) :
    BI.Storable (upEmb : UEmb _ (MM F)) (hold d L W fp fr) := by
  unfold hold; infer_instance

/-- The two results after the call. -/
abbrev out1 (W : Vals F) : Buf (Elt F) ((T d : Thread nD τ).loc main_v47_0) := gath (at' d W main_v28) (at' d W main_v37)
abbrev out2 (W : Vals F) : Buf (Elt F) ((T d : Thread nD τ).loc main_v47_1) := gath (at' d W main_v28) (at' d W main_v46)

set_option maxHeartbeats 1000000 in
/-- A tile's task, from and to what the launch deals in. -/
theorem body (W : Vals F) (h1 : ∀ x, BitVec.toNat (at' d W main_v37 x) < 131072) (h2 : ∀ x, BitVec.toNat (at' d W main_v46 x) < 131072)
    (O : CellTallies nD τ sig (HIx 2)) (Ws : Waits sig (HIx 2)) (hO : ∀ g, O g none = 0) :
    iprop((levAts (K (F := F)).L (K (F := F)).lev : sProp (MM F)) ∗ emp ∗ hold d L W (at' d W main_v47_0) (at' d W main_v47_1)
        ∗ scopedBufs (thr d L) ∗ scopedSems0 (thr d L) ∗ owes (thr d L) O Ws)
      ⊢ wp frame (wpE (defs₀ (F := F)) 𝒱₀ (thr d L) none) Set.univ
          (cc2_k L xC (Memref.isWhole_whole _) aC (Memref.isWhole_whole _) bC (Memref.isWhole_whole _) pC (Memref.isWhole_whole _)
            rC (Memref.isWhole_whole _) sC (Memref.isWhole_whole _) gC (Memref.isWhole_whole _) cc2_scratch2 cc2_scoped0 cc2_scoped1
            cc2_scoped2 cc2_scoped3 cc2_scoped4 cc2_scoped5 cc2_scoped6 cc2_scoped7)
          fun _ => iprop(hold d L W (out1 d W) (out2 d W) ∗ scopedBufs (thr d L) ∗ scopedSems0 (thr d L)
            ∗ ∃ W', ⌜∀ p ∈ W', p ∈ Ws ∨ p.2 = none⌝ ∗ owes (thr d L) O W') := by
  obtain ⟨RS, hRS⟩ := ownSems0_take (F := F) (thr d L) [cc2_scratch2.sem, cc2_scoped0.sem, cc2_scoped1.sem, cc2_scoped2.sem,
    cc2_scoped3.sem, cc2_scoped4.sem, cc2_scoped5.sem, cc2_scoped6.sem, cc2_scoped7.sem] (by decide) (by
      show ∀ s ∈ [cc2_scratch2.sem, cc2_scoped0.sem, cc2_scoped1.sem, cc2_scoped2.sem,
        cc2_scoped3.sem, cc2_scoped4.sem, cc2_scoped5.sem, cc2_scoped6.sem, cc2_scoped7.sem], (SemLoc.dma s : SemLoc sig).isScoped .scVector = true
      decide)
  obtain ⟨RB, hRB⟩ := ownBufs_take (F := F) d (c2 L) (j2 L) [cc2_scratch0, cc2_scratch1] (by decide) (by
    intro b hb
    simp only [List.mem_cons, List.not_mem_nil, or_false] at hb
    rcases hb with rfl | rfl <;> rfl)
  rw [(K (F := F)).scopedBufs_V facts d (c2 L) (j2 L), SparseCore.Cfg.scopedSems0_V (Val := Elt F) d (c2 L) (j2 L), hRS, hRB]
  simp only [List.foldr_cons, List.foldr_nil]
  unfold hold
  iintro ⟨#Hlv, -, Hr, ⟨⟨%fs, Hs⟩, ⟨%fg, Hg⟩, HRB⟩, ⟨H0, H1, H2, H3, H4, H5, H6, H7, H8, HRS⟩, HO⟩
  iapply (wp_wand_r frame _ Set.univ)
  isplitl [Hr Hs Hg H0 H1 H2 H3 H4 H5 H6 H7 H8 HO]
  · iapply (core d L (tq (L 0) (L 1)) (at' d W main_v28) (at' d W main_v37) (at' d W main_v46) (at' d W main_v47_0) (at' d W main_v47_1) fs fg h1 h2 O Ws hO)
    isplitr; · iexact Hlv
    isplitl [Hr]; · iexact Hr
    isplitl [Hs Hg]
    · isplitl [Hs]; · iexact Hs
      iexact Hg
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact HO
  iintro %_ ⟨Hr, ⟨Hs, Hg⟩, ⟨H0, H1, H2, H3, H4, H5, H6, H7, H8⟩, HO⟩
  isplitl [Hr]; · iexact Hr
  isplitl [Hs Hg HRB]
  · isplitl [Hs]; · iexact Hs
    isplitl [Hg]; · iexact Hg
    iexact HRB
  isplitl [H0 H1 H2 H3 H4 H5 H6 H7 H8 HRS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HRS
  iexact HO

theorem defs₀_vector (c : Fin τ.nSC) (s : Fin τ.nSub) :
    defs₀ (F := F) (.scVector c s) 2 ()
      = SparseCore.onTile hcore2 hsub2 (fun c s => cc2_k (crd c s) xC (Memref.isWhole_whole _) aC (Memref.isWhole_whole _) bC (Memref.isWhole_whole _)
          pC (Memref.isWhole_whole _) rC (Memref.isWhole_whole _) sC (Memref.isWhole_whole _) gC (Memref.isWhole_whole _) cc2_scratch2 cc2_scoped0
          cc2_scoped1 cc2_scoped2 cc2_scoped3 cc2_scoped4 cc2_scoped5 cc2_scoped6 cc2_scoped7) ⟨⟩ c s := rfl

end Collect

/-! ## What the two calls deal, and the launch's obligations -/

section Launch

-- the buffers' contents before the scattering call, and before the gathering one
variable (W0 W1 : Dev nD → Vals F)

/-- What the two calls hand over and take back. -/
def P : (K (F := F)).Pay (nD := nD) (Val := Elt F) (Name := ℕ) (U := UU) where
  st := fun q d => match q with
    | 0 => fun c => bigSep Finset.univ fun i : Fin ((K (F := F)).nSub 0) => Dispatch.hold d (Dispatch.crd c i) (W0 d) (at' d (W0 d) main_v19)
    | 1 => fun c => bigSep Finset.univ fun i : Fin ((K (F := F)).nSub 1) =>
        Collect.hold d (Collect.crd c i) (W1 d) (at' d (W1 d) main_v47_0) (at' d (W1 d) main_v47_1)
  dn := fun q d => match q with
    | 0 => fun c => bigSep Finset.univ fun i : Fin ((K (F := F)).nSub 0) => Dispatch.hold d (Dispatch.crd c i) (W0 d) (Dispatch.out d (W0 d))
    | 1 => fun c => bigSep Finset.univ fun i : Fin ((K (F := F)).nSub 1) =>
        Collect.hold d (Collect.crd c i) (W1 d) (Collect.out1 d (W1 d)) (Collect.out2 d (W1 d))
  go := fun q d => match q with
    | 0 => fun c i => Dispatch.hold d (Dispatch.crd c i) (W0 d) (at' d (W0 d) main_v19)
    | 1 => fun c i => Collect.hold d (Collect.crd c i) (W1 d) (at' d (W1 d) main_v47_0) (at' d (W1 d) main_v47_1)
  td := fun q d => match q with
    | 0 => fun c i => Dispatch.hold d (Dispatch.crd c i) (W0 d) (Dispatch.out d (W0 d))
    | 1 => fun c i => Collect.hold d (Collect.crd c i) (W1 d) (Collect.out1 d (W1 d)) (Collect.out2 d (W1 d))
  x := fun _ _ => iprop(emp)

omit [FloatOps F] in
theorem stor_univ {n : ℕ} (Φ : Fin n → sProp (MM F)) (h : ∀ i, BI.Storable (upEmb : UEmb _ (MM F)) (Φ i)) :
    BI.Storable (upEmb : UEmb _ (MM F)) (bigSep Finset.univ Φ) := inferInstance

instance P_storable : (P W0 W1).IsStorable where
  st q d := match q with
    | 0 => fun c => stor_univ _ fun i => Dispatch.hold_storable d (Dispatch.crd c i) (W0 d) (at' d (W0 d) main_v19)
    | 1 => fun c => stor_univ _ fun i => Collect.hold_storable d (Collect.crd c i) (W1 d) (at' d (W1 d) main_v47_0) (at' d (W1 d) main_v47_1)
  dn q d := match q with
    | 0 => fun c => stor_univ _ fun i => Dispatch.hold_storable d (Dispatch.crd c i) (W0 d) (Dispatch.out d (W0 d))
    | 1 => fun c => stor_univ _ fun i => Collect.hold_storable d (Collect.crd c i) (W1 d) (Collect.out1 d (W1 d)) (Collect.out2 d (W1 d))
  go q d := match q with
    | 0 => fun c i => (inferInstance : BI.Storable (upEmb : UEmb _ (MM F)) (Dispatch.hold d (Dispatch.crd c i) (W0 d) (at' d (W0 d) main_v19)))
    | 1 => fun c i => (inferInstance : BI.Storable (upEmb : UEmb _ (MM F))
        (Collect.hold d (Collect.crd c i) (W1 d) (at' d (W1 d) main_v47_0) (at' d (W1 d) main_v47_1)))
  td q d := match q with
    | 0 => fun c i => (inferInstance : BI.Storable (upEmb : UEmb _ (MM F)) (Dispatch.hold d (Dispatch.crd c i) (W0 d) (Dispatch.out d (W0 d))))
    | 1 => fun c i => (inferInstance : BI.Storable (upEmb : UEmb _ (MM F))
        (Collect.hold d (Collect.crd c i) (W1 d) (Collect.out1 d (W1 d)) (Collect.out2 d (W1 d))))

theorem vecSplit (q : Fin 2) : (K (F := F)).VecSplit' (P W0 W1) q := by
  intro d c
  match q with
  | 0 =>
    show (bigSep Finset.univ fun i : Fin ((K (F := F)).nSub 0) => Dispatch.hold d (Dispatch.crd c i) (W0 d) (at' d (W0 d) main_v19)) ⊢ |={Set.univ}=> iprop(
      (bigSep Finset.univ fun i : Fin ((K (F := F)).nSub 0) => Dispatch.hold d (Dispatch.crd c i) (W0 d) (at' d (W0 d) main_v19))
      ∗ ((bigSep Finset.univ fun i : Fin ((K (F := F)).nSub 0) => Dispatch.hold d (Dispatch.crd c i) (W0 d) (Dispatch.out d (W0 d)))
        -∗ (bigSep Finset.univ fun i : Fin ((K (F := F)).nSub 0) => Dispatch.hold d (Dispatch.crd c i) (W0 d) (Dispatch.out d (W0 d)))))
    iintro H; imodintro
    isplitl [H]; · iexact H
    iintro H; iexact H
  | 1 =>
    show (bigSep Finset.univ fun i : Fin ((K (F := F)).nSub 1) => Collect.hold d (Collect.crd c i) (W1 d) (at' d (W1 d) main_v47_0) (at' d (W1 d) main_v47_1)) ⊢ |={Set.univ}=> iprop(
      (bigSep Finset.univ fun i : Fin ((K (F := F)).nSub 1) => Collect.hold d (Collect.crd c i) (W1 d) (at' d (W1 d) main_v47_0) (at' d (W1 d) main_v47_1))
      ∗ ((bigSep Finset.univ fun i : Fin ((K (F := F)).nSub 1) => Collect.hold d (Collect.crd c i) (W1 d) (Collect.out1 d (W1 d)) (Collect.out2 d (W1 d)))
        -∗ (bigSep Finset.univ fun i : Fin ((K (F := F)).nSub 1) => Collect.hold d (Collect.crd c i) (W1 d) (Collect.out1 d (W1 d)) (Collect.out2 d (W1 d)))))
    iintro H; imodintro
    isplitl [H]; · iexact H
    iintro H; iexact H

set_option maxRecDepth 16384 in
theorem tileObl0 (hd : ∀ d, Dispatch.Distinct (F := F) (at' d (W0 d) main_v9) (at' d (W0 d) main_v18)) : (K (F := F)).TileObl D 𝒱 (P W0 W1) v₀ 0 := by
  intro d c i O W hO _ _
  simp only [show (P W0 W1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [Dispatch.defs₀_vector]; simp only [SparseCore.onTile, hci, and_self, ↓reduceDIte]
  exact (Dispatch.body d (Dispatch.crd ⟨_, hci.1⟩ ⟨_, hci.2⟩) (W0 d) (hd d) O W hO).trans (wp_mono frame _ _ fun _ => obl_post)

set_option maxRecDepth 16384 in
theorem tileObl1 (h1 : ∀ d x, BitVec.toNat (at' d (W1 d) main_v37 x) < 131072) (h2 : ∀ d x, BitVec.toNat (at' d (W1 d) main_v46 x) < 131072) :
    (K (F := F)).TileObl D 𝒱 (P W0 W1) v₀ 1 := by
  intro d c i O W hO _ _
  simp only [show (P W0 W1).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [Collect.defs₀_vector]; simp only [SparseCore.onTile, hci, and_self, ↓reduceDIte]
  exact (Collect.body d (Collect.crd ⟨_, hci.1⟩ ⟨_, hci.2⟩) (W1 d) (h1 d) (h2 d) O W hO).trans (wp_mono frame _ _ fun _ => obl_post)

end Launch

end Cert.Proof

end
-- ==== Proof.Deal.lean ====
/-
  The two SparseCore calls' operands, whole, as what their thirty-two tiles are handed — and back.
-/
module

public import proofs.«01_k».proof.Proof.Tiles

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The scattering call's operands -/

namespace Dispatch

local notation "xD" => (Memref.whole Cert.KernelIdeal.main_v0_scv : Memref Cert.KernelIdeal.sig Kind.scVector Space.hbm Cert.KernelIdeal.S16384x2x128 EltTy.f32)
local notation "aD" => (Memref.whole Cert.KernelIdeal.main_v9_scv : Memref Cert.KernelIdeal.sig Kind.scVector Space.hbm Cert.KernelIdeal.S16384 EltTy.i32)
local notation "bD" => (Memref.whole Cert.KernelIdeal.main_v18_scv : Memref Cert.KernelIdeal.sig Kind.scVector Space.hbm Cert.KernelIdeal.S16384 EltTy.i32)
local notation "oD" => (Memref.whole Cert.KernelIdeal.main_v19_scv : Memref Cert.KernelIdeal.sig Kind.scVector Space.hbm Cert.KernelIdeal.S131072x2x128 EltTy.f32)
local notation "sD" => (Memref.whole Cert.KernelIdeal.cc0_scratch0 : Memref Cert.KernelIdeal.sig Kind.scVector Space.vmem Cert.KernelIdeal.S256 EltTy.i32)
local notation "tD" => (Memref.whole Cert.KernelIdeal.cc0_scratch1 : Memref Cert.KernelIdeal.sig Kind.scVector Space.vmem Cert.KernelIdeal.S256 EltTy.i32)
local notation "gD" => (Memref.whole Cert.KernelIdeal.cc0_scratch2 : Memref Cert.KernelIdeal.sig Kind.scVector Space.vmem Cert.KernelIdeal.S256x2x128 EltTy.f32)
local notation "oDW" => (Memref.slice (Memref.whole Cert.KernelIdeal.main_v19_scv : Memref Cert.KernelIdeal.sig Kind.scVector Space.hbm Cert.KernelIdeal.S131072x2x128 EltTy.f32) (Rect.unit (s := S131072x2x128) ![0, 0, 0] S131072x2x128.size inb_S131072x2x128_S131072x2x128_0_0_0) (fun _ => rfl) : Memref Cert.KernelIdeal.sig Kind.scVector Space.hbm Cert.KernelIdeal.S131072x2x128 EltTy.f32)

/-- The slots the tile `i` of SparseCore `c` names. -/
def rows (f1 f2 : S16384.Idx → Elt F .i32) (c : Fin 2) (i : Fin 16) : Finset S131072x2x128.Idx :=
  SparseCore.rowsWhere (oDW).view ⟨0, by decide⟩ (named f1 f2 (tileOf (crd c i)))

omit [FloatOps F] in
theorem mem_rows {f1 f2 : S16384.Idx → Elt F .i32} {c : Fin 2} {i : Fin 16} {k : S131072x2x128.Idx} :
    k ∈ rows f1 f2 c i ↔ named f1 f2 (2 * i.val + c.val) (k 0).val := by
  unfold rows
  rw [SparseCore.mem_rowsWhere]
  constructor
  · rintro ⟨r, hr, hm⟩
    obtain ⟨x, -, hx⟩ := Finset.mem_map.mp hm
    have q : 0 + 1 * (r.val + 1 * (x 0).val) = (k 0).val := congrArg (fun i : S131072x2x128.Idx => (i 0).val) hx
    have key : ∀ r y k : ℕ, 0 + 1 * (r + 1 * y) = k → y < 1 → r = k := by intro r y k; omega
    have e : r.val = (k 0).val := key r.val (x 0).val (k 0).val q (x 0).isLt
    exact Eq.mp (congrArg (named f1 f2 (tileOf (crd c i))) e) hr
  · intro h
    refine ⟨k 0, h, Finset.mem_map.mpr ⟨fun | 0 => ⟨0, Nat.zero_lt_one⟩ | 1 => k 1 | 2 => k 2, Finset.mem_univ _, ?_⟩⟩
    funext a
    refine Fin.ext ?_
    match a with
    | 0 => show 0 + 1 * ((k 0).val + 1 * 0) = (k 0).val; omega
    | 1 => show 0 + 1 * (0 + 1 * (k 1).val) = (k 1).val; omega
    | 2 => show 0 + 1 * (0 + 1 * (k 2).val) = (k 2).val; omega

omit [FloatOps F] in
theorem rows_disjoint {f1 f2 : S16384.Idx → Elt F .i32} (hd : Distinct f1 f2) (a b : Fin 2 × Fin 16) (hab : a ≠ b) :
    Disjoint (rows f1 f2 a.1 a.2) (rows f1 f2 b.1 b.2) := by
  refine Finset.disjoint_left.mpr fun k ha hb => hab ?_
  rw [mem_rows] at ha hb
  obtain ⟨x, hx, hxk⟩ := ha
  obtain ⟨y, hy, hyk⟩ := hb
  have e : x = y := by
    rcases hxk with h | h <;> rcases hyk with h' | h'
    · exact hd.inj1 (h.trans h'.symm)
    · exact absurd (h.trans h'.symm) (hd.ne x y)
    · exact absurd (h'.trans h.symm) (hd.ne y x)
    · exact hd.inj2 (h.trans h'.symm)
  subst e
  have := a.1.isLt; have := b.1.isLt
  refine Prod.ext (Fin.ext ?_) (Fin.ext ?_) <;> omega

/-- Every slot some entry names. -/
def allRows (f1 f2 : S16384.Idx → Elt F .i32) : Finset S131072x2x128.Idx := Finset.univ.biUnion fun a : Fin 2 × Fin 16 => rows f1 f2 a.1 a.2

omit [FloatOps F] in
/-- Off the named slots nothing changes. -/
theorem disp_off {f0 : S131072x2x128.Idx → Elt F .f32} {fx : S16384x2x128.Idx → Elt F .f32} {f1 f2 : S16384.Idx → Elt F .i32}
    (k : S131072x2x128.Idx) (hk : k ∉ allRows f1 f2) : disp f0 fx f1 f2 k = f0 k := by
  have h : ∀ t : Fin 16384, named f1 f2 (t.val / 512) (k 0).val → False := fun t hn => hk (by
    unfold allRows
    rw [Finset.mem_biUnion]
    refine ⟨(⟨t.val / 512 % 2, by omega⟩, ⟨t.val / 512 / 2, by have := t.isLt; omega⟩), Finset.mem_univ _, ?_⟩
    rw [mem_rows]
    have e : 2 * (t.val / 512 / 2) + t.val / 512 % 2 = t.val / 512 := by omega
    show named f1 f2 (2 * (t.val / 512 / 2) + t.val / 512 % 2) _
    rw [e]; exact hn)
  exact disp_none k (fun t e => h t ⟨ValueIdx.ix1 t, rfl, .inl e⟩) (fun t e => h t ⟨ValueIdx.ix1 t, rfl, .inr e⟩)

variable (d : Dev nD) (W : Vals F)

/-- The three arrays the call reads and the slots, whole. -/
def whole (fo : Buf (Elt F) ((T d : Thread nD τ).loc main_v19)) : sProp (MM F) :=
  iprop(((T d : Thread nD τ).loc main_v0 ↦{fullShare} at' d W main_v0) ∗ ((T d : Thread nD τ).loc main_v9 ↦{fullShare} at' d W main_v9)
    ∗ ((T d : Thread nD τ).loc main_v18 ↦{fullShare} at' d W main_v18) ∗ ((T d : Thread nD τ).loc main_v19 ↦{fullShare} fo))

/-- The slots nobody names. -/
def rest (fo : Buf (Elt F) ((T d : Thread nD τ).loc main_v19)) : sProp (MM F) :=
  (T d : Thread nD τ).loc main_v19 ↦[Finset.univ \ allRows (at' d W main_v9) (at' d W main_v18)]{fullShare} fo

/-- What all the tiles are handed. -/
def tiles (fo : Buf (Elt F) ((T d : Thread nD τ).loc main_v19)) : sProp (MM F) :=
  bigSep Finset.univ fun c : Fin 2 => bigSep Finset.univ fun i : Fin 16 => hold d (crd c i) W fo

theorem tiles_eq (hd : Distinct (F := F) (at' d W main_v9) (at' d W main_v18)) (fo : Buf (Elt F) ((T d : Thread nD τ).loc main_v19)) :
    tiles d W fo = iprop(((T d : Thread nD τ).loc main_v0 ↦{fullShare} at' d W main_v0) ∗ ((T d : Thread nD τ).loc main_v9 ↦{fullShare} at' d W main_v9)
      ∗ ((T d : Thread nD τ).loc main_v18 ↦{fullShare} at' d W main_v18)
      ∗ ((T d : Thread nD τ).loc main_v19 ↦[allRows (at' d W main_v9) (at' d W main_v18)]{fullShare} fo)) := by
  have e0 := pointsTo_tiles (F := F) (ℓ := (T d : Thread nD τ).loc main_v0) Finset.univ (at' d W main_v0)
  have e9 := pointsTo_tiles (F := F) (ℓ := (T d : Thread nD τ).loc main_v9) Finset.univ (at' d W main_v9)
  have e18 := pointsTo_tiles (F := F) (ℓ := (T d : Thread nD τ).loc main_v18) Finset.univ (at' d W main_v18)
  have e19 : ((T d : Thread nD τ).loc main_v19 ↦[allRows (at' d W main_v9) (at' d W main_v18)]{fullShare} fo : sProp (MM F))
      = bigSep Finset.univ fun c : Fin 2 => bigSep Finset.univ fun i : Fin 16 =>
        (T d : Thread nD τ).loc main_v19 ↦[rows (at' d W main_v9) (at' d W main_v18) c i]{fullShare} fo := by
    unfold allRows
    rw [pointsTo_biUnion (ℓ := (T d : Thread nD τ).loc main_v19) Finset.univ (fun a : Fin 2 × Fin 16 => rows (at' d W main_v9) (at' d W main_v18) a.1 a.2)
      fun a _ b _ hab => rows_disjoint hd a b hab, bigSep_univ_prod]
  rw [e0, e9, e18, e19]
  unfold tiles
  simp only [← bigSep_sep']
  refine bigSep_congr fun c _ => bigSep_congr fun i _ => ?_
  unfold hold
  rfl

theorem deal (hd : Distinct (F := F) (at' d W main_v9) (at' d W main_v18)) (fo : Buf (Elt F) ((T d : Thread nD τ).loc main_v19)) :
    whole d W fo ⊢ iprop(tiles d W fo ∗ rest d W fo) := by
  rw [tiles_eq d W hd]
  unfold whole rest
  iintro ⟨Hx, Ha, Hb, Ho⟩
  ihave Ho' := (pointsTo_split_subset (ℓ := (T d : Thread nD τ).loc main_v19) (q := fullShare) (f := fo) (S := Finset.univ)
    (Finset.subset_univ (allRows (at' d W main_v9) (at' d W main_v18)))).1 $$ Ho
  icases Ho' with ⟨Ho, Hr⟩
  isplitr [Hr]
  · isplitl [Hx]; · iexact Hx
    isplitl [Ha]; · iexact Ha
    isplitl [Hb]; · iexact Hb
    iexact Ho
  iexact Hr

theorem gather (hd : Distinct (F := F) (at' d W main_v9) (at' d W main_v18)) :
    iprop(tiles d W (out d W) ∗ rest d W (at' d W main_v19)) ⊢ whole d W (out d W) := by
  rw [tiles_eq d W hd]
  have e : rest d W (at' d W main_v19) = rest d W (out d W) :=
    pointsTo_congr (Ix := HIx 2) (Name := ℕ) (U := UU) (Lvl := ℕ) fun k hk => by
      rw [Finset.mem_sdiff] at hk; exact (disp_off k hk.2).symm
  rw [e]
  unfold whole rest
  iintro ⟨⟨Hx, Ha, Hb, Ho⟩, Hr⟩
  ihave Ho' := (pointsTo_split_subset (ℓ := (T d : Thread nD τ).loc main_v19) (q := fullShare) (f := out d W) (S := Finset.univ)
    (Finset.subset_univ (allRows (at' d W main_v9) (at' d W main_v18)))).2 $$ [Ho Hr]
  · isplitl [Ho] <;> iassumption
  isplitl [Hx]; · iexact Hx
  isplitl [Ha]; · iexact Ha
  isplitl [Hb]; · iexact Hb
  iexact Ho'

end Dispatch

/-! ## The gathering call's operands -/

namespace Collect

local notation "xC" => (Memref.whole Cert.KernelIdeal.main_v28_scv : Memref Cert.KernelIdeal.sig Kind.scVector Space.hbm Cert.KernelIdeal.S131072x2x128 EltTy.f32)
local notation "aC" => (Memref.whole Cert.KernelIdeal.main_v37_scv : Memref Cert.KernelIdeal.sig Kind.scVector Space.hbm Cert.KernelIdeal.S16384 EltTy.i32)
local notation "bC" => (Memref.whole Cert.KernelIdeal.main_v46_scv : Memref Cert.KernelIdeal.sig Kind.scVector Space.hbm Cert.KernelIdeal.S16384 EltTy.i32)
local notation "pC" => (Memref.whole Cert.KernelIdeal.main_v47_0_scv : Memref Cert.KernelIdeal.sig Kind.scVector Space.hbm Cert.KernelIdeal.S16384x2x128 EltTy.f32)
local notation "rC" => (Memref.whole Cert.KernelIdeal.main_v47_1_scv : Memref Cert.KernelIdeal.sig Kind.scVector Space.hbm Cert.KernelIdeal.S16384x2x128 EltTy.f32)
local notation "sC" => (Memref.whole Cert.KernelIdeal.cc2_scratch0 : Memref Cert.KernelIdeal.sig Kind.scVector Space.vmem Cert.KernelIdeal.S256 EltTy.i32)
local notation "gC" => (Memref.whole Cert.KernelIdeal.cc2_scratch1 : Memref Cert.KernelIdeal.sig Kind.scVector Space.vmem Cert.KernelIdeal.S256x2x128 EltTy.f32)

/-- The window of half `b` of tile `i` of SparseCore `c`, in either result. -/
def win (a : (Fin 2 × Fin 16) × Bool) : Finset S16384x2x128.Idx :=
  Finset.univ.filter fun k => (k 0).val / 256 = 4 * a.1.2.val + 2 * a.1.1.val + a.2.toNat

theorem win_disjoint (a b : (Fin 2 × Fin 16) × Bool) (hab : a ≠ b) : Disjoint (win a) (win b) := by
  refine Finset.disjoint_left.mpr fun k ha hb => hab ?_
  have h1 := (Finset.mem_filter.mp ha).2
  have h2 := (Finset.mem_filter.mp hb).2
  obtain ⟨⟨c, i⟩, x⟩ := a
  obtain ⟨⟨c', i'⟩, x'⟩ := b
  have := c.isLt; have := c'.isLt
  have hx : x.toNat < 2 := by cases x <;> decide
  have hx' : x'.toNat < 2 := by cases x' <;> decide
  have e3 : x.toNat = x'.toNat := by simp only at h1 h2; omega
  refine Prod.ext (Prod.ext (Fin.ext ?_) (Fin.ext ?_)) (by cases x <;> cases x' <;> simp_all) <;> simp only at h1 h2 ⊢ <;> omega

theorem win_cover : (Finset.univ.biUnion win) = (Finset.univ : Finset S16384x2x128.Idx) := by
  refine Finset.eq_univ_iff_forall.mpr fun k => Finset.mem_biUnion.mpr ?_
  have hk : (k 0).val < 16384 := (k 0).isLt
  refine ⟨((⟨(k 0).val / 512 % 2, by omega⟩, ⟨(k 0).val / 1024, by omega⟩), decide ((k 0).val / 256 % 2 = 1)), Finset.mem_univ _,
    Finset.mem_filter.mpr ⟨Finset.mem_univ _, ?_⟩⟩
  show (k 0).val / 256 = 4 * ((k 0).val / 1024) + 2 * ((k 0).val / 512 % 2) + (decide ((k 0).val / 256 % 2 = 1)).toNat
  by_cases h : (k 0).val / 256 % 2 = 1
  · rw [decide_eq_true h]; simp only [Bool.toNat_true]; omega
  · rw [decide_eq_false h]; simp only [Bool.toNat_false]; omega

theorem mem_unit {off : Fin 3 → ℕ} {n : ℕ} {inb} (h : off = ![n, 0, 0]) (k : S16384x2x128.Idx) :
    k ∈ (Rect.unit (s := S16384x2x128) off S256x2x128.size inb).set ↔ n ≤ (k 0).val ∧ (k 0).val < n + 256 := by
  subst h
  rw [Rect.mem_set_unit]
  constructor
  · intro h; exact h 0
  · intro h a
    match a with
    | 0 => exact h
    | 1 => exact ⟨Nat.zero_le _, by show (k 1).val < 0 + 2; have : (k 1).val < 2 := (k 1).isLt; omega⟩
    | 2 => exact ⟨Nat.zero_le _, by show (k 2).val < 0 + 128; have : (k 2).val < 128 := (k 2).isLt; omega⟩

theorem win0 (c : Fin 2) (i : Fin 16) : ((or0 (crd c i)).set : Finset S16384x2x128.Idx) = win ((c, i), false) := by
  ext k
  refine (mem_unit (k2_off2_eq (crd c i) 0) k).trans ((?_ : _ ↔ _).trans (by unfold win; simp only [Finset.mem_filter, Finset.mem_univ, true_and]; exact Iff.rfl :
    (k 0).val / 256 = 4 * i.val + 2 * c.val + 0 ↔ k ∈ win ((c, i), false)))
  show 1024 * i.val + 512 * c.val + 256 * 0 ≤ (k 0).val ∧ (k 0).val < 1024 * i.val + 512 * c.val + 256 * 0 + 256
    ↔ (k 0).val / 256 = 4 * i.val + 2 * c.val + 0
  omega

theorem win1 (c : Fin 2) (i : Fin 16) : ((or1 (crd c i)).set : Finset S16384x2x128.Idx) = win ((c, i), true) := by
  ext k
  refine (mem_unit (k2_off2_eq (crd c i) 1) k).trans ((?_ : _ ↔ _).trans (by unfold win; simp only [Finset.mem_filter, Finset.mem_univ, true_and]; exact Iff.rfl :
    (k 0).val / 256 = 4 * i.val + 2 * c.val + 1 ↔ k ∈ win ((c, i), true)))
  show 1024 * i.val + 512 * c.val + 256 * 1 ≤ (k 0).val ∧ (k 0).val < 1024 * i.val + 512 * c.val + 256 * 1 + 256
    ↔ (k 0).val / 256 = 4 * i.val + 2 * c.val + 1
  omega

variable (d : Dev nD) (W : Vals F)

/-- The three arrays the call reads and its two results, whole. -/
def whole (fp : Buf (Elt F) ((T d : Thread nD τ).loc main_v47_0)) (fr : Buf (Elt F) ((T d : Thread nD τ).loc main_v47_1)) : sProp (MM F) :=
  iprop(((T d : Thread nD τ).loc main_v28 ↦{fullShare} at' d W main_v28) ∗ ((T d : Thread nD τ).loc main_v37 ↦{fullShare} at' d W main_v37)
    ∗ ((T d : Thread nD τ).loc main_v46 ↦{fullShare} at' d W main_v46) ∗ ((T d : Thread nD τ).loc main_v47_0 ↦{fullShare} fp)
    ∗ ((T d : Thread nD τ).loc main_v47_1 ↦{fullShare} fr))

/-- What all the tiles are handed. -/
def tiles (fp : Buf (Elt F) ((T d : Thread nD τ).loc main_v47_0)) (fr : Buf (Elt F) ((T d : Thread nD τ).loc main_v47_1)) : sProp (MM F) :=
  bigSep Finset.univ fun c : Fin 2 => bigSep Finset.univ fun i : Fin 16 => hold d (crd c i) W fp fr

set_option maxHeartbeats 2000000 in
theorem tiles_eq (fp : Buf (Elt F) ((T d : Thread nD τ).loc main_v47_0)) (fr : Buf (Elt F) ((T d : Thread nD τ).loc main_v47_1)) :
    tiles d W fp fr = whole d W fp fr := by
  have e0 := pointsTo_tiles (F := F) (ℓ := (T d : Thread nD τ).loc main_v28) Finset.univ (at' d W main_v28)
  have e9 := pointsTo_tiles (F := F) (ℓ := (T d : Thread nD τ).loc main_v37) Finset.univ (at' d W main_v37)
  have e18 := pointsTo_tiles (F := F) (ℓ := (T d : Thread nD τ).loc main_v46) Finset.univ (at' d W main_v46)
  have ep : ((T d : Thread nD τ).loc main_v47_0 ↦{fullShare} fp : sProp (MM F))
      = iprop((bigSep Finset.univ fun c : Fin 2 => bigSep Finset.univ fun i : Fin 16 => (T d : Thread nD τ).loc main_v47_0 ↦[win ((c, i), false)]{fullShare} fp)
        ∗ (bigSep Finset.univ fun c : Fin 2 => bigSep Finset.univ fun i : Fin 16 => (T d : Thread nD τ).loc main_v47_0 ↦[win ((c, i), true)]{fullShare} fp)) := by
    have h := pointsTo_biUnion (ℓ := (T d : Thread nD τ).loc main_v47_0) (q := fullShare) (f := fp) (Ix := HIx 2) (Name := ℕ) (U := UU) (Lvl := ℕ)
      Finset.univ win fun a _ b _ hab => win_disjoint a b hab
    rw [win_cover, bigSep_univ_prod, bigSep_univ_prod] at h
    refine Eq.trans h ?_
    simp only [bigSep_bool, bigSep_sep']
  have er : ((T d : Thread nD τ).loc main_v47_1 ↦{fullShare} fr : sProp (MM F))
      = iprop((bigSep Finset.univ fun c : Fin 2 => bigSep Finset.univ fun i : Fin 16 => (T d : Thread nD τ).loc main_v47_1 ↦[win ((c, i), false)]{fullShare} fr)
        ∗ (bigSep Finset.univ fun c : Fin 2 => bigSep Finset.univ fun i : Fin 16 => (T d : Thread nD τ).loc main_v47_1 ↦[win ((c, i), true)]{fullShare} fr)) := by
    have h := pointsTo_biUnion (ℓ := (T d : Thread nD τ).loc main_v47_1) (q := fullShare) (f := fr) (Ix := HIx 2) (Name := ℕ) (U := UU) (Lvl := ℕ)
      Finset.univ win fun a _ b _ hab => win_disjoint a b hab
    rw [win_cover, bigSep_univ_prod, bigSep_univ_prod] at h
    refine Eq.trans h ?_
    simp only [bigSep_bool, bigSep_sep']
  unfold whole tiles
  rw [e0, e9, e18, ep, er, show ∀ P Q R : sProp (MM F), iprop((P ∗ Q) ∗ R) = iprop(P ∗ Q ∗ R) from fun P Q R => BI.Entails.antisymm BI.sep_assoc BI.sep_assoc']
  simp only [← bigSep_sep']
  refine bigSep_congr fun c _ => bigSep_congr fun i _ => ?_
  unfold hold
  have s0 : (p0 (crd c i)).view.set = win ((c, i), false) := (View.set_slice_whole _ _).trans (win0 c i)
  have s1 : (p1 (crd c i)).view.set = win ((c, i), true) := (View.set_slice_whole _ _).trans (win1 c i)
  have s2 : (r0 (crd c i)).view.set = win ((c, i), false) := (View.set_slice_whole _ _).trans (win0 c i)
  have s3 : (r1 (crd c i)).view.set = win ((c, i), true) := (View.set_slice_whole _ _).trans (win1 c i)
  rw [s0, s1, s2, s3]
  rfl

end Collect

end Cert.Proof

end
-- ==== Proof.Region.lean ====
/- A TensorCore call between two SparseCore calls: it is entered with every array held at known
   contents and left with its own result changed, while the core still owes the signals of the
   SparseCore calls that are to come. The core's own waits in the call are all at level 0, below
   every wait of the launch, so what it had recorded before the call bounds it after the call. -/
module

public import proofs.«01_k».proof.Proof.Setup
public import Idealize.ShloMosaic.Lib.Pipeline.RegionArraysS
public import Idealize.ShloMosaic.Lib.Pipeline.RegionArraysT

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

namespace Region

theorem ofEq {A B : sProp (MM F)} (h : A = B) : A ⊢ B := h ▸ BI.Entails.refl A

/-- The call's proof data: the arrays as they are at entry, what the body leaves in each staging
    buffer, and the tables and the spare buffers as what every point keeps. -/
def dat (a : (p : Fin 2) → (pcfgs (F := F) p).Adm) (p : Fin 2) (n : ℕ) (d : Dev nD)
    (A : (w : Fin (pin pcfgs a p).W) → Buf (Elt F) (((pin pcfgs a p).win w).arr.view.loc (d.tc : Thread nD τ)))
    (after : (w : Fin (pin pcfgs a p).W) → Fin (pin pcfgs a p).N → ((pin pcfgs a p).win w).block.Idx → Elt F ((pin pcfgs a p).win w).elt) :
    Dat τ (Elt F) (HIx 2) ℕ UU ℕ (pin pcfgs a p) d where
  A := A
  after := after
  Φ _ := iprop(scopedRest (pin pcfgs a p).spec d ∗ tablesAt pcfgs a p d)
  q _ := fullShare
  owed _ := (K (F := F)).Otc d n
  recorded _ := {x | (K (F := F)).lev (T d, x.1) x.2 ≤ 8 * n}

/-- What the core owes after `n` SparseCore calls, and a bound on what its waits have recorded. -/
def owed (n : ℕ) (d : Dev nD) : sProp (MM F) :=
  iprop(∃ W, ⌜(K (F := F)).WBelow (T d) W (8 * n)⌝ ∗ owes (T d) ((K (F := F)).Otc d n) W)

variable (a : (p : Fin 2) → (pcfgs (F := F) p).Adm)
  (pdats : (p : Fin 2) → (d : Dev nD) → Dat τ (Elt F) (HIx 2) ℕ UU ℕ (pin pcfgs a p) d)
  (p : Fin 2) (n : ℕ)

/-- What the later signals owe is never owed at level 0. -/
theorem Otc_none (d : Dev nD) (g : GSem nD τ sig) : (K (F := F)).Otc d n g none = 0 := by
  rcases Nat.eq_zero_or_pos ((K (F := F)).Otc d n g none) with h | h
  · exact h
  · exact absurd ((K (F := F)).lev_of_Otc_pos h) (by
      show ¬ (8 * _ + 1 ≤ 0)
      omega)

/-- The exit: the arrays as the call leaves them, the tables and the other arrays as they were. -/
theorem exit (kit : PLaunchFacts (nD := nD) (τ := τ) (pcfgs (F := F)) p) (W : Dev nD → Valuation τ sig (Elt F))
    (R : Finset (DevRef τ sig)) (hR : arrRefs (pcfgs (F := F) p).spec ⊆ R) (hR' : tblRefs (pcfgs (F := F) p).pre ⊆ R)
    (hshare : ∀ d w, (pdats p d).share w = fullShare)
    (howed : ∀ d t, (pdats p d).owed t = (K (F := F)).Otc d n)
    (hrec : ∀ d t, (pdats p d).recorded t = {x | (K (F := F)).lev (T d, x.1) x.2 ≤ 8 * n})
    (hT : ∀ d k, (a p).1 k = W d (Proc.devRef .tc ((pcfgs p).pre.ref k))) (d : Dev nD) :
    iprop((pdats p d).arrays ((pdats p d).arrAt · (pin pcfgs a p).N) ∗ (pdats p d).owesAt none (Fin.last (pin pcfgs a p).N)
        ∗ tablesAt pcfgs a p d ∗ StableHlo.held (T d) ((R \ arrRefs (pcfgs (F := F) p).spec) \ tblRefs (pcfgs (F := F) p).pre) (W d))
      ⊢ (iprop(|={Set.univ}=> (StableHlo.held (T d) R (afterRegion (pdats p d) (W d)) ∗ owed (F := F) n d)) : sProp (MM F)) := by
  have e1 : StableHlo.held (T d) ((R \ arrRefs (pcfgs (F := F) p).spec) \ tblRefs (pcfgs (F := F) p).pre) (afterRegion (pdats p d) (W d))
      = (StableHlo.held (T d) ((R \ arrRefs (pcfgs (F := F) p).spec) \ tblRefs (pcfgs (F := F) p).pre) (W d) : sProp (MM F)) :=
    StableHlo.held_congr (T d) (fun b hb => afterRegion_off (pdats p d) (W d) R b (Finset.mem_sdiff.mp hb).1)
  have e2 := arrays_held pcfgs a pdats p kit d (hshare d) ((pdats p d).arrAt · (pin pcfgs a p).N) (afterRegion (pdats p d) (W d))
      (fun w => (afterRegion_arr (pdats p d) (W d) kit.win.arr_inj w).symm)
  have e3 := prefHeld_held (Ix := HIx 2) (Name := ℕ) (U := UU) (Lvl := ℕ) (pcfgs (F := F) p).pre kit.pre.inj d (a p).1 (afterRegion (pdats p d) (W d))
      (fun k => (hT d k).trans (afterRegion_of_not_arr (pdats p d) (W d) (kit.pre.disj k)).symm)
  rw [StableHlo.held_sub_split (T d) hR (afterRegion (pdats p d) (W d)),
    StableHlo.held_sub_split (T d) (tblRefs_sub_sdiff (pcfgs p).spec (pcfgs p).pre kit.pre.disj hR') (afterRegion (pdats p d) (W d)),
    e1, ← e2, ← e3]
  unfold Region.owed
  iintro ⟨Ha, HO, Ht, Hz⟩
  imodintro
  isplitl [Ha Ht Hz]
  · isplitl [Ha]; · iexact Ha
    isplitl [Ht]; · iexact Ht
    iexact Hz
  unfold Dat.owesAt owesWithin Dat.bound
  rw [howed d (Fin.last _), hrec d]
  icases HO with ⟨%Wd, %hW, HO⟩
  iexists Wd
  isplitr
  · ipureintro
    intro x hx
    rcases hW hx with h | ⟨w, s, h⟩
    · exact h
    · rw [h]
      exact Nat.zero_le _
  iexact HO

/-- The call as a segment of the program, entered and left with the set `R` of arrays held. -/
def seg (kit : PLaunchFacts (nD := nD) (τ := τ) (pcfgs (F := F)) p) (W : Dev nD → Valuation τ sig (Elt F))
    (R : Finset (DevRef τ sig)) (hR : arrRefs (pcfgs (F := F) p).spec ⊆ R) (hR' : tblRefs (pcfgs (F := F) p).pre ⊆ R)
    (hshare : ∀ d w, (pdats p d).share w = fullShare)
    (howed : ∀ d t, (pdats p d).owed t = (K (F := F)).Otc d n)
    (hrec : ∀ d t, (pdats p d).recorded t = {x | (K (F := F)).lev (T d, x.1) x.2 ≤ 8 * n})
    (hΦ : ∀ d t, (pdats p d).Φ t = iprop(scopedRest (pin pcfgs a p).spec d ∗ tablesAt pcfgs a p d))
    (hA : ∀ d w, (pdats p d).arrAt w 0 = W d (Proc.devRef .tc (arrRef (pin pcfgs a p).spec w)))
    (hT : ∀ d k, (a p).1 k = W d (Proc.devRef .tc ((pcfgs p).pre.ref k)))
    (hbody : ∀ d, BodyObligationLoose (pdats p d) (defs₀ (F := F)) 𝒱₀ none Set.univ) :
    RegionSeg pcfgs a pdats none (defs₀ (F := F)) 𝒱₀ (K (F := F)).L (K (F := F)).lev p where
  win := kit.to₀.win
  block_pos := kit.to₀.block_pos
  stage_whole := kit.to₀.stage_whole
  K := PEmpty
  osem k := k.elim
  ho := OwnSemFacts.none _
  hbody := hbody
  hwaits d := cellsWaits_intro (pin pcfgs a) pdats none p d fun w s t => by
    rw [howed d t]
    exact (K (F := F)).mayWait_none _ (fun g => Otc_none n d g)
  pre d := iprop(StableHlo.held (T d) R (W d) ∗ owed (F := F) n d)
  post d := iprop(StableHlo.held (T d) R (afterRegion (pdats p d) (W d)) ∗ owed (F := F) n d)
  X _ := iprop(emp)
  Y d := tablesAt pcfgs a p d
  Z d := StableHlo.held (T d) ((R \ arrRefs (pcfgs p).spec) \ tblRefs (pcfgs p).pre) (W d)
  hentry d := by
    rw [ownSems0_none, StableHlo.held_sub_split (T d) hR (W d),
      StableHlo.held_sub_split (T d) (tblRefs_sub_sdiff (pcfgs p).spec (pcfgs p).pre kit.pre.disj hR') (W d),
      ← arrays_held pcfgs a pdats p kit d (hshare d) ((pdats p d).arrAt · 0) (W d) (hA d),
      ← prefHeld_held (pcfgs p).pre kit.pre.inj d (a p).1 (W d) (hT d)]
    unfold Region.owed
    iintro ⟨⟨⟨Ha, Ht, Hz⟩, %Wd, %hW, HO⟩, -, -⟩
    imodintro
    isplitl [Ha]; · iexact Ha
    isplitl [Ht]; · iexact Ht
    isplitl [HO]
    · unfold Dat.owesAt owesWithin Dat.bound
      rw [howed d 0, hrec d]
      iexists Wd
      isplitr
      · ipureintro
        exact fun x hx => Or.inl (hW x hx)
      iexact HO
    isplitr [Hz]
    · iempintro
    iexact Hz
  hin d := by
    rw [hΦ d]
    iintro ⟨-, Ht, Hr⟩
    isplitl [Hr] <;> iassumption
  hout d := by
    rw [hΦ d, ownSems0_none]
    iintro ⟨Hr, Ht⟩
    isplitl [Ht]; · iexact Ht
    isplitr; · iempintro
    iexact Hr
  hexit d := exit a pdats p n kit W R hR hR' hshare howed hrec hT d

end Region

end Cert.Proof
end
-- ==== Proof.CombBody.lean ====
/- The last call's body: what one grid point of it computes from its four blocks. -/
module

public import proofs.«01_k».proof.Proof.Setup
public import Idealize.ShloMosaic.Lib.ValueIdxCore
public import Idealize.ShloMosaic.Lib.Pipeline.Value
public import Idealize.ShloMosaic.Lib.Pipeline.ValueKit.Geometry

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 ix3)

variable {F : FTy → Type} [FloatOps F]

namespace Comb

/-- The block of the sum: the residual row, plus the first weight times the first fetched row, plus
    the second weight times the second. -/
def blk (x : Vec F S512x1024 .f32) (a b : Vec F S512x8x128 .f32) (w : Vec F S512x128 .f32) : Vec F S512x1024 .f32 :=
  fun k =>
    FloatOps.addf (FloatOps.addf (x k) (FloatOps.mulf (w (ix2 (k 0) 0)) (a (ix3 (k 0) (Fin.ofNat 8 ((k 1).val / 128)) (Fin.ofNat 128 ((k 1).val % 128))))))
      (FloatOps.mulf (w (ix2 (k 0) 1)) (b (ix3 (k 0) (Fin.ofNat 8 ((k 1).val / 128)) (Fin.ofNat 128 ((k 1).val % 128)))))

/-- A `[512, 1, 128]` vector read as `[512, 128]`. -/
theorem cast_apply {α : Type} (v : S512x1x128.Idx → α) (h : S512x1x128.ShapeCasts S512x128) (j : S512x128.Idx) :
    shapeCast S512x128 v h j = v (ix3 (j 0) 0 (j 1)) := by
  refine shapeCast_apply v h j _ ?_
  rw [Shape.rowMajor_val_three, Shape.rowMajor_val_two]
  show ((j 0).val * 1 + 0) * 128 + (j 1).val = (j 0).val * 128 + (j 1).val
  omega

/-- One column of 128 lanes of the result, from the loads that make it. -/
theorem piece (x : Vec F S512x1024 .f32) (a b : Vec F S512x8x128 .f32) (w : Vec F S512x128 .f32) (q o : ℕ) (ho : o = 128 * q) (hq : q < 8)
    (inb : ∀ k, (![0, o] : Fin 2 → ℕ) k + S512x128.size k ≤ S512x1024.size k)
    (inb' : ∀ k, (![0, q, 0] : Fin 3 → ℕ) k + S512x1x128.size k ≤ S512x8x128.size k)
    (inb'' : ∀ k, (![0, 0] : Fin 2 → ℕ) k + S512x128.size k ≤ S512x128.size k)
    (w' x' : Vec F S512x128 .f32) (a' b' : Vec F S512x1x128 .f32)
    (hw : ∀ k, w' k = w ((Rect.unit (s := S512x128) ![0, 0] S512x128.size inb'').emb k))
    (hx : ∀ k, x' k = x ((Rect.unit (s := S512x1024) ![0, o] S512x128.size inb).emb k))
    (ha : ∀ k, a' k = a ((Rect.unit (s := S512x8x128) ![0, q, 0] S512x1x128.size inb').emb k))
    (hb : ∀ k, b' k = b ((Rect.unit (s := S512x8x128) ![0, q, 0] S512x1x128.size inb').emb k))
    (j : S512x128.Idx) :
    (addf (addf x' (mulf (broadcastTo S512x128 (extractStridedSlice S512x1 ![0, 0] w' slices_S512x128_o0_0_S512x1) broadcasts_S512x1_S512x128)
        (shapeCast S512x128 a' shapeCasts_S512x1x128_S512x128)))
      (mulf (broadcastTo S512x128 (extractStridedSlice S512x1 ![0, 1] w' slices_S512x128_o0_1_S512x1) broadcasts_S512x1_S512x128)
        (shapeCast S512x128 b' shapeCasts_S512x1x128_S512x128)) : FVec F S512x128 .f32) j
      = blk x a b w ((Rect.unit (s := S512x1024) ![0, o] S512x128.size inb).emb j) := by
  subst ho
  have e0 : (((Rect.unit (s := S512x1024) ![0, 128 * q] S512x128.size inb).emb j) 0 : Fin 512) = j 0 := by
    exact Fin.ext ((ValueKit.rect_emb_unit_val _ _ _ _ _).trans (Nat.zero_add _))
  have e1 : ((((Rect.unit (s := S512x1024) ![0, 128 * q] S512x128.size inb).emb j) 1 : Fin 1024)).val = 128 * q + (j 1).val :=
    ValueKit.rect_emb_unit_val _ _ _ _ _
  have hj : (j 1).val < 128 := (j 1).isLt
  unfold addf mulf blk
  rw [cast_apply, cast_apply, hx, ha, hb]
  have ew : ∀ (c : Fin 2) (hs), broadcastTo S512x128 (extractStridedSlice S512x1 ![0, c.val] w' hs) broadcasts_S512x1_S512x128 j
      = w (ix2 (j 0) (Fin.castLE (by omega) c)) := by
    intro c hs
    show w' _ = _
    rw [hw]
    congr 1
    funext k
    match k with
    | ⟨0, _⟩ => exact Fin.ext ((ValueKit.rect_emb_unit_val _ _ _ _ _).trans (by show 0 + (0 + (j 0).val) = (j 0).val; omega))
    | ⟨1, _⟩ => exact Fin.ext ((ValueKit.rect_emb_unit_val _ _ _ _ _).trans (by show 0 + (c.val + 0) = c.val; omega))
  have ea : ∀ v : Vec F S512x8x128 .f32, v ((Rect.unit (s := S512x8x128) ![0, q, 0] S512x1x128.size inb').emb (ix3 (j 0) 0 (j 1)))
      = v (ix3 (((Rect.unit (s := S512x1024) ![0, 128 * q] S512x128.size inb).emb j) 0)
          (Fin.ofNat 8 ((((Rect.unit (s := S512x1024) ![0, 128 * q] S512x128.size inb).emb j) 1).val / 128))
          (Fin.ofNat 128 ((((Rect.unit (s := S512x1024) ![0, 128 * q] S512x128.size inb).emb j) 1).val % 128))) := by
    intro v
    congr 1
    funext k
    match k with
    | ⟨0, _⟩ => exact Fin.ext ((ValueKit.rect_emb_unit_val _ _ _ _ _).trans ((Nat.zero_add _).trans (congrArg Fin.val e0).symm))
    | ⟨1, _⟩ => exact Fin.ext ((ValueKit.rect_emb_unit_val _ _ _ _ _).trans (by show q + 0 = _ % 8; rw [e1]; omega))
    | ⟨2, _⟩ => exact Fin.ext ((ValueKit.rect_emb_unit_val _ _ _ _ _).trans (by show 0 + (j 1).val = _ % 128; rw [e1]; omega))
  have w0 := ew 0 slices_S512x128_o0_0_S512x1
  have w1 := ew 1 slices_S512x128_o0_1_S512x1
  rw [← e0] at w0 w1
  rw [ea a, ea b]
  exact congrArg₂ _ (congrArg₂ _ rfl (congrArg₂ _ w0 rfl)) (congrArg₂ _ w1 rfl)

set_option maxHeartbeats 2000000 in
theorem body (d : Dev nD) (i : grid3.Coords)
    (M1 : Memref sig .tc .vmem S512x1024 .f32) (h1 : M1.IsWhole) (M2 : Memref sig .tc .vmem S512x8x128 .f32) (h2 : M2.IsWhole)
    (M3 : Memref sig .tc .vmem S512x8x128 .f32) (h3 : M3.IsWhole) (M4 : Memref sig .tc .vmem S512x128 .f32) (h4 : M4.IsWhole)
    (M5 : Memref sig .tc .vmem S512x1024 .f32) (h5 : M5.IsWhole)
    (x : Vec F S512x1024 .f32) (a b : Vec F S512x8x128 .f32) (w : Vec F S512x128 .f32) :
    (iprop(owns (T d) M1 fullShare x ∗ owns (T d) M2 fullShare a ∗ owns (T d) M3 fullShare b ∗ owns (T d) M4 fullShare w
        ∗ (∃ o, owns (T d) M5 fullShare o)) : sProp (MM F))
      ⊢ wp frame (wpE (defs₀ (F := F)) 𝒱₀ (T d) none) Set.univ (cc3__comb_kernel i M1 h1 M2 h2 M3 h3 M4 h4 M5 h5) fun _ =>
        iprop(owns (T d) M1 fullShare x ∗ owns (T d) M2 fullShare a ∗ owns (T d) M3 fullShare b ∗ owns (T d) M4 fullShare w
          ∗ owns (T d) M5 fullShare (blk x a b w)) := by
  rw [cc3__comb_kernel_eq_skeleton]
  unfold owns cc3__comb_kernel_skel
  rw [k3_part1_eq_skeleton, k3_part2_eq_skeleton, k3_part3_eq_skeleton]
  unfold k3_part1_skel k3_part2_skel k3_part3_skel
  iintro ⟨⟨%f1, %e1, H1⟩, ⟨%f2, %e2, H2⟩, ⟨%f3, %e3, H3⟩, ⟨%f4, %e4, H4⟩, ⟨%o, %f5, -, H5⟩⟩
  sl_exec
  sl_step
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists _; isplitr
  swap; · iexact H5
  ipureintro
  funext y
  subst e1 e2 e3 e4
  refine View.read_writes_apply_of_pieces M5.view f5 (blk _ _ _ _) _ ?_ y ?_
  · simp only [List.forall_mem_cons, List.not_mem_nil, false_imp_iff, implies_true, and_true]
    refine ⟨?_, ?_, ?_, ?_, ?_, ?_, ?_, ?_⟩
    · exact piece _ _ _ _ 7 896 rfl (by omega) _ inb_S512x8x128_S512x1x128_0_7_0 inb_S512x128_S512x128_0_0 _ _ _ _ (fun _ => rfl) (fun _ => rfl) (fun _ => rfl) (fun _ => rfl)
    · exact piece _ _ _ _ 6 768 rfl (by omega) _ inb_S512x8x128_S512x1x128_0_6_0 inb_S512x128_S512x128_0_0 _ _ _ _ (fun _ => rfl) (fun _ => rfl) (fun _ => rfl) (fun _ => rfl)
    · exact piece _ _ _ _ 5 640 rfl (by omega) _ inb_S512x8x128_S512x1x128_0_5_0 inb_S512x128_S512x128_0_0 _ _ _ _ (fun _ => rfl) (fun _ => rfl) (fun _ => rfl) (fun _ => rfl)
    · exact piece _ _ _ _ 4 512 rfl (by omega) _ inb_S512x8x128_S512x1x128_0_4_0 inb_S512x128_S512x128_0_0 _ _ _ _ (fun _ => rfl) (fun _ => rfl) (fun _ => rfl) (fun _ => rfl)
    · exact piece _ _ _ _ 3 384 rfl (by omega) _ inb_S512x8x128_S512x1x128_0_3_0 inb_S512x128_S512x128_0_0 _ _ _ _ (fun _ => rfl) (fun _ => rfl) (fun _ => rfl) (fun _ => rfl)
    · exact piece _ _ _ _ 2 256 rfl (by omega) _ inb_S512x8x128_S512x1x128_0_2_0 inb_S512x128_S512x128_0_0 _ _ _ _ (fun _ => rfl) (fun _ => rfl) (fun _ => rfl) (fun _ => rfl)
    · exact piece _ _ _ _ 1 128 rfl (by omega) _ inb_S512x8x128_S512x1x128_0_1_0 inb_S512x128_S512x128_0_0 _ _ _ _ (fun _ => rfl) (fun _ => rfl) (fun _ => rfl) (fun _ => rfl)
    · exact piece _ _ _ _ 0 0 rfl (by omega) _ inb_S512x8x128_S512x1x128_0_0_0 inb_S512x128_S512x128_0_0 _ _ _ _ (fun _ => rfl) (fun _ => rfl) (fun _ => rfl) (fun _ => rfl)
  · have hy0 : (y 0).val < 512 := (y 0).isLt
    have hy1 : (y 1).val < 1024 := (y 1).isLt
    simp only [List.exists_mem_cons_iff, List.not_mem_nil, false_and, exists_false, or_false, Rect.mem_set_unit, Fin.forall_fin_two]
    simp
    omega

end Comb

end Cert.Proof
end
-- ==== Proof.CombRegion.lean ====
/- The combining call as a region: at point `t` it reads rows `512·t … 512·t + 511` of its four arrays and
   writes those rows of the result, so that the result is the combination at every row. -/
module

public import proofs.«01_k».proof.Proof.Region
public import proofs.«01_k».proof.Proof.CombBody
public import Idealize.ShloMosaic.Lib.Pipeline.ValueKit.Geometry

@[expose] public section

noncomputable section

namespace Cert.Proof.Comb

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.ValueIdx (ix2 ix3)

variable {F : FTy → Type} [FloatOps F]

variable (a : (p : Fin 2) → (pcfgs (F := F) p).Adm) (d : Dev nD) (W : Valuation τ sig (Elt F))

/-- The block window `w` moves at point `t`, as the array is at entry. -/
def inBlk (w : Fin 5) (t : Fin cfg3.N) : ((cfg3.win w).xblock (cfg3.grid.coords t)).Idx → Elt F (cfg3.win w).elt :=
  ((cfg3.win w).blk t).view.read (Elt F) (W (Proc.devRef .tc (arrRef spec3 w)))

/-- What the body leaves in each staging buffer. -/
def left : (w : Fin 5) → (t : Fin cfg3.N) → (cfg3.win w).block.Idx → Elt F (cfg3.win w).elt
  | 0, t => inBlk W 0 t
  | 1, t => inBlk W 1 t
  | 2, t => inBlk W 2 t
  | 3, t => inBlk W 3 t
  | 4, t => blk (inBlk W 0 t) (inBlk W 1 t) (inBlk W 2 t) (inBlk W 3 t)

/-- The region's proof data. -/
def dat : Dat τ (Elt F) (HIx 2) ℕ UU ℕ (pin pcfgs a 1) d :=
  Region.dat a 1 2 d (fun w => W (Proc.devRef .tc (arrRef spec3 w))) (left W)

theorem before0 (t : Fin cfg3.N) (e) : (dat a d W).before 0 t e = inBlk W 0 t :=
  Dat.before_in_eq_fetched (dat a d W) 0 rfl (fun _ => rfl) (fun _ _ _ => rfl) (fun _ => rfl) t e

theorem before1 (t : Fin cfg3.N) (e) : (dat a d W).before 1 t e = inBlk W 1 t :=
  Dat.before_in_eq_fetched (dat a d W) 1 rfl (fun _ => rfl) (fun _ _ _ => rfl) (fun _ => rfl) t e

theorem before2 (t : Fin cfg3.N) (e) : (dat a d W).before 2 t e = inBlk W 2 t :=
  Dat.before_in_eq_fetched (dat a d W) 2 rfl (fun _ => rfl) (fun _ _ _ => rfl) (fun _ => rfl) t e

theorem before3 (t : Fin cfg3.N) (e) : (dat a d W).before 3 t e = inBlk W 3 t :=
  Dat.before_in_eq_fetched (dat a d W) 3 rfl (fun _ => rfl) (fun _ _ _ => rfl) (fun _ => rfl) t e

theorem bodyOk : BodyObligationLoose (dat a d W) (defs₀ (F := F)) 𝒱₀ none Set.univ := by
  intro t
  show iprop((dat a d W).Φ t.castSucc ∗ (dat a d W).owesAt none t.castSucc
      ∗ bigSep Finset.univ fun w : Fin cfg3.W => iprop(∃ e, owns (T d) ((cfg3.win w).stage (cfg3.slots t w)) fullShare ((dat a d W).before w t e)))
    ⊢ wp frame (wpE (defs₀ (F := F)) 𝒱₀ (T d) none) Set.univ (bodyAt3 t) fun _ =>
      iprop((dat a d W).Φ t.castSucc ∗ (dat a d W).owesAt none t.castSucc
        ∗ bigSep Finset.univ fun w : Fin cfg3.W => owns (T d) ((cfg3.win w).stage (cfg3.slots t w)) fullShare (left W w t))
  rw [bigSep_W3, bigSep_W3]
  iintro ⟨HΦ, HO, ⟨%e0, H0⟩, ⟨%e1, H1⟩, ⟨%e2, H2⟩, ⟨%e3, H3⟩, ⟨%e4, H4⟩⟩
  iapply (wp_wand_r frame _ Set.univ)
  isplitl [H0 H1 H2 H3 H4]
  · iapply (body d (grid3.coords t) _ _ _ _ _ _ _ _ _ _ (inBlk W 0 t) (inBlk W 1 t) (inBlk W 2 t) (inBlk W 3 t))
    isplitl [H0]
    · iapply (Region.ofEq (congrArg (owns (T d) ((cfg3.win 0).stage (cfg3.slots t 0)) fullShare) (before0 a d W t e0)))
      iexact H0
    isplitl [H1]
    · iapply (Region.ofEq (congrArg (owns (T d) ((cfg3.win 1).stage (cfg3.slots t 1)) fullShare) (before1 a d W t e1)))
      iexact H1
    isplitl [H2]
    · iapply (Region.ofEq (congrArg (owns (T d) ((cfg3.win 2).stage (cfg3.slots t 2)) fullShare) (before2 a d W t e2)))
      iexact H2
    isplitl [H3]
    · iapply (Region.ofEq (congrArg (owns (T d) ((cfg3.win 3).stage (cfg3.slots t 3)) fullShare) (before3 a d W t e3)))
      iexact H3
    iexists _; iexact H4
  iintro %_ ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

/-- The result, from the arrays at entry: at every row the combination. -/
def out (x : S4096x1024.Idx → F .f32) (p q : S4096x8x128.Idx → F .f32) (w : S4096x128.Idx → F .f32) : S4096x1024.Idx → F .f32 := fun k =>
  FloatOps.addf (FloatOps.addf (x k)
      (FloatOps.mulf (w (ix2 (k 0) 0)) (p (ix3 (k 0) (Fin.ofNat 8 ((k 1).val / 128)) (Fin.ofNat 128 ((k 1).val % 128))))))
    (FloatOps.mulf (w (ix2 (k 0) 1)) (q (ix3 (k 0) (Fin.ofNat 8 ((k 1).val / 128)) (Fin.ofNat 128 ((k 1).val % 128)))))

theorem index0 : ∀ t : Fin cfg3.N, win3_0.index t = ![t.val, 0] := (by decide +kernel : ∀ t : Fin grid3.N, _)
theorem index1 : ∀ t : Fin cfg3.N, win3_1.index t = ![t.val, 0, 0] := (by decide +kernel : ∀ t : Fin grid3.N, _)
theorem index2 : ∀ t : Fin cfg3.N, win3_2.index t = ![t.val, 0, 0] := (by decide +kernel : ∀ t : Fin grid3.N, _)
theorem index3 : ∀ t : Fin cfg3.N, win3_3.index t = ![t.val, 0] := (by decide +kernel : ∀ t : Fin grid3.N, _)
theorem index4 : ∀ t : Fin cfg3.N, win3_4.index t = ![t.val, 0] := (by decide +kernel : ∀ t : Fin grid3.N, _)

/-- Row `i` of point `t`'s block, as a row of the array. -/
def row (t : Fin cfg3.N) (i : Fin 512) : Fin 4096 := ⟨t.val * 512 + i.val, by
  have := t.isLt
  have h : cfg3.N = 8 := N_3
  omega⟩

theorem emb0 (t : Fin cfg3.N) (y : S512x1024.Idx) : (win3_0.blk t).view.emb y = (ix2 (row t (y 0)) (y 1) : S4096x1024.Idx) := by
  blk_ext [index0, row]
theorem emb1 (t : Fin cfg3.N) (y : S512x8x128.Idx) : (win3_1.blk t).view.emb y = (ix3 (row t (y 0)) (y 1) (y 2) : S4096x8x128.Idx) := by
  blk_ext [index1, row]
theorem emb2 (t : Fin cfg3.N) (y : S512x8x128.Idx) : (win3_2.blk t).view.emb y = (ix3 (row t (y 0)) (y 1) (y 2) : S4096x8x128.Idx) := by
  blk_ext [index2, row]
theorem emb3 (t : Fin cfg3.N) (y : S512x128.Idx) : (win3_3.blk t).view.emb y = (ix2 (row t (y 0)) (y 1) : S4096x128.Idx) := by
  blk_ext [index3, row]
theorem emb4 (t : Fin cfg3.N) (y : S512x1024.Idx) : (win3_4.blk t).view.emb y = (ix2 (row t (y 0)) (y 1) : S4096x1024.Idx) := by
  blk_ext [index4, row]

theorem blk_eq (t : Fin cfg3.N) (y : S512x1024.Idx) : blk (inBlk W 0 t) (inBlk W 1 t) (inBlk W 2 t) (inBlk W 3 t) y
    = out (W (Proc.devRef .tc main_arg5)) (W (Proc.devRef .tc main_v48)) (W (Proc.devRef .tc main_v49)) (W (Proc.devRef .tc main_arg6))
      (ix2 (row t (y 0)) (y 1)) := by
  have r0 : inBlk W 0 t y = W (Proc.devRef .tc main_arg5) (ix2 (row t (y 0)) (y 1) : S4096x1024.Idx) :=
    congrArg (W (Proc.devRef .tc main_arg5)) (emb0 t y)
  have r1 (z : S512x8x128.Idx) : inBlk W 1 t z = W (Proc.devRef .tc main_v48) (ix3 (row t (z 0)) (z 1) (z 2) : S4096x8x128.Idx) :=
    congrArg (W (Proc.devRef .tc main_v48)) (emb1 t z)
  have r2 (z : S512x8x128.Idx) : inBlk W 2 t z = W (Proc.devRef .tc main_v49) (ix3 (row t (z 0)) (z 1) (z 2) : S4096x8x128.Idx) :=
    congrArg (W (Proc.devRef .tc main_v49)) (emb2 t z)
  have r3 (z : S512x128.Idx) : inBlk W 3 t z = W (Proc.devRef .tc main_arg6) (ix2 (row t (z 0)) (z 1) : S4096x128.Idx) :=
    congrArg (W (Proc.devRef .tc main_arg6)) (emb3 t z)
  unfold blk out
  rw [r0, r1, r2, r3, r3]

theorem final : (dat a d W).arrAt 4 cfg3.N
    = out (W (Proc.devRef .tc main_arg5)) (W (Proc.devRef .tc main_v48)) (W (Proc.devRef .tc main_v49)) (W (Proc.devRef .tc main_arg6)) := by
  refine (dat a d W).arrAt_eq_of_covers 4 _ (show win3_4.Covers from by decide +kernel) fun t _ y => ?_
  exact (blk_eq W t y).trans (congrArg (out _ _ _ _) (emb4 t y).symm)

end Cert.Proof.Comb
end
-- ==== Proof.MoeBody.lean ====
/- The expert call's body: what one grid point of it computes from a block of token rows and the weights of one expert. -/
module

public import proofs.«01_k».proof.Proof.Setup
public import Idealize.ShloMosaic.Lib.ValueIdxCore
public import Idealize.ShloMosaic.Lib.Pipeline.Value
public import Idealize.ShloMosaic.Lib.Pipeline.ValueKit.Geometry

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 ix3)

variable {F : FTy → Type} [FloatOps F]

namespace Moe

/-- The 128 lanes of number `q` of every row of a block. -/
def part {e : EltTy} (a : Vec F S512x8x128 e) (q : Fin 8) : Vec F S512x1x128 e := fun k => a (ix3 (k 0) q (k 2))

/-- The feed-forward of one block of rows, as the body's own operations compute it. -/
def ffn (a : Vec F S512x8x128 .f32) (wg wu : Vec F S1x1024x512 .bf16) (wd : Vec F S1x512x1024 .bf16) : FVec F S512x1024 .f32 :=
  k1_pay4 (k1_pay3 (part a 0) (part a 1) (part a 2) (part a 3) (part a 4) (part a 5) (part a 6) (part a 7) wg wu) wd

/-- The block of results, each row of 1024 numbers as eight rows of 128. -/
def blk (a : Vec F S512x8x128 .f32) (wg wu : Vec F S1x1024x512 .bf16) (wd : Vec F S1x512x1024 .bf16) : Vec F S512x8x128 .f32 :=
  fun k => ffn a wg wu wd (ix2 (k 0) ⟨128 * (k 1).val + (k 2).val, by
    have h1 : (k 1).val < 8 := (k 1).isLt
    have h2 : (k 2).val < 128 := (k 2).isLt
    omega⟩)

/-- Loading the lanes of number `q` from a block. -/
theorem load_part {e : EltTy} (a : Vec F S512x8x128 e) (q : Fin 8) (off : Fin 3 → ℕ) (h : off = ![0, q.val, 0])
    (inb : ∀ k, off k + S512x1x128.size k ≤ S512x8x128.size k) :
    (fun k => a ((Rect.unit (s := S512x8x128) off S512x1x128.size inb).emb k)) = part a q := by
  subst h
  funext k
  unfold part
  congr 1
  have h1 : (k 1).val < 1 := (k 1).isLt
  funext x
  match x with
  | ⟨0, _⟩ => exact Fin.ext ((ValueKit.rect_emb_unit_val _ _ _ _ _).trans (Nat.zero_add _))
  | ⟨1, _⟩ => exact Fin.ext ((ValueKit.rect_emb_unit_val _ _ _ _ _).trans (by show q.val + (k 1).val = q.val; omega))
  | ⟨2, _⟩ => exact Fin.ext ((ValueKit.rect_emb_unit_val _ _ _ _ _).trans (Nat.zero_add _))

/-- Loading all of a block is the block. -/
theorem load_all {α : Type} (s : Shape) (a : s.Idx → α) (off : Fin s.rank → ℕ) (h : ∀ k, off k = 0)
    (inb : ∀ k, off k + s.size k ≤ s.size k) :
    (fun k => a ((Rect.unit (s := s) off s.size inb).emb k)) = a := by
  funext k
  congr 1
  funext x
  exact Fin.ext ((ValueKit.rect_emb_unit_val _ _ _ _ _).trans (by rw [h]; exact Nat.zero_add _))

/-- A `[512, 128]` vector read as `[512, 1, 128]`. -/
theorem cast_apply {α : Type} (v : S512x128.Idx → α) (h : S512x128.ShapeCasts S512x1x128) (j : S512x1x128.Idx) :
    shapeCast S512x1x128 v h j = v (ix2 (j 0) (j 2)) := by
  refine shapeCast_apply v h j _ ?_
  rw [Shape.rowMajor_val_three, Shape.rowMajor_val_two]
  have h1 : (j 1).val < 1 := (j 1).isLt
  show (j 0).val * 128 + (j 2).val = ((j 0).val * 1 + (j 1).val) * 128 + (j 2).val
  omega

/-- The lanes of number `q` that are stored are those of the result. -/
theorem piece (G : Vec F S512x8x128 .f32) (v : FVec F S512x1024 .f32) (q o : ℕ) (ho : o = 128 * q) (hq : q < 8)
    (hG : ∀ k : S512x8x128.Idx, ∀ h, G k = v (ix2 (k 0) ⟨128 * (k 1).val + (k 2).val, h⟩))
    (hs : S512x1024.Slices ![0, o] S512x128)
    (inb : ∀ k, (![0, q, 0] : Fin 3 → ℕ) k + S512x1x128.size k ≤ S512x8x128.size k) (j : S512x1x128.Idx) :
    shapeCast S512x1x128 (extractStridedSlice S512x128 ![0, o] v hs) shapeCasts_S512x128_S512x1x128 j
      = G ((Rect.unit (s := S512x8x128) ![0, q, 0] S512x1x128.size inb).emb j) := by
  subst ho
  have h1 : (j 1).val < 1 := (j 1).isLt
  have h2 : (j 2).val < 128 := (j 2).isLt
  have e0 : (((Rect.unit (s := S512x8x128) ![0, q, 0] S512x1x128.size inb).emb j) 0 : Fin 512) = j 0 :=
    Fin.ext ((ValueKit.rect_emb_unit_val _ _ _ _ _).trans (Nat.zero_add _))
  have e1 : ((((Rect.unit (s := S512x8x128) ![0, q, 0] S512x1x128.size inb).emb j) 1 : Fin 8)).val = q :=
    (ValueKit.rect_emb_unit_val _ _ _ _ _).trans (by show q + (j 1).val = q; omega)
  have e2 : ((((Rect.unit (s := S512x8x128) ![0, q, 0] S512x1x128.size inb).emb j) 2 : Fin 128)).val = (j 2).val :=
    (ValueKit.rect_emb_unit_val _ _ _ _ _).trans (Nat.zero_add _)
  rw [cast_apply, hG _ (by rw [e1, e2]; omega)]
  unfold extractStridedSlice
  congr 1
  funext x
  match x with
  | ⟨0, _⟩ => exact Fin.ext (by show 0 + (j 0).val = _; exact (Nat.zero_add _).trans (congrArg Fin.val e0).symm)
  | ⟨1, _⟩ => exact Fin.ext (by show 128 * q + (j 2).val = 128 * _ + _; rw [e1, e2])

set_option maxHeartbeats 2000000 in
theorem body (d : Dev nD) (i : grid1.Coords)
    (M1 : Memref sig .tc .smem S128 .i32) (h1 : M1.IsWhole) (M2 : Memref sig .tc .smem S128 .i32) (h2 : M2.IsWhole)
    (M3 : Memref sig .tc .vmem S512x8x128 .f32) (h3 : M3.IsWhole) (M4 : Memref sig .tc .vmem S1x1024x512 .bf16) (h4 : M4.IsWhole)
    (M5 : Memref sig .tc .vmem S1x1024x512 .bf16) (h5 : M5.IsWhole) (M6 : Memref sig .tc .vmem S1x512x1024 .bf16) (h6 : M6.IsWhole)
    (M7 : Memref sig .tc .vmem S512x8x128 .f32) (h7 : M7.IsWhole)
    (a : Vec F S512x8x128 .f32) (wg wu : Vec F S1x1024x512 .bf16) (wd : Vec F S1x512x1024 .bf16) :
    (iprop(owns (T d) M3 fullShare a ∗ owns (T d) M4 fullShare wg ∗ owns (T d) M5 fullShare wu ∗ owns (T d) M6 fullShare wd
        ∗ (∃ o, owns (T d) M7 fullShare o)) : sProp (MM F))
      ⊢ wp frame (wpE (defs₀ (F := F)) 𝒱₀ (T d) none) Set.univ (cc1__moe2_kernel i M1 h1 M2 h2 M3 h3 M4 h4 M5 h5 M6 h6 M7 h7) fun _ =>
        iprop(owns (T d) M3 fullShare a ∗ owns (T d) M4 fullShare wg ∗ owns (T d) M5 fullShare wu ∗ owns (T d) M6 fullShare wd
          ∗ owns (T d) M7 fullShare (blk a wg wu wd)) := by
  rw [cc1__moe2_kernel_eq_skeleton]
  unfold owns cc1__moe2_kernel_skel
  rw [k1_part1_eq_skeleton, k1_part2_eq_skeleton]
  unfold k1_part1_skel k1_part2_skel
  iintro ⟨⟨%f1, %e1, H1⟩, ⟨%f2, %e2, H2⟩, ⟨%f3, %e3, H3⟩, ⟨%f4, %e4, H4⟩, ⟨%o, %f5, -, H5⟩⟩
  sl_exec
  sl_step
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists _; isplitr
  swap; · iexact H5
  ipureintro
  have hv : ffn a wg wu wd = k1_pay4 (k1_pay3 (M3.view.readAt (Elt F) (Rect.unit (s := S512x8x128) ![0, 0, 0] S512x1x128.size inb_S512x8x128_S512x1x128_0_0_0).toLoadRect f1)
      (M3.view.readAt (Elt F) (Rect.unit (s := S512x8x128) ![0, 1, 0] S512x1x128.size inb_S512x8x128_S512x1x128_0_1_0).toLoadRect f1)
      (M3.view.readAt (Elt F) (Rect.unit (s := S512x8x128) ![0, 2, 0] S512x1x128.size inb_S512x8x128_S512x1x128_0_2_0).toLoadRect f1)
      (M3.view.readAt (Elt F) (Rect.unit (s := S512x8x128) ![0, 3, 0] S512x1x128.size inb_S512x8x128_S512x1x128_0_3_0).toLoadRect f1)
      (M3.view.readAt (Elt F) (Rect.unit (s := S512x8x128) ![0, 4, 0] S512x1x128.size inb_S512x8x128_S512x1x128_0_4_0).toLoadRect f1)
      (M3.view.readAt (Elt F) (Rect.unit (s := S512x8x128) ![0, 5, 0] S512x1x128.size inb_S512x8x128_S512x1x128_0_5_0).toLoadRect f1)
      (M3.view.readAt (Elt F) (Rect.unit (s := S512x8x128) ![0, 6, 0] S512x1x128.size inb_S512x8x128_S512x1x128_0_6_0).toLoadRect f1)
      (M3.view.readAt (Elt F) (Rect.unit (s := S512x8x128) ![0, 7, 0] S512x1x128.size inb_S512x8x128_S512x1x128_0_7_0).toLoadRect f1)
      (M4.view.readAt (Elt F) (Rect.unit (s := S1x1024x512) ![0, 0, 0] S1x1024x512.size inb_S1x1024x512_S1x1024x512_0_0_0).toLoadRect f2)
      (M5.view.readAt (Elt F) (Rect.unit (s := S1x1024x512) ![0, 0, 0] S1x1024x512.size inb_S1x1024x512_S1x1024x512_0_0_0).toLoadRect f3))
      (M6.view.readAt (Elt F) (Rect.unit (s := S1x512x1024) ![0, 0, 0] S1x512x1024.size inb_S1x512x1024_S1x512x1024_0_0_0).toLoadRect f4) := by
    subst e1 e2 e3 e4
    unfold ffn
    congr 1
    · congr 1
      · exact (load_part _ 0 _ rfl inb_S512x8x128_S512x1x128_0_0_0).symm
      · exact (load_part _ 1 _ rfl inb_S512x8x128_S512x1x128_0_1_0).symm
      · exact (load_part _ 2 _ rfl inb_S512x8x128_S512x1x128_0_2_0).symm
      · exact (load_part _ 3 _ rfl inb_S512x8x128_S512x1x128_0_3_0).symm
      · exact (load_part _ 4 _ rfl inb_S512x8x128_S512x1x128_0_4_0).symm
      · exact (load_part _ 5 _ rfl inb_S512x8x128_S512x1x128_0_5_0).symm
      · exact (load_part _ 6 _ rfl inb_S512x8x128_S512x1x128_0_6_0).symm
      · exact (load_part _ 7 _ rfl inb_S512x8x128_S512x1x128_0_7_0).symm
      · exact (load_all S1x1024x512 _ _ (by intro k; fin_cases k <;> rfl) inb_S1x1024x512_S1x1024x512_0_0_0).symm
      · exact (load_all S1x1024x512 _ _ (by intro k; fin_cases k <;> rfl) inb_S1x1024x512_S1x1024x512_0_0_0).symm
    · exact (load_all S1x512x1024 _ _ (by intro k; fin_cases k <;> rfl) inb_S1x512x1024_S1x512x1024_0_0_0).symm
  have hG : ∀ k : S512x8x128.Idx, ∀ h, blk a wg wu wd k = ffn a wg wu wd (ix2 (k 0) ⟨128 * (k 1).val + (k 2).val, h⟩) := fun k h => rfl
  rw [hv] at hG
  clear hv
  generalize blk a wg wu wd = G at hG ⊢
  funext y
  refine View.read_writes_apply_of_pieces M7.view f5 G _ ?_ y ?_
  · simp only [List.forall_mem_cons, List.not_mem_nil, false_imp_iff, implies_true, and_true]
    refine ⟨?_, ?_, ?_, ?_, ?_, ?_, ?_, ?_⟩
    · exact piece G _ 7 896 rfl (by omega) hG slices_S512x1024_o0_896_S512x128 _
    · exact piece G _ 6 768 rfl (by omega) hG slices_S512x1024_o0_768_S512x128 _
    · exact piece G _ 5 640 rfl (by omega) hG slices_S512x1024_o0_640_S512x128 _
    · exact piece G _ 4 512 rfl (by omega) hG slices_S512x1024_o0_512_S512x128 _
    · exact piece G _ 3 384 rfl (by omega) hG slices_S512x1024_o0_384_S512x128 _
    · exact piece G _ 2 256 rfl (by omega) hG slices_S512x1024_o0_256_S512x128 _
    · exact piece G _ 1 128 rfl (by omega) hG slices_S512x1024_o0_128_S512x128 _
    · exact piece G _ 0 0 rfl (by omega) hG slices_S512x1024_o0_0_S512x128 _
  · have hy0 : (y 0).val < 512 := (y 0).isLt
    have hy1 : (y 1).val < 8 := (y 1).isLt
    have hy2 : (y 2).val < 128 := (y 2).isLt
    simp only [List.exists_mem_cons_iff, List.not_mem_nil, false_and, exists_false, or_false, Rect.mem_set_unit, Fin.forall_fin_succ]
    simp
    omega

end Moe

end Cert.Proof
end
-- ==== Proof.MoeRegion.lean ====
/- The expert call as a region: two tables, prefetched, give for every grid point a block of 512 slots and
   the expert whose weights it takes. Where every listed block belongs to the expert listed beside it, what
   the call leaves in a listed block is that expert's network at the block's rows, whatever the order of the
   list and however often a block is repeated in it. -/
module

public import proofs.«01_k».proof.Proof.Region
public import proofs.«01_k».proof.Proof.MoeBody
public import Idealize.ShloMosaic.Lib.Pipeline.ValueKit.Geometry
public import Idealize.ShloMosaic.Lib.Pipeline.Covers

@[expose] public section

noncomputable section

namespace Cert.Proof.Moe

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.ValueIdx (ix2 ix3)

variable {F : FTy → Type} [FloatOps F]

/-! ## The tables -/

/-- The expert and the block a point is given. -/
def expert (pf : pre1.Contents (Elt F)) (t : Fin 128) : ℕ := BitVec.toNat (show BitVec 32 from pf 0 (ValueIdx.ix1 t))
def block (pf : pre1.Contents (Elt F)) (t : Fin 128) : ℕ := BitVec.toNat (show BitVec 32 from pf 1 (ValueIdx.ix1 t))

/-- The tables name experts and blocks there are. -/
structure Tables (pf : pre1.Contents (Elt F)) : Prop where
  expert_lt : ∀ t, expert pf t < 8
  block_eq : ∀ t, block pf t / 8 = expert pf t

theorem Tables.block_lt {pf : pre1.Contents (Elt F)} (h : Tables pf) (t : Fin 128) : block pf t < 64 := by
  have h1 := h.expert_lt t
  have h2 := h.block_eq t
  omega

/-- Grid point `i` as a position of the tables. -/
def pos (i : grid1.Coords) : Fin 128 := ⟨(i 0).val, (i 0).isLt.trans_le (by decide)⟩

theorem load_at (i : grid1.Coords)
    (j : (Rect.unit (s := S128) ![(Scalar.indexCast (BitVec.ofNat 32 (i 0).val) : Index).toNat] S1.size (k1_off1_inb i)).shape.Idx) :
    (Rect.unit (s := S128) ![(Scalar.indexCast (BitVec.ofNat 32 (i 0).val) : Index).toNat] S1.size (k1_off1_inb i)).emb j
      = ValueIdx.ix1 (pos i) := by
  funext x
  apply Fin.ext
  refine (ValueKit.rect_emb_unit_val _ _ _ j x).trans ?_
  have hi : (i 0).val < 23 := (i 0).isLt
  fin_cases x
  have hj : (j 0).val < 1 := (j 0).isLt
  show (BitVec.ofNat 32 (i 0).val).toNat + (j 0).val = (i 0).val
  rw [BitVec.toNat_ofNat, Nat.mod_eq_of_lt (by omega)]
  omega

theorem transform_0 (pf : pre1.Contents (Elt F)) (i : grid1.Coords) :
    cc1_transform_0 k1_off1_inb numel1_S1 pf i = ![block pf (pos i), 0, 0] :=
  congrArg (fun z => ![BitVec.toNat (show BitVec 32 from pf 1 z), 0, 0]) (load_at i _)
theorem transform_1 (pf : pre1.Contents (Elt F)) (i : grid1.Coords) :
    cc1_transform_1 k1_off1_inb numel1_S1 pf i = ![expert pf (pos i), 0, 0] :=
  congrArg (fun z => ![BitVec.toNat (show BitVec 32 from pf 0 z), 0, 0]) (load_at i _)
theorem transform_2 (pf : pre1.Contents (Elt F)) (i : grid1.Coords) :
    cc1_transform_2 k1_off1_inb numel1_S1 pf i = ![expert pf (pos i), 0, 0] :=
  congrArg (fun z => ![BitVec.toNat (show BitVec 32 from pf 0 z), 0, 0]) (load_at i _)
theorem transform_3 (pf : pre1.Contents (Elt F)) (i : grid1.Coords) :
    cc1_transform_3 k1_off1_inb numel1_S1 pf i = ![expert pf (pos i), 0, 0] :=
  congrArg (fun z => ![BitVec.toNat (show BitVec 32 from pf 0 z), 0, 0]) (load_at i _)
theorem transform_4 (pf : pre1.Contents (Elt F)) (i : grid1.Coords) :
    cc1_transform_4 k1_off1_inb numel1_S1 pf i = ![block pf (pos i), 0, 0] :=
  congrArg (fun z => ![BitVec.toNat (show BitVec 32 from pf 1 z), 0, 0]) (load_at i _)

/-- Tables that name experts and blocks there are pass the region's check. -/
theorem Tables.ok {pf : pre1.Contents (Elt F)} (h : Tables pf) : ok1 pf := by
  have hb (i : grid1.Coords) : ∀ x, (![block pf (pos i), 0, 0] x + 1) * S512x8x128.size x ≤ S32768x8x128.size x := by
    have := h.block_lt (pos i)
    intro x
    fin_cases x <;> simp <;> omega
  have he (i : grid1.Coords) : ∀ x, (![expert pf (pos i), 0, 0] x + 1) * S1x1024x512.size x ≤ S8x1024x512.size x := by
    have := h.expert_lt (pos i)
    intro x
    fin_cases x <;> simp <;> omega
  have he' (i : grid1.Coords) : ∀ x, (![expert pf (pos i), 0, 0] x + 1) * S1x512x1024.size x ≤ S8x512x1024.size x := by
    have := h.expert_lt (pos i)
    intro x
    fin_cases x <;> simp <;> omega
  refine ⟨fun i => ?_, fun i => ?_, fun i => ?_, fun i => ?_, fun i => ?_⟩
  · rw [transform_0]; exact ⟨hb i, .inl rfl⟩
  · rw [transform_1]; exact ⟨he i, .inr (.inr ⟨by decide, rfl, rfl, rfl⟩)⟩
  · rw [transform_2]; exact ⟨he i, .inr (.inr ⟨by decide, rfl, rfl, rfl⟩)⟩
  · rw [transform_3]; exact ⟨he' i, .inr (.inr ⟨by decide, rfl, rfl, rfl⟩)⟩
  · rw [transform_4]; exact ⟨hb i, .inl rfl⟩

variable (a : (p : Fin 2) → (pcfgs (F := F) p).Adm) (d : Dev nD) (W : Valuation τ sig (Elt F))

/-- The block window `w` moves at point `t`, as the array is at entry. -/
def inBlk (w : Fin 5) (t : Fin grid1.N) : ((win1 (a 0) w).xblock (grid1.coords t)).Idx → Elt F (win1 (a 0) w).elt :=
  ((win1 (a 0) w).blk t).view.read (Elt F) (W (Proc.devRef .tc (arrRef spec1 w)))

/-- What the body leaves in each staging buffer. -/
def left : (w : Fin 5) → (t : Fin grid1.N) → (win1 (a 0) w).block.Idx → Elt F (win1 (a 0) w).elt
  | 0, t => inBlk a W 0 t
  | 1, t => inBlk a W 1 t
  | 2, t => inBlk a W 2 t
  | 3, t => inBlk a W 3 t
  | 4, t => blk (inBlk a W 0 t) (inBlk a W 1 t) (inBlk a W 2 t) (inBlk a W 3 t)

/-- The region's proof data. -/
def dat : Dat τ (Elt F) (HIx 2) ℕ UU ℕ (pin pcfgs a 0) d :=
  Region.dat a 0 1 d (fun w => W (Proc.devRef .tc (arrRef spec1 w))) (left a W)

theorem before0 (t : Fin grid1.N) (e) : (dat a d W).before 0 t e = inBlk a W 0 t :=
  Dat.before_in_eq_fetched (dat a d W) 0 rfl (fun _ => rfl) (fun _ _ _ => rfl) (fun _ => rfl) t e

theorem before1 (t : Fin grid1.N) (e) : (dat a d W).before 1 t e = inBlk a W 1 t :=
  Dat.before_in_eq_fetched (dat a d W) 1 rfl (fun _ => rfl) (fun _ _ _ => rfl) (fun _ => rfl) t e

theorem before2 (t : Fin grid1.N) (e) : (dat a d W).before 2 t e = inBlk a W 2 t :=
  Dat.before_in_eq_fetched (dat a d W) 2 rfl (fun _ => rfl) (fun _ _ _ => rfl) (fun _ => rfl) t e

theorem before3 (t : Fin grid1.N) (e) : (dat a d W).before 3 t e = inBlk a W 3 t :=
  Dat.before_in_eq_fetched (dat a d W) 3 rfl (fun _ => rfl) (fun _ _ _ => rfl) (fun _ => rfl) t e

theorem bodyOk : BodyObligationLoose (dat a d W) (defs₀ (F := F)) 𝒱₀ none Set.univ := by
  intro t
  show iprop((dat a d W).Φ t.castSucc ∗ (dat a d W).owesAt none t.castSucc
      ∗ bigSep Finset.univ fun w : Fin 5 => iprop(∃ e, owns (T d) ((win1 (a 0) w).stage ((cfg1 (a 0)).slots t w)) fullShare ((dat a d W).before w t e)))
    ⊢ wp frame (wpE (defs₀ (F := F)) 𝒱₀ (T d) none) Set.univ
        (cc1__moe2_kernel (grid1.coords t) (Memref.whole main_arg3) (Memref.isWhole_whole _) (Memref.whole main_arg4) (Memref.isWhole_whole _)
          (spec1_0.stage ((cfg1 (a 0)).slots t 0)) (hstage1_0 (((cfg1 (a 0)).slots t 0).cast nbuf1_0)) (spec1_1.stage ((cfg1 (a 0)).slots t 1)) (hstage1_1 (((cfg1 (a 0)).slots t 1).cast nbuf1_1))
          (spec1_2.stage ((cfg1 (a 0)).slots t 2)) (hstage1_2 (((cfg1 (a 0)).slots t 2).cast nbuf1_2)) (spec1_3.stage ((cfg1 (a 0)).slots t 3)) (hstage1_3 (((cfg1 (a 0)).slots t 3).cast nbuf1_3))
          (spec1_4.stage ((cfg1 (a 0)).slots t 4)) (hstage1_4 (((cfg1 (a 0)).slots t 4).cast nbuf1_4))) fun _ =>
      iprop((dat a d W).Φ t.castSucc ∗ (dat a d W).owesAt none t.castSucc
        ∗ bigSep Finset.univ fun w : Fin 5 => owns (T d) ((win1 (a 0) w).stage ((cfg1 (a 0)).slots t w)) fullShare (left a W w t))
  rw [bigSep_W1, bigSep_W1]
  iintro ⟨HΦ, HO, ⟨%e0, H0⟩, ⟨%e1, H1⟩, ⟨%e2, H2⟩, ⟨%e3, H3⟩, ⟨%e4, H4⟩⟩
  iapply (wp_wand_r frame _ Set.univ)
  isplitl [H0 H1 H2 H3 H4]
  · iapply (body d (grid1.coords t) _ _ _ _ _ _ _ _ _ _ _ _ _ _ (inBlk a W 0 t) (inBlk a W 1 t) (inBlk a W 2 t) (inBlk a W 3 t))
    isplitl [H0]
    · iapply (Region.ofEq (congrArg (owns (T d) ((win1 (a 0) 0).stage ((cfg1 (a 0)).slots t 0)) fullShare) (before0 a d W t e0)))
      iexact H0
    isplitl [H1]
    · iapply (Region.ofEq (congrArg (owns (T d) ((win1 (a 0) 1).stage ((cfg1 (a 0)).slots t 1)) fullShare) (before1 a d W t e1)))
      iexact H1
    isplitl [H2]
    · iapply (Region.ofEq (congrArg (owns (T d) ((win1 (a 0) 2).stage ((cfg1 (a 0)).slots t 2)) fullShare) (before2 a d W t e2)))
      iexact H2
    isplitl [H3]
    · iapply (Region.ofEq (congrArg (owns (T d) ((win1 (a 0) 3).stage ((cfg1 (a 0)).slots t 3)) fullShare) (before3 a d W t e3)))
      iexact H3
    iexists _; iexact H4
  iintro %_ ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

/-! ## The result -/

/-- Every block of 512 slots through its expert's network: block `g` belongs to expert `g / 8`. -/
def out (x : S32768x8x128.Idx → F .f32) (wg wu : S8x1024x512.Idx → F .bf16) (wd : S8x512x1024.Idx → F .bf16) :
    S32768x8x128.Idx → F .f32 := fun k =>
  have hk : (k 0).val < 32768 := (k 0).isLt
  blk (fun j => x (ix3 ⟨(k 0).val / 512 * 512 + (j 0).val, by have : (j 0).val < 512 := (j 0).isLt; omega⟩ (j 1) (j 2)))
    (fun j => wg (ix3 ⟨(k 0).val / 4096, by omega⟩ (j 1) (j 2))) (fun j => wu (ix3 ⟨(k 0).val / 4096, by omega⟩ (j 1) (j 2)))
    (fun j => wd (ix3 ⟨(k 0).val / 4096, by omega⟩ (j 1) (j 2)))
    (ix3 ⟨(k 0).val % 512, by omega⟩ (k 1) (k 2))

theorem out_at (x : S32768x8x128.Idx → F .f32) (wg wu : S8x1024x512.Idx → F .bf16) (wd : S8x512x1024.Idx → F .bf16)
    (k : S32768x8x128.Idx) (g : Fin 64) (e : Fin 8) (i : Fin 512) (hg : (k 0).val / 512 = g.val) (he : (k 0).val / 4096 = e.val)
    (hi : (k 0).val % 512 = i.val) :
    out x wg wu wd k = blk (fun j => x (ix3 ⟨g.val * 512 + (j 0).val, by have : (j 0).val < 512 := (j 0).isLt; omega⟩ (j 1) (j 2)))
      (fun j => wg (ix3 e (j 1) (j 2))) (fun j => wu (ix3 e (j 1) (j 2))) (fun j => wd (ix3 e (j 1) (j 2))) (ix3 i (k 1) (k 2)) := by
  obtain ⟨g, hg'⟩ := g
  obtain ⟨e, he'⟩ := e
  obtain ⟨i, hi'⟩ := i
  dsimp only at hg he hi
  subst hg he hi
  rfl

/-- The position of point `t`. -/
def at_ (t : Fin grid1.N) : Fin 128 := pos (grid1.coords t)

theorem index_0 (t : Fin grid1.N) : (win1 (a 0) 0).index t = ![block (a 0).1 (at_ t), 0, 0] := transform_0 _ _
theorem index_1 (t : Fin grid1.N) : (win1 (a 0) 1).index t = ![expert (a 0).1 (at_ t), 0, 0] := transform_1 _ _
theorem index_2 (t : Fin grid1.N) : (win1 (a 0) 2).index t = ![expert (a 0).1 (at_ t), 0, 0] := transform_2 _ _
theorem index_3 (t : Fin grid1.N) : (win1 (a 0) 3).index t = ![expert (a 0).1 (at_ t), 0, 0] := transform_3 _ _
theorem index_4 (t : Fin grid1.N) : (win1 (a 0) 4).index t = ![block (a 0).1 (at_ t), 0, 0] := transform_4 _ _

variable {a} (hT : Tables (a 0).1)
include hT

/-- Slot `i` of point `t`'s block. -/
def slot (t : Fin grid1.N) (i : Fin 512) : Fin 32768 :=
  ⟨block (a 0).1 (at_ t) * 512 + i.val, by have := hT.block_lt (at_ t); omega⟩

theorem emb_0 (t : Fin grid1.N) (y : S512x8x128.Idx) :
    ((win1 (a 0) 0).blk t).view.emb y = (ix3 (slot hT t (y 0)) (y 1) (y 2) : S32768x8x128.Idx) := by
  blk_ext [slot]
  · exact congrArg (· * 512 + (y 0).val) (congrFun (index_0 a t) 0)
  · exact (congrArg (· * 8 + (y 1).val) (congrFun (index_0 a t) 1)).trans (show 0 * 8 + (y 1).val = (y 1).val by omega)
  · exact (congrArg (· * 128 + (y 2).val) (congrFun (index_0 a t) 2)).trans (show 0 * 128 + (y 2).val = (y 2).val by omega)
theorem emb_1 (t : Fin grid1.N) (y : S1x1024x512.Idx) :
    ((win1 (a 0) 1).blk t).view.emb y = (ix3 ⟨expert (a 0).1 (at_ t), hT.expert_lt _⟩ (y 1) (y 2) : S8x1024x512.Idx) := by
  blk_ext
  · exact congrFun (index_1 a t) 0
  · exact (congrArg (· * 1024 + (y 1).val) (congrFun (index_1 a t) 1)).trans (show 0 * 1024 + (y 1).val = (y 1).val by omega)
  · exact (congrArg (· * 512 + (y 2).val) (congrFun (index_1 a t) 2)).trans (show 0 * 512 + (y 2).val = (y 2).val by omega)
theorem emb_2 (t : Fin grid1.N) (y : S1x1024x512.Idx) :
    ((win1 (a 0) 2).blk t).view.emb y = (ix3 ⟨expert (a 0).1 (at_ t), hT.expert_lt _⟩ (y 1) (y 2) : S8x1024x512.Idx) := by
  blk_ext
  · exact congrFun (index_2 a t) 0
  · exact (congrArg (· * 1024 + (y 1).val) (congrFun (index_2 a t) 1)).trans (show 0 * 1024 + (y 1).val = (y 1).val by omega)
  · exact (congrArg (· * 512 + (y 2).val) (congrFun (index_2 a t) 2)).trans (show 0 * 512 + (y 2).val = (y 2).val by omega)
theorem emb_3 (t : Fin grid1.N) (y : S1x512x1024.Idx) :
    ((win1 (a 0) 3).blk t).view.emb y = (ix3 ⟨expert (a 0).1 (at_ t), hT.expert_lt _⟩ (y 1) (y 2) : S8x512x1024.Idx) := by
  blk_ext
  · exact congrFun (index_3 a t) 0
  · exact (congrArg (· * 512 + (y 1).val) (congrFun (index_3 a t) 1)).trans (show 0 * 512 + (y 1).val = (y 1).val by omega)
  · exact (congrArg (· * 1024 + (y 2).val) (congrFun (index_3 a t) 2)).trans (show 0 * 1024 + (y 2).val = (y 2).val by omega)
theorem emb_4 (t : Fin grid1.N) (y : S512x8x128.Idx) :
    ((win1 (a 0) 4).blk t).view.emb y = (ix3 (slot hT t (y 0)) (y 1) (y 2) : S32768x8x128.Idx) := by
  blk_ext [slot]
  · exact congrArg (· * 512 + (y 0).val) (congrFun (index_4 a t) 0)
  · exact (congrArg (· * 8 + (y 1).val) (congrFun (index_4 a t) 1)).trans (show 0 * 8 + (y 1).val = (y 1).val by omega)
  · exact (congrArg (· * 128 + (y 2).val) (congrFun (index_4 a t) 2)).trans (show 0 * 128 + (y 2).val = (y 2).val by omega)

theorem blk_eq (t : Fin grid1.N) (y : S512x8x128.Idx) : blk (inBlk a W 0 t) (inBlk a W 1 t) (inBlk a W 2 t) (inBlk a W 3 t) y
    = out (W (Proc.devRef .tc main_v20)) (W (Proc.devRef .tc main_v22)) (W (Proc.devRef .tc main_v24)) (W (Proc.devRef .tc main_v26))
      (ix3 (slot hT t (y 0)) (y 1) (y 2)) := by
  have hy : (y 0).val < 512 := (y 0).isLt
  have hb := hT.block_eq (at_ t)
  have e1 : (slot hT t (y 0)).val / 512 = block (a 0).1 (at_ t) := by
    unfold slot; dsimp only; omega
  have e2 : (slot hT t (y 0)).val / 4096 = expert (a 0).1 (at_ t) := by
    unfold slot; dsimp only; omega
  have e3 : (slot hT t (y 0)).val % 512 = (y 0).val := by
    unfold slot; dsimp only; omega
  have r0 : inBlk a W 0 t = fun z : S512x8x128.Idx => W (Proc.devRef .tc main_v20) (ix3 (slot hT t (z 0)) (z 1) (z 2) : S32768x8x128.Idx) :=
    funext fun z => congrArg (W (Proc.devRef .tc main_v20)) (emb_0 hT t z)
  have r1 : inBlk a W 1 t = fun z : S1x1024x512.Idx => W (Proc.devRef .tc main_v22) (ix3 ⟨expert (a 0).1 (at_ t), hT.expert_lt _⟩ (z 1) (z 2) : S8x1024x512.Idx) :=
    funext fun z => congrArg (W (Proc.devRef .tc main_v22)) (emb_1 hT t z)
  have r2 : inBlk a W 2 t = fun z : S1x1024x512.Idx => W (Proc.devRef .tc main_v24) (ix3 ⟨expert (a 0).1 (at_ t), hT.expert_lt _⟩ (z 1) (z 2) : S8x1024x512.Idx) :=
    funext fun z => congrArg (W (Proc.devRef .tc main_v24)) (emb_2 hT t z)
  have r3 : inBlk a W 3 t = fun z : S1x512x1024.Idx => W (Proc.devRef .tc main_v26) (ix3 ⟨expert (a 0).1 (at_ t), hT.expert_lt _⟩ (z 1) (z 2) : S8x512x1024.Idx) :=
    funext fun z => congrArg (W (Proc.devRef .tc main_v26)) (emb_3 hT t z)
  rw [r0, r1, r2, r3]
  exact (out_at (W (Proc.devRef .tc main_v20)) (W (Proc.devRef .tc main_v22)) (W (Proc.devRef .tc main_v24)) (W (Proc.devRef .tc main_v26))
    (ix3 (slot hT t (y 0)) (y 1) (y 2)) ⟨block (a 0).1 (at_ t), hT.block_lt _⟩ ⟨expert (a 0).1 (at_ t), hT.expert_lt _⟩ (y 0) e1 e2 e3).symm

theorem final (k : S32768x8x128.Idx) (s : Fin grid1.N) (hs : block (a 0).1 (at_ s) = (k 0).val / 512) :
    (dat a d W).arrAt 4 (pin pcfgs a 0).N k
      = out (W (Proc.devRef .tc main_v20)) (W (Proc.devRef .tc main_v22)) (W (Proc.devRef .tc main_v24)) (W (Proc.devRef .tc main_v26)) k := by
  obtain ⟨t, -, hf, hix⟩ := (win1 (a 0) 4).exists_flush_same_index rfl s
  refine (dat a d W).arrAt_forall_of_flushed 4 (fun i v => v = out (W (Proc.devRef .tc main_v20)) (W (Proc.devRef .tc main_v22)) (W (Proc.devRef .tc main_v24)) (W (Proc.devRef .tc main_v26)) i)
    (fun t _ y => ?_) _ t k t.isLt hf ?_
  · exact (blk_eq W hT t y).trans (congrArg (out (W (Proc.devRef .tc main_v20)) (W (Proc.devRef .tc main_v22)) (W (Proc.devRef .tc main_v24)) (W (Proc.devRef .tc main_v26)))
      (emb_4 hT t y).symm)
  · have hk : (k 0).val < 32768 := (k 0).isLt
    have hb : block (a 0).1 (at_ t) = (k 0).val / 512 := by
      have h := congrFun ((index_4 a t).symm.trans (hix.trans (index_4 a s))) 0
      exact (show block (a 0).1 (at_ t) = block (a 0).1 (at_ s) from h).trans hs
    have e : (ix3 (slot hT t ⟨(k 0).val % 512, by omega⟩) (k 1) (k 2) : S32768x8x128.Idx) = k := by
      funext x
      apply Fin.ext
      fin_cases x
      · show block (a 0).1 (at_ t) * 512 + (k 0).val % 512 = (k 0).val
        omega
      · rfl
      · rfl
    have h := View.emb_mem_set ((win1 (a 0) 4).blk t).view (ix3 ⟨(k 0).val % 512, by omega⟩ (k 1) (k 2) : S512x8x128.Idx)
    rw [emb_4 hT t] at h
    exact e ▸ h

end Cert.Proof.Moe
end
-- ==== Proof.Ops.lean ====
/-
  The program outside its four calls: the lines of host operations between them, and what every array holds after each
  line and each call.
-/
module

public import proofs.«01_k».proof.Proof.Deal
public import proofs.«01_k».proof.Proof.CombRegion
public import proofs.«01_k».proof.Proof.MoeRegion

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-! ## The host lines -/

/-- The host operations of the first line. -/
def ops1 : List (HloOp τ sig (Elt F)) := [
  StableHlo.reshape main_arg0 main_v0 (rfl : (.f32 : EltTy) = .f32) shapeCasts_S4096x8x128_S16384x2x128,
  StableHlo.unary main_arg1 main_v1 (broadcastInDim S4096x1 ![0] bcast_S4096_S4096x1_0 : (⟨S4096, .i32⟩ : BufTy).Contents (Elt F) → (⟨S4096x1, .i32⟩ : BufTy).Contents (Elt F)),
  StableHlo.nullary main_c (constantI S_ 32 4#32),
  StableHlo.unary main_c main_v2 (broadcastInDim S4096x1 ![] bcast_S_S4096x1 : (⟨S_, .i32⟩ : BufTy).Contents (Elt F) → (⟨S4096x1, .i32⟩ : BufTy).Contents (Elt F)),
  StableHlo.binary main_v1 main_v2 main_v3 (muli : (⟨S4096x1, .i32⟩ : BufTy).Contents (Elt F) → (⟨S4096x1, .i32⟩ : BufTy).Contents (Elt F) → (⟨S4096x1, .i32⟩ : BufTy).Contents (Elt F)),
  StableHlo.nullary main_v4 (iotaInDim S4 32 0),
  StableHlo.unary main_v4 main_v5 (broadcastInDim S1x4 ![1] bcast_S4_S1x4_1 : (⟨S4, .i32⟩ : BufTy).Contents (Elt F) → (⟨S1x4, .i32⟩ : BufTy).Contents (Elt F)),
  StableHlo.unary main_v3 main_v6 (broadcastInDim S4096x4 ![0, 1] bcast_S4096x1_S4096x4_0_1 : (⟨S4096x1, .i32⟩ : BufTy).Contents (Elt F) → (⟨S4096x4, .i32⟩ : BufTy).Contents (Elt F)),
  StableHlo.unary main_v5 main_v7 (broadcastInDim S4096x4 ![0, 1] bcast_S1x4_S4096x4_0_1 : (⟨S1x4, .i32⟩ : BufTy).Contents (Elt F) → (⟨S4096x4, .i32⟩ : BufTy).Contents (Elt F)),
  StableHlo.binary main_v6 main_v7 main_v8 (addi : (⟨S4096x4, .i32⟩ : BufTy).Contents (Elt F) → (⟨S4096x4, .i32⟩ : BufTy).Contents (Elt F) → (⟨S4096x4, .i32⟩ : BufTy).Contents (Elt F)),
  StableHlo.reshape main_v8 main_v9 (rfl : (.i32 : EltTy) = .i32) shapeCasts_S4096x4_S16384,
  StableHlo.unary main_arg2 main_v10 (broadcastInDim S4096x1 ![0] bcast_S4096_S4096x1_0 : (⟨S4096, .i32⟩ : BufTy).Contents (Elt F) → (⟨S4096x1, .i32⟩ : BufTy).Contents (Elt F)),
  StableHlo.nullary main_c_0 (constantI S_ 32 4#32),
  StableHlo.unary main_c_0 main_v11 (broadcastInDim S4096x1 ![] bcast_S_S4096x1 : (⟨S_, .i32⟩ : BufTy).Contents (Elt F) → (⟨S4096x1, .i32⟩ : BufTy).Contents (Elt F)),
  StableHlo.binary main_v10 main_v11 main_v12 (muli : (⟨S4096x1, .i32⟩ : BufTy).Contents (Elt F) → (⟨S4096x1, .i32⟩ : BufTy).Contents (Elt F) → (⟨S4096x1, .i32⟩ : BufTy).Contents (Elt F)),
  StableHlo.nullary main_v13 (iotaInDim S4 32 0),
  StableHlo.unary main_v13 main_v14 (broadcastInDim S1x4 ![1] bcast_S4_S1x4_1 : (⟨S4, .i32⟩ : BufTy).Contents (Elt F) → (⟨S1x4, .i32⟩ : BufTy).Contents (Elt F)),
  StableHlo.unary main_v12 main_v15 (broadcastInDim S4096x4 ![0, 1] bcast_S4096x1_S4096x4_0_1 : (⟨S4096x1, .i32⟩ : BufTy).Contents (Elt F) → (⟨S4096x4, .i32⟩ : BufTy).Contents (Elt F)),
  StableHlo.unary main_v14 main_v16 (broadcastInDim S4096x4 ![0, 1] bcast_S1x4_S4096x4_0_1 : (⟨S1x4, .i32⟩ : BufTy).Contents (Elt F) → (⟨S4096x4, .i32⟩ : BufTy).Contents (Elt F)),
  StableHlo.binary main_v15 main_v16 main_v17 (addi : (⟨S4096x4, .i32⟩ : BufTy).Contents (Elt F) → (⟨S4096x4, .i32⟩ : BufTy).Contents (Elt F) → (⟨S4096x4, .i32⟩ : BufTy).Contents (Elt F)),
  StableHlo.reshape main_v17 main_v18 (rfl : (.i32 : EltTy) = .i32) shapeCasts_S4096x4_S16384]

/-- The host operations of the second line. -/
def ops2 : List (HloOp τ sig (Elt F)) := [
  StableHlo.reshape main_v19 main_v20 (rfl : (.f32 : EltTy) = .f32) shapeCasts_S131072x2x128_S32768x8x128,
  StableHlo.unary main_arg7 main_v21 ((transpose S8x1024x512 [0, 2, 1] · transposes_S8x512x1024_S8x1024x512_0_2_1) : (⟨S8x512x1024, .f32⟩ : BufTy).Contents (Elt F) → (⟨S8x1024x512, .f32⟩ : BufTy).Contents (Elt F)),
  StableHlo.unary main_v21 main_v22 ((truncf .bf16 · bitsLt_bf16_f32) : (⟨S8x1024x512, .f32⟩ : BufTy).Contents (Elt F) → (⟨S8x1024x512, .bf16⟩ : BufTy).Contents (Elt F)),
  StableHlo.unary main_arg8 main_v23 ((transpose S8x1024x512 [0, 2, 1] · transposes_S8x512x1024_S8x1024x512_0_2_1) : (⟨S8x512x1024, .f32⟩ : BufTy).Contents (Elt F) → (⟨S8x1024x512, .f32⟩ : BufTy).Contents (Elt F)),
  StableHlo.unary main_v23 main_v24 ((truncf .bf16 · bitsLt_bf16_f32) : (⟨S8x1024x512, .f32⟩ : BufTy).Contents (Elt F) → (⟨S8x1024x512, .bf16⟩ : BufTy).Contents (Elt F)),
  StableHlo.unary main_arg9 main_v25 ((transpose S8x512x1024 [0, 2, 1] · transposes_S8x1024x512_S8x512x1024_0_2_1) : (⟨S8x1024x512, .f32⟩ : BufTy).Contents (Elt F) → (⟨S8x512x1024, .f32⟩ : BufTy).Contents (Elt F)),
  StableHlo.unary main_v25 main_v26 ((truncf .bf16 · bitsLt_bf16_f32) : (⟨S8x512x1024, .f32⟩ : BufTy).Contents (Elt F) → (⟨S8x512x1024, .bf16⟩ : BufTy).Contents (Elt F))]

/-- The host operations of the third line. -/
def ops3 : List (HloOp τ sig (Elt F)) := [
  StableHlo.reshape main_v27 main_v28 (rfl : (.f32 : EltTy) = .f32) shapeCasts_S32768x8x128_S131072x2x128,
  StableHlo.unary main_arg1 main_v29 (broadcastInDim S4096x1 ![0] bcast_S4096_S4096x1_0 : (⟨S4096, .i32⟩ : BufTy).Contents (Elt F) → (⟨S4096x1, .i32⟩ : BufTy).Contents (Elt F)),
  StableHlo.nullary main_c_1 (constantI S_ 32 4#32),
  StableHlo.unary main_c_1 main_v30 (broadcastInDim S4096x1 ![] bcast_S_S4096x1 : (⟨S_, .i32⟩ : BufTy).Contents (Elt F) → (⟨S4096x1, .i32⟩ : BufTy).Contents (Elt F)),
  StableHlo.binary main_v29 main_v30 main_v31 (muli : (⟨S4096x1, .i32⟩ : BufTy).Contents (Elt F) → (⟨S4096x1, .i32⟩ : BufTy).Contents (Elt F) → (⟨S4096x1, .i32⟩ : BufTy).Contents (Elt F)),
  StableHlo.nullary main_v32 (iotaInDim S4 32 0),
  StableHlo.unary main_v32 main_v33 (broadcastInDim S1x4 ![1] bcast_S4_S1x4_1 : (⟨S4, .i32⟩ : BufTy).Contents (Elt F) → (⟨S1x4, .i32⟩ : BufTy).Contents (Elt F)),
  StableHlo.unary main_v31 main_v34 (broadcastInDim S4096x4 ![0, 1] bcast_S4096x1_S4096x4_0_1 : (⟨S4096x1, .i32⟩ : BufTy).Contents (Elt F) → (⟨S4096x4, .i32⟩ : BufTy).Contents (Elt F)),
  StableHlo.unary main_v33 main_v35 (broadcastInDim S4096x4 ![0, 1] bcast_S1x4_S4096x4_0_1 : (⟨S1x4, .i32⟩ : BufTy).Contents (Elt F) → (⟨S4096x4, .i32⟩ : BufTy).Contents (Elt F)),
  StableHlo.binary main_v34 main_v35 main_v36 (addi : (⟨S4096x4, .i32⟩ : BufTy).Contents (Elt F) → (⟨S4096x4, .i32⟩ : BufTy).Contents (Elt F) → (⟨S4096x4, .i32⟩ : BufTy).Contents (Elt F)),
  StableHlo.reshape main_v36 main_v37 (rfl : (.i32 : EltTy) = .i32) shapeCasts_S4096x4_S16384,
  StableHlo.unary main_arg2 main_v38 (broadcastInDim S4096x1 ![0] bcast_S4096_S4096x1_0 : (⟨S4096, .i32⟩ : BufTy).Contents (Elt F) → (⟨S4096x1, .i32⟩ : BufTy).Contents (Elt F)),
  StableHlo.nullary main_c_2 (constantI S_ 32 4#32),
  StableHlo.unary main_c_2 main_v39 (broadcastInDim S4096x1 ![] bcast_S_S4096x1 : (⟨S_, .i32⟩ : BufTy).Contents (Elt F) → (⟨S4096x1, .i32⟩ : BufTy).Contents (Elt F)),
  StableHlo.binary main_v38 main_v39 main_v40 (muli : (⟨S4096x1, .i32⟩ : BufTy).Contents (Elt F) → (⟨S4096x1, .i32⟩ : BufTy).Contents (Elt F) → (⟨S4096x1, .i32⟩ : BufTy).Contents (Elt F)),
  StableHlo.nullary main_v41 (iotaInDim S4 32 0),
  StableHlo.unary main_v41 main_v42 (broadcastInDim S1x4 ![1] bcast_S4_S1x4_1 : (⟨S4, .i32⟩ : BufTy).Contents (Elt F) → (⟨S1x4, .i32⟩ : BufTy).Contents (Elt F)),
  StableHlo.unary main_v40 main_v43 (broadcastInDim S4096x4 ![0, 1] bcast_S4096x1_S4096x4_0_1 : (⟨S4096x1, .i32⟩ : BufTy).Contents (Elt F) → (⟨S4096x4, .i32⟩ : BufTy).Contents (Elt F)),
  StableHlo.unary main_v42 main_v44 (broadcastInDim S4096x4 ![0, 1] bcast_S1x4_S4096x4_0_1 : (⟨S1x4, .i32⟩ : BufTy).Contents (Elt F) → (⟨S4096x4, .i32⟩ : BufTy).Contents (Elt F)),
  StableHlo.binary main_v43 main_v44 main_v45 (addi : (⟨S4096x4, .i32⟩ : BufTy).Contents (Elt F) → (⟨S4096x4, .i32⟩ : BufTy).Contents (Elt F) → (⟨S4096x4, .i32⟩ : BufTy).Contents (Elt F)),
  StableHlo.reshape main_v45 main_v46 (rfl : (.i32 : EltTy) = .i32) shapeCasts_S4096x4_S16384]

/-- The host operations of the last line. -/
def ops4 : List (HloOp τ sig (Elt F)) := [
  StableHlo.reshape main_v47_0 main_v48 (rfl : (.f32 : EltTy) = .f32) shapeCasts_S16384x2x128_S4096x8x128,
  StableHlo.reshape main_v47_1 main_v49 (rfl : (.f32 : EltTy) = .f32) shapeCasts_S16384x2x128_S4096x8x128]
/-- The program as its host lines and its four calls. -/
theorem main_eq (d : Dev nD) : main (F := F) d =
    (StableHlo.seq ops1 >>= fun _ => (K (F := F)).run d 0 >>= fun _ => StableHlo.seq ops2 >>= fun _ =>
      Prog.lift (.customCall (SparseCore.inner (Pipeline.entry 0)) ()) >>= fun _ => StableHlo.seq ops3 >>= fun _ =>
      (K (F := F)).run d 1 >>= fun _ => StableHlo.seq ops4 >>= fun _ =>
      Prog.lift (.customCall (SparseCore.inner (Pipeline.entry 1)) ()) >>= fun _ => pure ⟨⟩) := rfl

/-! ## What the lines touch -/

/-- The program's arrays, as device buffers. -/
abbrev arrs : Finset (DevRef τ sig) := ucRefs τ sig

theorem mem_arrs (r : Ref sig .tc) (h : r.isScoped = false) : (Proc.devRef (τ := τ) .tc r) ∈ arrs :=
  Finset.mem_filter.mpr ⟨StableHlo.devRef_mem_tcRefs r, fun e => Bool.noConfusion (h.symm.trans e)⟩

theorem sub1 (x : Ref sig .tc) (hx : x.isScoped = false) : ({Proc.devRef (τ := τ) .tc x} : Finset (DevRef τ sig)) ⊆ arrs :=
  Finset.singleton_subset_iff.mpr (mem_arrs x hx)

theorem sub2 (x y : Ref sig .tc) (hx : x.isScoped = false) (hy : y.isScoped = false) :
    ({Proc.devRef (τ := τ) .tc x, Proc.devRef .tc y} : Finset (DevRef τ sig)) ⊆ arrs :=
  Finset.insert_subset (mem_arrs x hx) (sub1 y hy)

theorem sub3 (x y z : Ref sig .tc) (hx : x.isScoped = false) (hy : y.isScoped = false) (hz : z.isScoped = false) :
    ({Proc.devRef (τ := τ) .tc x, Proc.devRef .tc y, Proc.devRef .tc z} : Finset (DevRef τ sig)) ⊆ arrs :=
  Finset.insert_subset (mem_arrs x hx) (sub2 y z hy hz)

theorem ops1_sub : ∀ op ∈ (ops1 (F := F)), op.bufs ⊆ arrs :=
  List.forall_iff_forall_mem.mp ⟨sub2 main_arg0 main_v0 rfl rfl,
    sub2 main_arg1 main_v1 rfl rfl,
    sub1 main_c rfl,
    sub2 main_c main_v2 rfl rfl,
    sub3 main_v1 main_v2 main_v3 rfl rfl rfl,
    sub1 main_v4 rfl,
    sub2 main_v4 main_v5 rfl rfl,
    sub2 main_v3 main_v6 rfl rfl,
    sub2 main_v5 main_v7 rfl rfl,
    sub3 main_v6 main_v7 main_v8 rfl rfl rfl,
    sub2 main_v8 main_v9 rfl rfl,
    sub2 main_arg2 main_v10 rfl rfl,
    sub1 main_c_0 rfl,
    sub2 main_c_0 main_v11 rfl rfl,
    sub3 main_v10 main_v11 main_v12 rfl rfl rfl,
    sub1 main_v13 rfl,
    sub2 main_v13 main_v14 rfl rfl,
    sub2 main_v12 main_v15 rfl rfl,
    sub2 main_v14 main_v16 rfl rfl,
    sub3 main_v15 main_v16 main_v17 rfl rfl rfl,
    sub2 main_v17 main_v18 rfl rfl⟩

theorem ops2_sub : ∀ op ∈ (ops2 (F := F)), op.bufs ⊆ arrs :=
  List.forall_iff_forall_mem.mp ⟨sub2 main_v19 main_v20 rfl rfl,
    sub2 main_arg7 main_v21 rfl rfl,
    sub2 main_v21 main_v22 rfl rfl,
    sub2 main_arg8 main_v23 rfl rfl,
    sub2 main_v23 main_v24 rfl rfl,
    sub2 main_arg9 main_v25 rfl rfl,
    sub2 main_v25 main_v26 rfl rfl⟩

theorem ops3_sub : ∀ op ∈ (ops3 (F := F)), op.bufs ⊆ arrs :=
  List.forall_iff_forall_mem.mp ⟨sub2 main_v27 main_v28 rfl rfl,
    sub2 main_arg1 main_v29 rfl rfl,
    sub1 main_c_1 rfl,
    sub2 main_c_1 main_v30 rfl rfl,
    sub3 main_v29 main_v30 main_v31 rfl rfl rfl,
    sub1 main_v32 rfl,
    sub2 main_v32 main_v33 rfl rfl,
    sub2 main_v31 main_v34 rfl rfl,
    sub2 main_v33 main_v35 rfl rfl,
    sub3 main_v34 main_v35 main_v36 rfl rfl rfl,
    sub2 main_v36 main_v37 rfl rfl,
    sub2 main_arg2 main_v38 rfl rfl,
    sub1 main_c_2 rfl,
    sub2 main_c_2 main_v39 rfl rfl,
    sub3 main_v38 main_v39 main_v40 rfl rfl rfl,
    sub1 main_v41 rfl,
    sub2 main_v41 main_v42 rfl rfl,
    sub2 main_v40 main_v43 rfl rfl,
    sub2 main_v42 main_v44 rfl rfl,
    sub3 main_v43 main_v44 main_v45 rfl rfl rfl,
    sub2 main_v45 main_v46 rfl rfl⟩

theorem ops4_sub : ∀ op ∈ (ops4 (F := F)), op.bufs ⊆ arrs :=
  List.forall_iff_forall_mem.mp ⟨sub2 main_v47_0 main_v48 rfl rfl,
    sub2 main_v47_1 main_v49 rfl rfl⟩

theorem ops1_fresh : ∀ op ∈ (ops1 (F := F)), op.fresh = ∅ :=
  List.forall_iff_forall_mem.mp (StableHlo.forall_fresh_of_map rfl)

theorem ops2_fresh : ∀ op ∈ (ops2 (F := F)), op.fresh = ∅ :=
  List.forall_iff_forall_mem.mp (StableHlo.forall_fresh_of_map rfl)

theorem ops3_fresh : ∀ op ∈ (ops3 (F := F)), op.fresh = ∅ :=
  List.forall_iff_forall_mem.mp (StableHlo.forall_fresh_of_map rfl)

theorem ops4_fresh : ∀ op ∈ (ops4 (F := F)), op.fresh = ∅ :=
  List.forall_iff_forall_mem.mp (StableHlo.forall_fresh_of_map rfl)

/-- What the line writes. -/
def outs1 : List (Ref sig .tc) := [main_v0, main_v1, main_c, main_v2, main_v3, main_v4, main_v5, main_v6, main_v7, main_v8, main_v9, main_v10, main_c_0, main_v11, main_v12, main_v13, main_v14, main_v15, main_v16, main_v17, main_v18]

theorem ops1_keep (V : Vals F) (r : Ref sig .tc) (h : r ∉ outs1) : StableHlo.after ops1 V (Proc.devRef .tc r) = V (Proc.devRef .tc r) :=
  StableHlo.after_of_writes_sub (W := outs1) ops1 V (StableHlo.forall_writes_sub_of_map rfl) h

/-- What the line writes. -/
def outs2 : List (Ref sig .tc) := [main_v20, main_v21, main_v22, main_v23, main_v24, main_v25, main_v26]

theorem ops2_keep (V : Vals F) (r : Ref sig .tc) (h : r ∉ outs2) : StableHlo.after ops2 V (Proc.devRef .tc r) = V (Proc.devRef .tc r) :=
  StableHlo.after_of_writes_sub (W := outs2) ops2 V (StableHlo.forall_writes_sub_of_map rfl) h

/-- What the line writes. -/
def outs3 : List (Ref sig .tc) := [main_v28, main_v29, main_c_1, main_v30, main_v31, main_v32, main_v33, main_v34, main_v35, main_v36, main_v37, main_v38, main_c_2, main_v39, main_v40, main_v41, main_v42, main_v43, main_v44, main_v45, main_v46]

theorem ops3_keep (V : Vals F) (r : Ref sig .tc) (h : r ∉ outs3) : StableHlo.after ops3 V (Proc.devRef .tc r) = V (Proc.devRef .tc r) :=
  StableHlo.after_of_writes_sub (W := outs3) ops3 V (StableHlo.forall_writes_sub_of_map rfl) h

/-- What the line writes. -/
def outs4 : List (Ref sig .tc) := [main_v48, main_v49]

theorem ops4_keep (V : Vals F) (r : Ref sig .tc) (h : r ∉ outs4) : StableHlo.after ops4 V (Proc.devRef .tc r) = V (Proc.devRef .tc r) :=
  StableHlo.after_of_writes_sub (W := outs4) ops4 V (StableHlo.forall_writes_sub_of_map rfl) h

/-! ## What the arrays hold -/

variable (m : (ℓ : Loc nD τ sig) → Buf (Elt F) ℓ) (a : (p : Fin 2) → (pcfgs (F := F) p).Adm) (d : Dev nD)

/-- At the start. -/
def V0 : Vals F := fun b => m (d, b)
/-- After the first line. -/
def V1 : Vals F := StableHlo.after ops1 (V0 m d)
/-- After the scattering call: the slots hold the rows sent to them. -/
def V2 : Vals F := Function.update (V1 m d) (Proc.devRef .tc main_v19) (Dispatch.out d (V1 m d))
/-- After the second line. -/
def V3 : Vals F := StableHlo.after ops2 (V2 m d)
/-- After the experts' call. -/
def V4 : Vals F := afterRegion (Moe.dat a d (V3 m d)) (V3 m d)
/-- After the third line. -/
def V5 : Vals F := StableHlo.after ops3 (V4 m a d)
/-- After the gathering call. -/
def V6 : Vals F := Function.update (Function.update (V5 m a d) (Proc.devRef .tc main_v47_0) (Collect.out1 d (V5 m a d)))
  (Proc.devRef .tc main_v47_1) (Collect.out2 d (V5 m a d))
/-- After the last line. -/
def V7 : Vals F := StableHlo.after ops4 (V6 m a d)
/-- At the end. -/
def V8 : Vals F := afterRegion (Comb.dat a d (V7 m a d)) (V7 m a d)

end Cert.Proof

end
-- ==== Proof.Calls.lean ====
/-
  The four calls of the program, each as a step from the program's arrays held at known contents to the same arrays held
  at the contents the call leaves.
-/
module

public import proofs.«01_k».proof.Proof.Ops

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

variable (m : (ℓ : Loc nD τ sig) → Buf (Elt F) ℓ) (a : (p : Fin 2) → (pcfgs (F := F) p).Adm)

/-! ## The two TensorCore calls -/

/-- The tables are the ones the program was given. -/
def Given : Prop := ∀ (d : Dev nD) (k : Fin 2), (a 0).1 k = V0 m d (Proc.devRef .tc (pre1.ref k))

/-- The two calls' proof data. -/
def pdats : (p : Fin 2) → (d : Dev nD) → Dat τ (Elt F) (HIx 2) ℕ UU ℕ (pin pcfgs a p) d
  | 0, d => Moe.dat a d (V3 m d)
  | 1, d => Comb.dat a d (V7 m a d)

variable {m a} in
theorem Given.at3 (h : Given m a) (d : Dev nD) (k : Fin 2) : (a 0).1 k = V3 m d (Proc.devRef .tc (pre1.ref k)) := by
  refine (h d k).trans (Eq.symm ?_)
  have key : ∀ r : Ref sig .tc, r ∉ outs1 → r ≠ main_v19 → r ∉ outs2 → V3 m d (Proc.devRef .tc r) = V0 m d (Proc.devRef .tc r) := by
    intro r h1 h2 h3
    unfold V3
    rw [ops2_keep _ r h3]
    unfold V2
    rw [Function.update_of_ne (StableHlo.devRef_ne_of_ne h2)]
    unfold V1
    rw [ops1_keep _ r h1]
  match k with
  | 0 => exact key main_arg3 (by decide) (by decide) (by decide)
  | 1 => exact key main_arg4 (by decide) (by decide) (by decide)

theorem arrs0 : arrRefs (pcfgs (F := F) 0).spec ⊆ arrs :=
  arrRefs_sub_ucRefs (pcfgs (F := F) 0).spec fun w => match w with | 0 => rfl | 1 => rfl | 2 => rfl | 3 => rfl | 4 => rfl

theorem arrs1 : arrRefs (pcfgs (F := F) 1).spec ⊆ arrs :=
  arrRefs_sub_ucRefs (pcfgs (F := F) 1).spec fun w => match w with | 0 => rfl | 1 => rfl | 2 => rfl | 3 => rfl | 4 => rfl

/-- The experts' call, entered once the slots are filled. -/
def seg0 (h : Given m a) : RegionSeg pcfgs a (pdats m a) none (defs₀ (F := F)) 𝒱₀ (K (F := F)).L (K (F := F)).lev 0 :=
  Region.seg a (pdats m a) 0 1 launch1 (V3 m) arrs
    arrs0
    (tblRefs_sub_ucRefs _ fun k => match k with | 0 => rfl | 1 => rfl)
    (fun _ w => by simp only [Dat.share]; split <;> rfl) (fun _ _ => rfl) (fun _ _ => rfl) (fun _ _ => rfl) (fun _ _ => rfl) (h.at3) (fun d => Moe.bodyOk a d (V3 m d))

/-- The last call. -/
def seg1 : RegionSeg pcfgs a (pdats m a) none (defs₀ (F := F)) 𝒱₀ (K (F := F)).L (K (F := F)).lev 1 :=
  Region.seg a (pdats m a) 1 2 launch3 (V7 m a) arrs
    arrs1
    (tblRefs_sub_ucRefs _ fun k => k.elim0)
    (fun _ w => by simp only [Dat.share]; split <;> rfl) (fun _ _ => rfl) (fun _ _ => rfl) (fun _ _ => rfl) (fun _ _ => rfl) (fun _ k => k.elim0) (fun d => Comb.bodyOk a d (V7 m a d))

variable [∀ e, Nonempty (Elt F e)] (d : Dev nD)

theorem run_region {p : Fin 2} (R : RegionSeg pcfgs a (pdats m a) none (defs₀ (F := F)) 𝒱₀ (K (F := F)).L (K (F := F)).lev p) :
    iprop(boundary (T d : Thread nD τ) ∗ R.pre d ∗ levAts (K (F := F)).L (K (F := F)).lev
        ∗ cellsGhost (pin pcfgs a) EP p d ∗ toksInit (pin pcfgs a) EP p d)
      ⊢ wp frame (wpE ((K (F := F)).defs (D (F := F))) 𝒱 (T d) none) Set.univ (Prog.lift (.customCall (SparseCore.inner (Pipeline.entry p)) ()))
          fun _ => iprop(boundary (T d : Thread nD τ) ∗ R.post d) := by
  have H := RegionSeg.wp pcfgs a (pdats m a) none (cellOf_inj a) EP (defs₀ (F := F)) 𝒱₀ (K (F := F)).L (K (F := F)).lev R d none
    (fun _ h => nomatch h) (fun x => .ret x) fun _ => iprop(boundary (T d : Thread nD τ) ∗ R.post d)
  have H' := (K (F := F)).wp_liftProg (D (F := F)) 𝒱 (T d) Set.univ none (Prog.lift (.customCall (Pipeline.entry p) ()))
    (fun _ => iprop(boundary (T d : Thread nD τ) ∗ R.post d))
  iintro ⟨Hb, Hpre, Hl, Hc, Ht⟩
  iapply H'
  iapply H
  isplitr
  · iintro H
    rw [wp_ret]
    imodintro
    iexact H
  isplitl [Hb]; · iexact Hb
  isplitl [Hpre]; · iexact Hpre
  isplitl [Hl]; · iexact Hl
  isplitl [Hc]; · iexact Hc
  iexact Ht

/-! ## The two SparseCore calls' arrays out of all the arrays, and back -/

/-- What the scattering call touches. -/
def touch0 : Finset (DevRef τ sig) := {Proc.devRef .tc main_v0, Proc.devRef .tc main_v9, Proc.devRef .tc main_v18, Proc.devRef .tc main_v19}

theorem touch0_sub : touch0 ⊆ arrs :=
  Finset.insert_subset (mem_arrs _ rfl) (Finset.insert_subset (mem_arrs _ rfl) (sub2 _ _ rfl rfl))

/-- What the gathering call touches. -/
def touch1 : Finset (DevRef τ sig) :=
  {Proc.devRef .tc main_v28, Proc.devRef .tc main_v37, Proc.devRef .tc main_v46, Proc.devRef .tc main_v47_0, Proc.devRef .tc main_v47_1}

theorem touch1_sub : touch1 ⊆ arrs :=
  Finset.insert_subset (mem_arrs _ rfl) (Finset.insert_subset (mem_arrs _ rfl) (Finset.insert_subset (mem_arrs _ rfl) (sub2 _ _ rfl rfl)))

theorem held_touch0 (W : Vals F) : (StableHlo.held (T d) touch0 W : sProp (MM F)) = Dispatch.whole d W (at' d W main_v19) := by
  unfold StableHlo.held touch0 Dispatch.whole
  rw [SparseCore.bigSep_insert' (by decide), SparseCore.bigSep_insert' (by decide), SparseCore.bigSep_insert' (by decide), bigSep_singleton]

theorem held_touch1 (W : Vals F) : (StableHlo.held (T d) touch1 W : sProp (MM F)) = Collect.whole d W (at' d W main_v47_0) (at' d W main_v47_1) := by
  unfold StableHlo.held touch1 Collect.whole
  rw [SparseCore.bigSep_insert' (by decide), SparseCore.bigSep_insert' (by decide), SparseCore.bigSep_insert' (by decide),
    SparseCore.bigSep_insert' (by decide), bigSep_singleton]

theorem V2_v19 : at' d (V2 m d) main_v19 = Dispatch.out d (V1 m d) := Function.update_self ..
theorem V2_of_ne (b : DevRef τ sig) (h : b ≠ Proc.devRef .tc main_v19) : V2 m d b = V1 m d b := Function.update_of_ne h ..
theorem V6_v47_1 : at' d (V6 m a d) main_v47_1 = Collect.out2 d (V5 m a d) := Function.update_self ..
theorem V6_v47_0 : at' d (V6 m a d) main_v47_0 = Collect.out1 d (V5 m a d) := by
  refine (Function.update_of_ne (StableHlo.devRef_ne_of_ne (by decide)) ..).trans (Function.update_self ..)
theorem V6_of_ne (b : DevRef τ sig) (h0 : b ≠ Proc.devRef .tc main_v47_0) (h1 : b ≠ Proc.devRef .tc main_v47_1) : V6 m a d b = V5 m a d b :=
  (Function.update_of_ne h1 ..).trans (Function.update_of_ne h0 ..)

/-- The scattering call's arrays as it leaves them, with the arrays it leaves alone. -/
theorem join0 : (iprop(Dispatch.whole d (V1 m d) (Dispatch.out d (V1 m d)) ∗ StableHlo.held (T d) (arrs \ touch0) (V1 m d)) : sProp (MM F))
    = StableHlo.held (T d) arrs (V2 m d) := by
  rw [StableHlo.held_sub_split (T d) touch0_sub (V2 m d), held_touch0 d (V2 m d), V2_v19,
    StableHlo.held_congr (T d) (S := arrs \ touch0) (V := V2 m d) (V' := V1 m d) fun b hb => V2_of_ne m d b fun e =>
      (Finset.mem_sdiff.mp hb).2 (e ▸ by decide)]
  unfold Dispatch.whole
  rw [show at' d (V2 m d) main_v0 = at' d (V1 m d) main_v0 from V2_of_ne m d _ (StableHlo.devRef_ne_of_ne (by decide)),
    show at' d (V2 m d) main_v9 = at' d (V1 m d) main_v9 from V2_of_ne m d _ (StableHlo.devRef_ne_of_ne (by decide)),
    show at' d (V2 m d) main_v18 = at' d (V1 m d) main_v18 from V2_of_ne m d _ (StableHlo.devRef_ne_of_ne (by decide))]

/-- The gathering call's likewise. -/
theorem join1 : (iprop(Collect.whole d (V5 m a d) (Collect.out1 d (V5 m a d)) (Collect.out2 d (V5 m a d))
      ∗ StableHlo.held (T d) (arrs \ touch1) (V5 m a d)) : sProp (MM F))
    = StableHlo.held (T d) arrs (V6 m a d) := by
  rw [StableHlo.held_sub_split (T d) touch1_sub (V6 m a d), held_touch1 d (V6 m a d), V6_v47_0, V6_v47_1,
    StableHlo.held_congr (T d) (S := arrs \ touch1) (V := V6 m a d) (V' := V5 m a d) fun b hb => V6_of_ne m a d b
      (fun e => (Finset.mem_sdiff.mp hb).2 (e ▸ by decide)) (fun e => (Finset.mem_sdiff.mp hb).2 (e ▸ by decide))]
  unfold Collect.whole
  rw [show at' d (V6 m a d) main_v28 = at' d (V5 m a d) main_v28 from V6_of_ne m a d _ (StableHlo.devRef_ne_of_ne (by decide)) (StableHlo.devRef_ne_of_ne (by decide)),
    show at' d (V6 m a d) main_v37 = at' d (V5 m a d) main_v37 from V6_of_ne m a d _ (StableHlo.devRef_ne_of_ne (by decide)) (StableHlo.devRef_ne_of_ne (by decide)),
    show at' d (V6 m a d) main_v46 = at' d (V5 m a d) main_v46 from V6_of_ne m a d _ (StableHlo.devRef_ne_of_ne (by decide)) (StableHlo.devRef_ne_of_ne (by decide))]

end Cert.Proof

end
-- ==== Proof.Main.lean ====
/-
  The whole program: it runs, ends with every semaphore at zero, and every array then holds what the chain of lines and
  calls leaves in it.
-/
module

public import proofs.«01_k».proof.Proof.Calls

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

variable (m : (ℓ : Loc nD τ sig) → Buf (Elt F) ℓ) (a : (p : Fin 2) → (pcfgs (F := F) p).Adm)

/-- What the SparseCore calls hand out and take back. -/
abbrev PP : (K (F := F)).Pay (nD := nD) (Val := Elt F) (Name := ℕ) (U := UU) := P (V1 m) (V5 m a)

/-! ## The ghost state the launch starts from -/

def u₀ : UU := (initOf (K (F := F)).hsCells (K (F := F)).hsToks,
  (initOf (cells (pin pcfgs a) (cellOf_inj a)) (launchToks (pin pcfgs a) (cellOf_inj a)), 1))

/-- A core's part of it: the two TensorCore calls' rounds. -/
def G (d : Dev nD) : sProp (MM F) :=
  iprop((bigSep Finset.univ fun p : Fin 2 => cellsGhost (pin pcfgs a) EP p d) ∗ (bigSep Finset.univ fun p : Fin 2 => toksInit (pin pcfgs a) EP p d))

theorem hu₀ : (ownU (u₀ a) : sProp (MM F))
    ⊢ |={Set.univ}=> iprop(BI.own (EH (initOf (K (F := F)).hsCells (K (F := F)).hsToks)) ∗ bigSep Finset.univ (G a)
        ∗ bigSep Finset.univ fun thr : Thread nD τ => bigSep Finset.univ fun q : Fin 2 => (PP m a).x q thr) := by
  unfold u₀
  iintro Hu
  ihave H := (ownU_pair (initOf (K (F := F)).hsCells (K (F := F)).hsToks)
    (initOf (cells (pin pcfgs a) (cellOf_inj a)) (launchToks (pin pcfgs a) (cellOf_inj a)), (1 : Counters))) $$ Hu
  icases H with ⟨HH, HP⟩
  ihave HP' := (own_pair_emb (embR : Emb (UP × Counters) (MM F)) (initOf (cells (pin pcfgs a) (cellOf_inj a)) (launchToks (pin pcfgs a) (cellOf_inj a))) (1 : Counters)) $$ HP
  icases HP' with ⟨HP, -⟩
  ihave Hg := (fund_ghost (pin pcfgs a) (EP : Emb UP (MM F)) (cellOf_inj a)) $$ HP
  imod Hg
  icases Hg with ⟨Hc, Ht⟩
  imodintro
  isplitl [HH]; · iexact HH
  isplitl [Hc Ht]
  · unfold G
    rw [bigSep_sep']
    isplitl [Hc] <;> iassumption
  have e : (bigSep Finset.univ fun thr : Thread nD τ => bigSep Finset.univ fun q : Fin 2 => (PP m a).x q thr) = (iprop(emp) : sProp (MM F)) :=
    (bigSep_congr fun _ _ => bigSep_emp_const _).trans (bigSep_emp_const _)
  rw [e]
  iempintro

variable [∀ e, Nonempty (Elt F e)] (d : Dev nD)

/-! ## The calls as steps -/

theorem step_scatter (hd : ∀ d, Dispatch.Distinct (F := F) (at' d (V1 m d) main_v9) (at' d (V1 m d) main_v18))
    (κ : GSem nD τ sig → ℕ) {Φ : PUnit → sProp (MM F)} :
    iprop((K (F := F)).ctx EH (PP m a) κ ∗ (K (F := F)).tcSt EH d 0 ∗ StableHlo.held (T d) arrs (V1 m d)
        ∗ (((K (F := F)).tcSt EH d 1 ∗ StableHlo.held (T d) arrs (V2 m d)) -∗ Φ ⟨⟩))
      ⊢ wp frame (wpE ((K (F := F)).defs (D (F := F))) 𝒱 (T d) none) Set.univ ((K (F := F)).run d 0) Φ := by
  have e1 : (bigSep Finset.univ fun c : Fin ((K (F := F)).nCore 0) => (PP m a).st 0 d c) = Dispatch.tiles d (V1 m d) (at' d (V1 m d) main_v19) := rfl
  have e2 : (bigSep Finset.univ fun c : Fin ((K (F := F)).nCore 0) => (PP m a).dn 0 d c) = Dispatch.tiles d (V1 m d) (Dispatch.out d (V1 m d)) := rfl
  rw [StableHlo.held_sub_split (T d) touch0_sub (V1 m d), held_touch0 d (V1 m d), ← join0 m d]
  iintro ⟨#Hctx, Hst, ⟨Hw, Ho⟩, Hk⟩
  ihave Hw' := (Dispatch.deal d (V1 m d) (hd d) (at' d (V1 m d) main_v19)) $$ Hw
  icases Hw' with ⟨Ht, Hr⟩
  iapply ((K (F := F)).wp_run (D (F := F)) 𝒱 (EH := EH) (P := PP m a) κ d 0) $$ [Hst Ht Hr Ho Hk]
  isplitr; · iexact Hctx
  isplitl [Hst]; · iexact Hst
  isplitl [Ht]
  · rw [e1]; iexact Ht
  rw [e2]
  iintro ⟨Hst, Hdn⟩
  iapply Hk
  isplitl [Hst]; · iexact Hst
  isplitr [Ho]
  · iapply (Dispatch.gather d (V1 m d) (hd d))
    isplitl [Hdn] <;> iassumption
  iexact Ho

theorem step_gather (κ : GSem nD τ sig → ℕ) {Φ : PUnit → sProp (MM F)} :
    iprop((K (F := F)).ctx EH (PP m a) κ ∗ (K (F := F)).tcSt EH d 1 ∗ StableHlo.held (T d) arrs (V5 m a d)
        ∗ (((K (F := F)).tcSt EH d 2 ∗ StableHlo.held (T d) arrs (V6 m a d)) -∗ Φ ⟨⟩))
      ⊢ wp frame (wpE ((K (F := F)).defs (D (F := F))) 𝒱 (T d) none) Set.univ ((K (F := F)).run d 1) Φ := by
  have e1 : (bigSep Finset.univ fun c : Fin ((K (F := F)).nCore 1) => (PP m a).st 1 d c)
      = Collect.tiles d (V5 m a d) (at' d (V5 m a d) main_v47_0) (at' d (V5 m a d) main_v47_1) := rfl
  have e2 : (bigSep Finset.univ fun c : Fin ((K (F := F)).nCore 1) => (PP m a).dn 1 d c)
      = Collect.tiles d (V5 m a d) (Collect.out1 d (V5 m a d)) (Collect.out2 d (V5 m a d)) := rfl
  rw [StableHlo.held_sub_split (T d) touch1_sub (V5 m a d), held_touch1 d (V5 m a d), ← join1 m a d]
  iintro ⟨#Hctx, Hst, ⟨Hw, Ho⟩, Hk⟩
  iapply ((K (F := F)).wp_run (D (F := F)) 𝒱 (EH := EH) (P := PP m a) κ d 1) $$ [Hst Hw Ho Hk]
  isplitr; · iexact Hctx
  isplitl [Hst]; · iexact Hst
  isplitl [Hw]
  · rw [e1, Collect.tiles_eq]; iexact Hw
  rw [e2, Collect.tiles_eq]
  iintro ⟨Hst, Hdn⟩
  iapply Hk
  isplitl [Hst]; · iexact Hst
  isplitl [Hdn] <;> iassumption

theorem step_experts (h : Given m a) {Φ : PUnit → sProp (MM F)} :
    iprop(levAts (K (F := F)).L (K (F := F)).lev ∗ boundary (T d : Thread nD τ) ∗ (K (F := F)).tcSt EH d 1 ∗ StableHlo.held (T d) arrs (V3 m d)
        ∗ cellsGhost (pin pcfgs a) EP 0 d ∗ toksInit (pin pcfgs a) EP 0 d
        ∗ ((boundary (T d : Thread nD τ) ∗ (K (F := F)).tcSt EH d 1 ∗ StableHlo.held (T d) arrs (V4 m a d)) -∗ Φ ⟨⟩))
      ⊢ wp frame (wpE ((K (F := F)).defs (D (F := F))) 𝒱 (T d) none) Set.univ (Prog.lift (.customCall (SparseCore.inner (Pipeline.entry 0)) ())) Φ := by
  have H := run_region m a d (seg0 m a h)
  have e1 : (seg0 m a h).pre d = iprop(StableHlo.held (T d) arrs (V3 m d) ∗ Region.owed (F := F) 1 d) := rfl
  have e2 : (seg0 m a h).post d = iprop(StableHlo.held (T d) arrs (V4 m a d) ∗ Region.owed (F := F) 1 d) := rfl
  have e3 : Region.owed (F := F) 1 d = iprop(∃ W, ⌜(K (F := F)).WBelow (T d) W (8 * SparseCore.Cfg.Blocks.fst 2 2 1)⌝ ∗ owes (T d) ((K (F := F)).Otc d 1) W) := rfl
  rw [e1, e2, e3] at H
  unfold SparseCore.Cfg.tcSt
  iintro ⟨Hl, Hb, ⟨HO, Hs⟩, Ha, Hc, Ht, Hk⟩
  iapply (wp_wand_r frame _ Set.univ)
  isplitl [Hl Hb HO Ha Hc Ht]
  · iapply H
    isplitl [Hb]; · iexact Hb
    isplitl [Ha HO]
    · isplitl [Ha]; · iexact Ha
      iexact HO
    isplitl [Hl]; · iexact Hl
    isplitl [Hc] <;> iassumption
  iintro %_ ⟨Hb, Ha, HO⟩
  iapply Hk
  isplitl [Hb]; · iexact Hb
  isplitr [Ha]
  · isplitl [HO]; · iexact HO
    iexact Hs
  iexact Ha

theorem step_sum {Φ : PUnit → sProp (MM F)} :
    iprop(levAts (K (F := F)).L (K (F := F)).lev ∗ boundary (T d : Thread nD τ) ∗ (K (F := F)).tcSt EH d 2 ∗ StableHlo.held (T d) arrs (V7 m a d)
        ∗ cellsGhost (pin pcfgs a) EP 1 d ∗ toksInit (pin pcfgs a) EP 1 d
        ∗ ((boundary (T d : Thread nD τ) ∗ (K (F := F)).tcSt EH d 2 ∗ StableHlo.held (T d) arrs (V8 m a d)) -∗ Φ ⟨⟩))
      ⊢ wp frame (wpE ((K (F := F)).defs (D (F := F))) 𝒱 (T d) none) Set.univ (Prog.lift (.customCall (SparseCore.inner (Pipeline.entry 1)) ())) Φ := by
  have H := run_region m a d (seg1 m a)
  have e1 : (seg1 m a).pre d = iprop(StableHlo.held (T d) arrs (V7 m a d) ∗ Region.owed (F := F) 2 d) := rfl
  have e2 : (seg1 m a).post d = iprop(StableHlo.held (T d) arrs (V8 m a d) ∗ Region.owed (F := F) 2 d) := rfl
  have e3 : Region.owed (F := F) 2 d = iprop(∃ W, ⌜(K (F := F)).WBelow (T d) W (8 * SparseCore.Cfg.Blocks.fst 2 2 2)⌝ ∗ owes (T d) ((K (F := F)).Otc d 2) W) := rfl
  rw [e1, e2, e3] at H
  unfold SparseCore.Cfg.tcSt
  iintro ⟨Hl, Hb, ⟨HO, Hs⟩, Ha, Hc, Ht, Hk⟩
  iapply (wp_wand_r frame _ Set.univ)
  isplitl [Hl Hb HO Ha Hc Ht]
  · iapply H
    isplitl [Hb]; · iexact Hb
    isplitl [Ha HO]
    · isplitl [Ha]; · iexact Ha
      iexact HO
    isplitl [Hl]; · iexact Hl
    isplitl [Hc] <;> iassumption
  iintro %_ ⟨Hb, Ha, HO⟩
  iapply Hk
  isplitl [Hb]; · iexact Hb
  isplitr [Ha]
  · isplitl [HO]; · iexact HO
    iexact Hs
  iexact Ha

/-! ## The program on a TensorCore -/

set_option maxHeartbeats 1000000 in
theorem hmain (ρ : Dev nD → PrngReg) (h : Given m a) (hd : ∀ d, Dispatch.Distinct (F := F) (at' d (V1 m d) main_v9) (at' d (V1 m d) main_v18))
    (κ : GSem nD τ sig → ℕ) (d : Dev nD) :
    iprop((K (F := F)).ctx EH (PP m a) κ ∗ (K (F := F)).tcSt EH d 0 ∗ (K (F := F)).tcRes m ρ d ∗ G a d)
      ⊢ wp frame (wpE ((K (F := F)).defs (D (F := F))) 𝒱 (T d) none) Set.univ (main d)
          fun _ => iprop((K (F := F)).tcSt EH d 2 ∗ StableHlo.held (T d) arrs (V8 m a d) ∗ (K (F := F)).tcEnd d) := by
  have e0 : (unscopedBufs d (fun b => m ((T d : Thread nD τ).loc b)) : sProp (MM F)) = StableHlo.held (T d) arrs (V0 m d) :=
    unscopedBufs_held d (V0 m d)
  have eG : ∀ Φ : Fin 2 → sProp (MM F), bigSep Finset.univ Φ = iprop(Φ 0 ∗ Φ 1) := fun Φ => by
    rw [show (Finset.univ : Finset (Fin 2)) = {0, 1} by decide, SparseCore.bigSep_insert' (by decide), bigSep_singleton]
  unfold SparseCore.Cfg.tcRes SparseCore.Cfg.tcEnd G
  rw [e0, main_eq, eG, eG]
  iintro ⟨#Hctx, Hst, ⟨Hb, Ha, Hts, -⟩, ⟨Hc0, Hc1⟩, Ht0, Ht1⟩
  ihave #Hl := (SparseCore.Cfg.ctx_levAts κ) $$ Hctx
  -- the first line
  iapply (StableHlo.wp_seq 𝒱 none Set.univ d arrs _ ops1 ops1_sub ops1_fresh (V0 m d)) $$ [Hb Ha]
  · isplitl [Hb] <;> iassumption
  iintro ⟨Hb, Ha⟩
  -- the scatter
  rw [wp_bind]
  iapply (step_scatter m a d hd κ)
  isplitr; · iexact Hctx
  isplitl [Hst]; · iexact Hst
  isplitl [Ha]; · iexact Ha
  iintro ⟨Hst, Ha⟩
  -- the second line
  iapply (StableHlo.wp_seq 𝒱 none Set.univ d arrs _ ops2 ops2_sub ops2_fresh (V2 m d)) $$ [Hb Ha]
  · isplitl [Hb] <;> iassumption
  iintro ⟨Hb, Ha⟩
  -- the experts
  rw [wp_bind]
  iapply (step_experts m a d h)
  isplitr; · iexact Hl
  isplitl [Hb]; · iexact Hb
  isplitl [Hst]; · iexact Hst
  isplitl [Ha]; · iexact Ha
  isplitl [Hc0]; · iexact Hc0
  isplitl [Ht0]; · iexact Ht0
  iintro ⟨Hb, Hst, Ha⟩
  -- the third line
  iapply (StableHlo.wp_seq 𝒱 none Set.univ d arrs _ ops3 ops3_sub ops3_fresh (V4 m a d)) $$ [Hb Ha]
  · isplitl [Hb] <;> iassumption
  iintro ⟨Hb, Ha⟩
  -- the gather
  rw [wp_bind]
  iapply (step_gather m a d κ)
  isplitr; · iexact Hctx
  isplitl [Hst]; · iexact Hst
  isplitl [Ha]; · iexact Ha
  iintro ⟨Hst, Ha⟩
  -- the last line
  iapply (StableHlo.wp_seq 𝒱 none Set.univ d arrs _ ops4 ops4_sub ops4_fresh (V6 m a d)) $$ [Hb Ha]
  · isplitl [Hb] <;> iassumption
  iintro ⟨Hb, Ha⟩
  -- the sum
  rw [wp_bind]
  iapply (step_sum m a d)
  isplitr; · iexact Hl
  isplitl [Hb]; · iexact Hb
  isplitl [Hst]; · iexact Hst
  isplitl [Ha]; · iexact Ha
  isplitl [Hc1]; · iexact Hc1
  isplitl [Ht1]; · iexact Ht1
  iintro ⟨Hb, Hst, Ha⟩
  rw [wp_pure]
  imodintro
  isplitl [Hst]; · iexact Hst
  isplitl [Ha]; · iexact Ha
  isplitl [Hb] <;> iassumption

/-! ## What the final memory holds -/

theorem held_agree (d : Dev nD) (B : Finset (DevRef τ sig)) (V : Vals F) (s' : Phys nD τ sig (Elt F)) :
    iprop(StableHlo.held (T d) B V ∗ SI s') ⊢ (⌜∀ b ∈ B, s'.mem.mem (d, b) = V b⌝ : sProp (MM F)) := by
  have one : ∀ b ∈ B, iprop(StableHlo.held (T d) B V ∗ SI s') ⊢ (⌜s'.mem.mem (d, b) = V b⌝ : sProp (MM F)) := by
    intro b hb
    have hp : (StableHlo.held (T d) B V : sProp (MM F)) ⊢ (((d, b) : Loc nD τ sig) ↦{fullShare} V b) := bigSep_elim hb
    iintro ⟨Ha, HSI⟩
    ihave Hp := hp $$ Ha
    ihave H := (SI_pointsTo_agree (st := s') (ℓ := ((d, b) : Loc nD τ sig)) (I := Finset.univ) (q := fullShare) (f := V b)) $$ [HSI Hp]
    · isplitl [HSI] <;> iassumption
    icases H with %e
    ipureintro
    exact funext fun i => e i (Finset.mem_univ i)
  exact (forall_intro fun b => pure_imp_intro fun hb => one b hb).trans pure_forall.2

/-- What a run ends with. -/
def Ends (r : PUnit × MemSt nD τ sig (Elt F)) : Prop := (∀ d, ∀ b ∈ arrs, r.2.mem (d, b) = V8 m a d b) ∧ r.2.sem = fun _ => 0

theorem run_main (ρ : Dev nD → PrngReg) (h : Given m a) (hd : ∀ d, Dispatch.Distinct (F := F) (at' d (V1 m d) main_v9) (at' d (V1 m d) main_v18))
    (h1 : ∀ d x, BitVec.toNat (at' d (V5 m a d) main_v37 x) < 131072) (h2 : ∀ d x, BitVec.toNat (at' d (V5 m a d) main_v46 x) < 131072) :
    θ_run (defs (F := F)) (threads (F := F)) ⟨m, fun _ => 0, ρ⟩ (Ends m a) :=
  SparseCore.Cfg.θ_run_sc_quiescent (K := K (F := F)) (D := D (F := F)) (𝒱 := 𝒱) (EH := EH) (P := PP m a) (A := ∅) facts v₀
    (fun q hq => match q with | 0 => nomatch hq | 1 => nomatch hq)
    (fun q _ => match q with | 0 => tileObl0 _ _ hd | 1 => tileObl1 _ _ h1 h2)
    (fun q _ => SparseCore.Cfg.VecSplit.of_plain (vecSplit _ _ q))
    m ρ main (G a) (fun d => StableHlo.held (T d) arrs (V8 m a d)) (u₀ a) (sep_elim_left.trans (hu₀ m a)) (hmain m a ρ h hd)
    (fun d s' => ∀ b ∈ arrs, s'.mem.mem (d, b) = V8 m a d b) (fun d s' => held_agree d arrs (V8 m a d) s') (Ends m a) (fun _ h hz => ⟨h, hz⟩)

end Cert.Proof

end
-- ==== Proof.Pre.lean ====
/-
  What the precondition says of the two slot lists and of the two tables, read off its operations: every slot is in
  range, a token's two slots belong to different experts, the place of a slot inside its expert's part is the number of
  earlier tokens sent to that expert, a listed block belongs to the expert listed beside it, and the block of every slot
  is listed. And what follows: no slot is given twice.
-/
module

public import proofs.«01_k».proof.Pre_routed
public import Idealize.ShloMosaic.Lib.ReduceAll
public import Idealize.ShloMosaic.Lib.Routing.Words
public import Idealize.ShloMosaic.Lib.StableHlo.Predicate
public import Idealize.ShloMosaic.Lib.ValueIdxCore

@[expose] public section

noncomputable section

namespace Cert.Proof

open Idealize.ShloMosaic
open Cert.Pre_routed

/-- The naturals an integer list holds. -/
def nat {n : ℕ} (x : IVec ⟨1, ![n]⟩ 32) (t : Fin n) : ℕ := (x (ValueIdx.ix1 t)).toNat

/-- What the slot lists `P`, `Q` and the tables `E`, `B` satisfy. -/
structure Routed (P Q : Fin 4096 → ℕ) (E B : Fin 128 → ℕ) : Prop where
  lt1 : ∀ t, P t < 32768
  lt2 : ∀ t, Q t < 32768
  ne : ∀ t, P t / 4096 ≠ Q t / 4096
  rank1 : ∀ t, P t % 4096 = (Finset.univ.filter fun u : Fin 4096 => u < t ∧ (P t / 4096 = P u / 4096 ∨ P t / 4096 = Q u / 4096)).card
  rank2 : ∀ t, Q t % 4096 = (Finset.univ.filter fun u : Fin 4096 => u < t ∧ (Q t / 4096 = P u / 4096 ∨ Q t / 4096 = Q u / 4096)).card
  expert_lt : ∀ s, E s < 8
  block_eq : ∀ s, B s / 8 = E s
  listed1 : ∀ t, ∃ s : Fin 128, s.val < 23 ∧ P t / 512 = B s
  listed2 : ∀ t, ∃ s : Fin 128, s.val < 23 ∧ Q t / 512 = B s

/-! ## Words -/

theorem and_one {a b : BitVec 1} (h : IntOp.andi a b = 1#1) : a = 1#1 ∧ b = 1#1 := by
  revert a b; decide

theorem and_one_iff (a b : BitVec 1) : IntOp.andi a b = 1#1 ↔ a = 1#1 ∧ b = 1#1 := by
  revert a b; decide

theorem or_one_iff (a b : BitVec 1) : IntOp.ori a b = 1#1 ↔ a = 1#1 ∨ b = 1#1 := by
  revert a b; decide

theorem lt_of_range {v : BitVec 32} {N : ℕ} (hN : N < 2 ^ 31) (h0 : IntOp.cmpi .sge v 0#32 = 1#1)
    (h1 : IntOp.cmpi .slt v (BitVec.ofNat 32 N) = 1#1) : v.toNat < N := by
  have e0 : (0#32).toInt ≤ v.toInt := BitVec.sle_iff_toInt_le.1 ((StableHlo.Predicate.ofBool_eq_one_iff _).1 h0)
  have e1 : v.toInt < (BitVec.ofNat 32 N).toInt := BitVec.slt_iff_toInt_lt.1 ((StableHlo.Predicate.ofBool_eq_one_iff _).1 h1)
  have e2 : (0#32).toInt = 0 := rfl
  rw [e2, BitVec.toInt_eq_toNat_cond v] at e0
  rw [BitVec.toInt_eq_toNat_cond v, BitVec.toInt_eq_toNat_cond (BitVec.ofNat 32 N), BitVec.toNat_ofNat,
    Nat.mod_eq_of_lt (by omega : N < 2 ^ 32)] at e1
  have := v.isLt
  split at e0 <;> split at e1 <;> omega

theorem div_nat (u : ArithUnit) {v : BitVec 32} {b : ℕ} (hv : v.toNat < 2 ^ 31) (h0 : 0 < b) (hb : b < 2 ^ 31) :
    (IntOp.divsi u v (BitVec.ofNat 32 b)).toNat = v.toNat / b := by
  have h := Routing.divsi_word u hv h0 hb
  rw [BitVec.ofNat_toNat, BitVec.setWidth_eq] at h
  rw [h, BitVec.toNat_ofNat]
  have := Nat.div_le_self v.toNat b
  exact Nat.mod_eq_of_lt (by omega)

theorem rem_nat (u : ArithUnit) {v : BitVec 32} {b : ℕ} (hv : v.toNat < 2 ^ 31) (h0 : 0 < b) (hb : b < 2 ^ 31) :
    (IntOp.remsi u v (BitVec.ofNat 32 b)).toNat = v.toNat % b := by
  have h := Routing.remsi_word u hv h0 hb
  rw [BitVec.ofNat_toNat, BitVec.setWidth_eq] at h
  rw [h, BitVec.toNat_ofNat]
  have := Nat.mod_le v.toNat b
  exact Nat.mod_eq_of_lt (by omega)

theorem eq_one_iff (a b : BitVec 32) : IntOp.cmpi .eq a b = 1#1 ↔ a.toNat = b.toNat :=
  StableHlo.Predicate.cmpi_eq_iff.trans BitVec.toNat_inj.symm

theorem ne_of_one {a b : BitVec 32} (h : IntOp.cmpi .ne a b = 1#1) : a.toNat ≠ b.toNat := by
  intro e
  have := BitVec.eq_of_toNat_eq e
  subst this
  simp [IntOp.cmpi] at h

theorem pos_of_sgt {a : BitVec 32} (h : IntOp.cmpi .sgt a 0#32 = 1#1) : a.toNat ≠ 0 := by
  intro e
  have : a = 0#32 := BitVec.eq_of_toNat_eq e
  subst this
  exact absurd h (by decide)

theorem ofFin_eq {n : ℕ} (t : Fin n) : (Shape.Idx.ofFin t : (⟨1, ![n]⟩ : Shape).Idx) = ValueIdx.ix1 t := by
  funext a; match a with | ⟨0, _⟩ => rfl

open StableHlo.Predicate (ij bcast_rows bcast_cols bcast_of_row bcast_row1 toNat_reduce_count_cols)

/-! ## The precondition, read -/

variable [Facts] {F : FTy → Type} [FloatOps F]
open Facts

/-- The count of the earlier tokens sent to the expert `v` names, as the precondition counts them. -/
theorem count_rank (v x y : IVec ⟨1, ![4096]⟩ 32) (h1 : (⟨1, ![4096]⟩ : Shape).BroadcastsInDim ⟨2, ![4096, 1]⟩ ![0])
    (h2 : (⟨2, ![4096, 1]⟩ : Shape).BroadcastsInDim ⟨2, ![4096, 4096]⟩ ![0, 1])
    (h3 : (⟨1, ![4096]⟩ : Shape).BroadcastsInDim ⟨2, ![1, 4096]⟩ ![1])
    (h4 : (⟨2, ![1, 4096]⟩ : Shape).BroadcastsInDim ⟨2, ![4096, 4096]⟩ ![0, 1])
    (hw : 1 < 32) (hr : (⟨2, ![4096, 4096]⟩ : Shape).ReducesTo [1] ⟨1, ![4096]⟩) {u : Shape} (hu : 0 < u.numel) (t : Fin 4096) :
    (Host.reduce IntOp.addi
      (extui 32 (andi (cmpi .slt (broadcastInDim ⟨2, ![4096, 4096]⟩ ![0, 1] h4 (broadcastInDim ⟨2, ![1, 4096]⟩ ![1] h3 (iotaInDim ⟨1, ![4096]⟩ 32 0)))
          (broadcastInDim ⟨2, ![4096, 4096]⟩ ![0, 1] h2 (broadcastInDim ⟨2, ![4096, 1]⟩ ![0] h1 (iotaInDim ⟨1, ![4096]⟩ 32 0))))
        (ori (cmpi .eq (broadcastInDim ⟨2, ![4096, 4096]⟩ ![0, 1] h2 (broadcastInDim ⟨2, ![4096, 1]⟩ ![0] h1 v))
            (broadcastInDim ⟨2, ![4096, 4096]⟩ ![0, 1] h4 (broadcastInDim ⟨2, ![1, 4096]⟩ ![1] h3 x)))
          (cmpi .eq (broadcastInDim ⟨2, ![4096, 4096]⟩ ![0, 1] h2 (broadcastInDim ⟨2, ![4096, 1]⟩ ![0] h1 v))
            (broadcastInDim ⟨2, ![4096, 4096]⟩ ![0, 1] h4 (broadcastInDim ⟨2, ![1, 4096]⟩ ![1] h3 y))))) hw)
      (constantI u 32 0#32) hr hu (ValueIdx.ix1 t)).toNat
      = (Finset.univ.filter fun u : Fin 4096 => u < t ∧ (nat v t = nat x u ∨ nat v t = nat y u)).card := by
  rw [toNat_reduce_count_cols (by norm_num)]
  refine congrArg Finset.card (Finset.filter_congr fun q _ => ?_)
  have hlt : ∀ a : Fin 4096, (BitVec.ofNat 32 a.val).toNat = a.val := fun a => by
    rw [BitVec.toNat_ofNat]; have := a.isLt; omega
  show IntOp.andi (IntOp.cmpi .slt (broadcastInDim _ _ _ (broadcastInDim _ _ _ _) (ij t q)) (broadcastInDim _ _ _ (broadcastInDim _ _ _ _) (ij t q)))
    (IntOp.ori (IntOp.cmpi .eq (broadcastInDim _ _ _ (broadcastInDim _ _ _ _) (ij t q)) (broadcastInDim _ _ _ (broadcastInDim _ _ _ _) (ij t q)))
      (IntOp.cmpi .eq (broadcastInDim _ _ _ (broadcastInDim _ _ _ _) (ij t q)) (broadcastInDim _ _ _ (broadcastInDim _ _ _ _) (ij t q)))) = 1#1 ↔ _
  rw [bcast_rows, bcast_cols, bcast_rows, bcast_cols, bcast_cols, and_one_iff, or_one_iff, eq_one_iff, eq_one_iff, StableHlo.Predicate.iota_apply, StableHlo.Predicate.iota_apply,
    StableHlo.Predicate.slt_iff_toNat (by rw [hlt]; have := q.isLt; omega) (by rw [hlt]; have := t.isLt; omega), hlt, hlt, ofFin_eq, ofFin_eq]
  rfl

/-- A list entry named among the first 23 of the table. -/
theorem listed (v : IVec ⟨1, ![4096]⟩ 32) (bg : IVec ⟨1, ![128]⟩ 32) (h1 : (⟨1, ![4096]⟩ : Shape).BroadcastsInDim ⟨2, ![4096, 1]⟩ ![0])
    (h2 : (⟨2, ![4096, 1]⟩ : Shape).BroadcastsInDim ⟨2, ![4096, 128]⟩ ![0, 1])
    (h3 : (⟨1, ![128]⟩ : Shape).BroadcastsInDim ⟨2, ![1, 128]⟩ ![1])
    (h4 : (⟨2, ![1, 128]⟩ : Shape).BroadcastsInDim ⟨2, ![4096, 128]⟩ ![0, 1])
    (h5 : (⟨0, ![]⟩ : Shape).BroadcastsInDim ⟨2, ![1, 128]⟩ ![])
    (hw : 1 < 32) (hr : (⟨2, ![4096, 128]⟩ : Shape).ReducesTo [1] ⟨1, ![4096]⟩) {u : Shape} (hu : 0 < u.numel) (t : Fin 4096)
    (h : IntOp.cmpi .sgt (Host.reduce IntOp.addi
      (extui 32 (andi (cmpi .eq (broadcastInDim ⟨2, ![4096, 128]⟩ ![0, 1] h2 (broadcastInDim ⟨2, ![4096, 1]⟩ ![0] h1 v))
          (broadcastInDim ⟨2, ![4096, 128]⟩ ![0, 1] h4 (broadcastInDim ⟨2, ![1, 128]⟩ ![1] h3 bg)))
        (broadcastInDim ⟨2, ![4096, 128]⟩ ![0, 1] h4 (cmpi .slt (broadcastInDim ⟨2, ![1, 128]⟩ ![1] h3 (iotaInDim ⟨1, ![128]⟩ 32 0))
          (broadcastInDim ⟨2, ![1, 128]⟩ ![] h5 (constantI ⟨0, ![]⟩ 32 23#32))))) hw)
      (constantI u 32 0#32) hr hu (ValueIdx.ix1 t)) 0#32 = 1#1) : ∃ s : Fin 128, s.val < 23 ∧ nat v t = nat bg s := by
  have h0 := pos_of_sgt h
  rw [toNat_reduce_count_cols (by norm_num)] at h0
  obtain ⟨s, hs⟩ := Finset.card_ne_zero.1 h0
  have hs' := (Finset.mem_filter.1 hs).2
  refine ⟨s, ?_⟩
  have hlt : (BitVec.ofNat 32 s.val).toNat = s.val := by rw [BitVec.toNat_ofNat]; have := s.isLt; omega
  replace hs' : IntOp.andi (IntOp.cmpi .eq (broadcastInDim _ _ h2 (broadcastInDim _ _ h1 v) (ij t s)) (broadcastInDim _ _ h4 (broadcastInDim _ _ h3 bg) (ij t s)))
    (broadcastInDim _ _ h4 (cmpi .slt (broadcastInDim ⟨2, ![1, 128]⟩ ![1] h3 (iotaInDim ⟨1, ![128]⟩ 32 0)) (constantI ⟨2, ![1, 128]⟩ 32 23#32)) (ij t s)) = 1#1 := hs'
  rw [bcast_rows, bcast_cols, bcast_of_row, and_one_iff, eq_one_iff] at hs'
  obtain ⟨ha, hb⟩ := hs'
  replace hb : IntOp.cmpi .slt (broadcastInDim ⟨2, ![1, 128]⟩ ![1] h3 (iotaInDim ⟨1, ![128]⟩ 32 0) (StableHlo.Predicate.i1q s)) 23#32 = 1#1 := hb
  rw [bcast_row1, StableHlo.Predicate.iota_apply,
    StableHlo.Predicate.slt_iff_toNat (by rw [hlt]; have := s.isLt; omega) (by decide), hlt] at hb
  rw [ofFin_eq, ofFin_eq] at ha
  exact ⟨hb, ha⟩

set_option maxHeartbeats 1000000 in
/-- The precondition gives what `Routed` says. -/
theorem routed_of_pre (x : FVec F S4096x8x128 .f32) (p1 p2 : IVec S4096 32) (be bg : IVec S128 32) (res : FVec F S4096x1024 .f32)
    (w : FVec F S4096x128 .f32) (wg wu : FVec F S8x512x1024 .f32) (wd : FVec F S8x1024x512 .f32)
    (h : fn (F := F) x p1 p2 be bg res w wg wu wd = fun _ => 1#1) : Routed (nat p1) (nat p2) (nat be) (nat bg) := by
  have e := congrFun h (Shape.Idx.first h_S_)
  simp only [fn, fn_part1, fn_part2, fn_part3, fn_part4, fn_part5] at e
  obtain ⟨e, l2⟩ := and_one e
  obtain ⟨e, l1⟩ := and_one e
  obtain ⟨tok, tab⟩ := and_one e
  have : Subsingleton S_.Idx := ⟨fun a b => funext fun i => i.elim0⟩
  have hl1 := fun t : Fin 4096 => Host.reduce_andi_all _ _ _ _ _ l1 (ValueIdx.ix1 t)
  have hl2 := fun t : Fin 4096 => Host.reduce_andi_all _ _ _ _ _ l2 (ValueIdx.ix1 t)
  have htok := fun t : Fin 4096 => Host.reduce_andi_all _ _ _ _ _ tok (ValueIdx.ix1 t)
  have htab := fun s : Fin 128 => Host.reduce_andi_all _ _ _ _ _ tab (ValueIdx.ix1 s)
  clear e l1 l2 tok tab h
  have hpq : ∀ t, nat p1 t < 32768 ∧ nat p2 t < 32768 := fun t => by
    obtain ⟨a, -⟩ := and_one (htok t)
    obtain ⟨a, -⟩ := and_one a
    obtain ⟨a, -⟩ := and_one a
    obtain ⟨a, q1⟩ := and_one a
    obtain ⟨a, q0⟩ := and_one a
    obtain ⟨r0, r1⟩ := and_one a
    exact ⟨lt_of_range (by norm_num) r0 r1, lt_of_range (by norm_num) q0 q1⟩
  have d1 : ∀ t (b : ℕ), 0 < b → b < 2 ^ 31 → (IntOp.divsi .host (p1 (ValueIdx.ix1 t)) (BitVec.ofNat 32 b)).toNat = nat p1 t / b :=
    fun t b h0 hb => div_nat _ (lt_trans (hpq t).1 (by norm_num)) h0 hb
  have d2 : ∀ t (b : ℕ), 0 < b → b < 2 ^ 31 → (IntOp.divsi .host (p2 (ValueIdx.ix1 t)) (BitVec.ofNat 32 b)).toNat = nat p2 t / b :=
    fun t b h0 hb => div_nat _ (lt_trans (hpq t).2 (by norm_num)) h0 hb
  have htb : ∀ s, nat be s < 8 ∧ nat bg s < 64 ∧ nat bg s / 8 = nat be s := fun s => by
    obtain ⟨a, q⟩ := and_one (htab s)
    obtain ⟨a, b1⟩ := and_one a
    obtain ⟨a, b0⟩ := and_one a
    obtain ⟨a0, a1⟩ := and_one a
    have hb : nat bg s < 64 := lt_of_range (by norm_num) b0 b1
    have := div_nat .host (b := 8) (lt_trans hb (by norm_num)) (by norm_num) (by norm_num)
    exact ⟨lt_of_range (by norm_num) a0 a1, hb, this.symm.trans ((eq_one_iff _ _).1 q)⟩
  refine ⟨fun t => (hpq t).1, fun t => (hpq t).2, fun t => ?_, fun t => ?_, fun t => ?_, fun s => (htb s).1, fun s => (htb s).2.2, fun t => ?_, fun t => ?_⟩
  · obtain ⟨a, -⟩ := and_one (htok t)
    obtain ⟨a, -⟩ := and_one a
    obtain ⟨-, n⟩ := and_one a
    have := ne_of_one n
    rw [← d1 t 4096 (by norm_num) (by norm_num), ← d2 t 4096 (by norm_num) (by norm_num)]
    exact this
  · obtain ⟨a, -⟩ := and_one (htok t)
    obtain ⟨-, n⟩ := and_one a
    have := (eq_one_iff _ _).1 n
    have r := rem_nat .host (v := p1 (ValueIdx.ix1 t)) (b := 4096) (lt_trans (hpq t).1 (by norm_num)) (by norm_num) (by norm_num)
    refine (r.symm.trans (this.trans (count_rank (Host.divsi p1 (constantI S4096 32 4096#32)) (Host.divsi p1 (constantI S4096 32 4096#32)) (Host.divsi p2 (constantI S4096 32 4096#32)) _ _ _ _ _ _ _ t))).trans ?_
    refine congrArg Finset.card (Finset.filter_congr fun u _ => ?_)
    rw [show nat (Host.divsi p1 (constantI S4096 32 4096#32)) t = nat p1 t / 4096 from d1 t 4096 (by norm_num) (by norm_num),
      show nat (Host.divsi p1 (constantI S4096 32 4096#32)) u = nat p1 u / 4096 from d1 u 4096 (by norm_num) (by norm_num),
      show nat (Host.divsi p2 (constantI S4096 32 4096#32)) u = nat p2 u / 4096 from d2 u 4096 (by norm_num) (by norm_num)]
  · obtain ⟨-, n⟩ := and_one (htok t)
    have := (eq_one_iff _ _).1 n
    have r := rem_nat .host (v := p2 (ValueIdx.ix1 t)) (b := 4096) (lt_trans (hpq t).2 (by norm_num)) (by norm_num) (by norm_num)
    refine (r.symm.trans (this.trans (count_rank (Host.divsi p2 (constantI S4096 32 4096#32)) (Host.divsi p1 (constantI S4096 32 4096#32)) (Host.divsi p2 (constantI S4096 32 4096#32)) _ _ _ _ _ _ _ t))).trans ?_
    refine congrArg Finset.card (Finset.filter_congr fun u _ => ?_)
    rw [show nat (Host.divsi p2 (constantI S4096 32 4096#32)) t = nat p2 t / 4096 from d2 t 4096 (by norm_num) (by norm_num),
      show nat (Host.divsi p1 (constantI S4096 32 4096#32)) u = nat p1 u / 4096 from d1 u 4096 (by norm_num) (by norm_num),
      show nat (Host.divsi p2 (constantI S4096 32 4096#32)) u = nat p2 u / 4096 from d2 u 4096 (by norm_num) (by norm_num)]
  · obtain ⟨s, hs, e⟩ := listed (Host.divsi p1 (constantI S4096 32 512#32)) bg _ _ _ _ _ _ _ _ t (hl1 t)
    exact ⟨s, hs, (d1 t 512 (by norm_num) (by norm_num)).symm.trans e⟩
  · obtain ⟨s, hs, e⟩ := listed (Host.divsi p2 (constantI S4096 32 512#32)) bg _ _ _ _ _ _ _ _ t (hl2 t)
    exact ⟨s, hs, (d2 t 512 (by norm_num) (by norm_num)).symm.trans e⟩

/-! ## No slot is given twice -/

namespace Routed

variable {P Q : Fin 4096 → ℕ} {E B : Fin 128 → ℕ} (h : Routed P Q E B)

include h

/-- A later token's place is further on. -/
theorem later {t u : Fin 4096} (ht : t < u) {p q : ℕ} (hp : p = P t ∨ p = Q t) (hq : q = P u ∨ q = Q u) (he : p / 4096 = q / 4096) :
    p % 4096 < q % 4096 := by
  have hp' : p % 4096 = (Finset.univ.filter fun v : Fin 4096 => v < t ∧ (p / 4096 = P v / 4096 ∨ p / 4096 = Q v / 4096)).card := by
    rcases hp with rfl | rfl
    exacts [h.rank1 t, h.rank2 t]
  have hq' : q % 4096 = (Finset.univ.filter fun v : Fin 4096 => v < u ∧ (q / 4096 = P v / 4096 ∨ q / 4096 = Q v / 4096)).card := by
    rcases hq with rfl | rfl
    exacts [h.rank1 u, h.rank2 u]
  rw [hp', hq']
  refine Finset.card_lt_card ((Finset.ssubset_iff_of_subset fun v hv => ?_).2 ⟨t, ?_, ?_⟩)
  · have := (Finset.mem_filter.1 hv).2
    rw [he] at this
    exact Finset.mem_filter.2 ⟨Finset.mem_univ _, this.1.trans ht, this.2⟩
  · refine Finset.mem_filter.2 ⟨Finset.mem_univ _, ht, ?_⟩
    rw [← he]
    rcases hp with rfl | rfl
    exacts [Or.inl rfl, Or.inr rfl]
  · intro hm
    exact absurd (Finset.mem_filter.1 hm).2.1 (lt_irrefl t)

theorem apart {t u : Fin 4096} (ht : t ≠ u) {p q : ℕ} (hp : p = P t ∨ p = Q t) (hq : q = P u ∨ q = Q u) : p ≠ q := by
  rintro rfl
  rcases lt_or_gt_of_ne ht with h1 | h1
  · exact lt_irrefl _ (h.later h1 hp hq rfl)
  · exact lt_irrefl _ (h.later h1 hq hp rfl)

theorem inj1 {t u : Fin 4096} (e : P t = P u) : t = u := by
  by_contra hn
  exact h.apart hn (Or.inl rfl) (Or.inl rfl) e

theorem inj2 {t u : Fin 4096} (e : Q t = Q u) : t = u := by
  by_contra hn
  exact h.apart hn (Or.inr rfl) (Or.inr rfl) e

theorem disjoint (t u : Fin 4096) : P t ≠ Q u := by
  by_cases hn : t = u
  · subst hn
    intro e
    exact h.ne t (by rw [e])
  · exact h.apart hn (Or.inl rfl) (Or.inr rfl)

end Routed

end Cert.Proof

end
-- ==== Proof.Lists.lean ====
/-
  What the host lines leave in the arrays the calls read, and the four lists of quarter rows: entry `k` of a list made
  from slots `p` is `4 p (k / 4) + k mod 4`.
-/
module

public import proofs.«01_k».proof.Proof.Main
public import proofs.«01_k».proof.Proof.Pre
public import Idealize.ShloMosaic.Lib.StableHlo.RunRead

@[expose] public section

noncomputable section

namespace Cert.Proof

open Cert.KernelIdeal Cert.KernelIdeal.Gen
open Idealize.ShloMosaic
open Idealize.ShloMosaic.Pipeline

variable {F : FTy → Type} [FloatOps F]

/-- The list of quarter rows of the slots `p`, as the host makes it. -/
def quarters (p : IVec S4096 32) : IVec S16384 32 :=
  shapeCast S16384 (addi
    (broadcastInDim S4096x4 ![0, 1] bcast_S4096x1_S4096x4_0_1
      (muli (broadcastInDim S4096x1 ![0] bcast_S4096_S4096x1_0 p) (broadcastInDim S4096x1 ![] bcast_S_S4096x1 (constantI S_ 32 4#32))))
    (broadcastInDim S4096x4 ![0, 1] bcast_S1x4_S4096x4_0_1 (broadcastInDim S1x4 ![1] bcast_S4_S1x4_1 (iotaInDim S4 32 0))))
    shapeCasts_S4096x4_S16384

open StableHlo.Predicate (ij ixP bcast_of_col bcast_col1 bcast_cols iota_apply) in
theorem quarters_nat (p : IVec S4096 32) (hp : ∀ t, nat p t < 32768) (k : Fin 16384) :
    nat (quarters p) k = 4 * nat p ⟨k.val / 4, by omega⟩ + k.val % 4 := by
  have hk := k.isLt
  have e : quarters p (ValueIdx.ix1 k) = p (ValueIdx.ix1 ⟨k.val / 4, by omega⟩) * 4#32 + BitVec.ofNat 32 (k.val % 4) := by
    unfold quarters
    refine (shapeCast_apply _ _ _ (ij ⟨k.val / 4, by omega⟩ ⟨k.val % 4, by omega⟩) ?_).trans ?_
    · rw [Shape.rowMajor_val_two]
      rw [Shape.rowMajor_val_one]
      show k.val / 4 * 4 + k.val % 4 = k.val
      omega
    · show broadcastInDim _ _ _ _ (ij _ _) + broadcastInDim _ _ _ (broadcastInDim _ _ _ _) (ij _ _) = _
      rw [bcast_of_col, bcast_cols, iota_apply]
      show broadcastInDim _ _ _ p (ixP _) * 4#32 + _ = _
      rw [bcast_col1, ofFin_eq]
  unfold nat at hp ⊢
  rw [e, BitVec.toNat_add, BitVec.toNat_mul, BitVec.toNat_ofNat, BitVec.toNat_ofNat]
  have := hp ⟨k.val / 4, by omega⟩
  omega

section

variable (V : Vals F)

theorem ops1_v0 : StableHlo.after ops1 V (Proc.devRef .tc main_v0) = shapeCast S16384x2x128 (V (Proc.devRef .tc main_arg0)) shapeCasts_S4096x8x128_S16384x2x128 := by
  unfold ops1
  after_reads_simp
  rfl

theorem ops1_v9 : StableHlo.after ops1 V (Proc.devRef .tc main_v9) = quarters (V (Proc.devRef .tc main_arg1)) := by
  unfold ops1
  after_reads_simp
  rfl

theorem ops1_v18 : StableHlo.after ops1 V (Proc.devRef .tc main_v18) = quarters (V (Proc.devRef .tc main_arg2)) := by
  unfold ops1
  after_reads_simp
  rfl

theorem ops3_v37 : StableHlo.after ops3 V (Proc.devRef .tc main_v37) = quarters (V (Proc.devRef .tc main_arg1)) := by
  unfold ops3
  after_reads_simp
  rfl

theorem ops3_v46 : StableHlo.after ops3 V (Proc.devRef .tc main_v46) = quarters (V (Proc.devRef .tc main_arg2)) := by
  unfold ops3
  after_reads_simp
  rfl

theorem ops3_v28 : StableHlo.after ops3 V (Proc.devRef .tc main_v28) = shapeCast S131072x2x128 (V (Proc.devRef .tc main_v27)) shapeCasts_S32768x8x128_S131072x2x128 := by
  unfold ops3
  after_reads_simp
  rfl

theorem ops2_v20 : StableHlo.after ops2 V (Proc.devRef .tc main_v20) = shapeCast S32768x8x128 (V (Proc.devRef .tc main_v19)) shapeCasts_S131072x2x128_S32768x8x128 := by
  unfold ops2
  after_reads_simp
  rfl

theorem ops4_v48 : StableHlo.after ops4 V (Proc.devRef .tc main_v48) = shapeCast S4096x8x128 (V (Proc.devRef .tc main_v47_0)) shapeCasts_S16384x2x128_S4096x8x128 := by
  unfold ops4
  after_reads_simp
  rfl

theorem ops4_v49 : StableHlo.after ops4 V (Proc.devRef .tc main_v49) = shapeCast S4096x8x128 (V (Proc.devRef .tc main_v47_1)) shapeCasts_S16384x2x128_S4096x8x128 := by
  unfold ops4
  after_reads_simp
  rfl

end

end Cert.Proof

end
-- ==== Proof.Frame.lean ====
/-
  From the precondition: the program runs to its end, its arguments untouched, every semaphore back at zero.
-/
module

public import proofs.«01_k».proof.Proof.Lists
public import proofs.«01_k».proof.Proof.Gen.Pre_routed
public import Idealize.ShloMosaic.Lib.Pipeline.RegionArraysS

@[expose] public section

noncomputable section

namespace Cert.Proof

open Cert.KernelIdeal Cert.KernelIdeal.Gen
open Idealize.ShloMosaic
open Idealize.ShloMosaic.Pipeline
open Idealize.SL.Sem

variable {F : FTy → Type} [FloatOps F]

variable (m : (ℓ : Loc nD τ sig) → Buf (Elt F) ℓ)

/-- The program's slots and tables are as the precondition says. -/
def Good : Prop := ∀ d : Dev nD, Routed (nat (V0 m d (Proc.devRef .tc main_arg1))) (nat (V0 m d (Proc.devRef .tc main_arg2)))
  (nat (V0 m d (Proc.devRef .tc main_arg3))) (nat (V0 m d (Proc.devRef .tc main_arg4)))

/-- The tables the program is given. -/
def given : pre1.Contents (Elt F) := fun k => V0 m 0 (Proc.devRef .tc (pre1.ref k))

variable {m}

theorem Good.tables (h : Good m) : Moe.Tables (given m) := ⟨(h 0).expert_lt, (h 0).block_eq⟩

/-- The tables, as the calls take them. -/
def adm (h : Good m) : (p : Fin 2) → (pcfgs (F := F) p).Adm
  | 0 => ⟨given m, h.tables.ok⟩
  | 1 => cfg3.toPCfg_adm

theorem adm_given (h : Good m) : Given m (adm h) := fun d k => by
  obtain rfl : d = 0 := Subsingleton.elim d 0
  rfl

theorem ix1_self {n : ℕ} (x : (⟨1, ![n]⟩ : Shape).Idx) : ValueIdx.ix1 (x 0) = x := by
  funext a; match a with | ⟨0, _⟩ => rfl

theorem quarters_at (p : IVec S4096 32) (hp : ∀ t, nat p t < 32768) (x : S16384.Idx) :
    (quarters p x).toNat = 4 * nat p ⟨(x 0).val / 4, by have : (x 0).val < 16384 := (x 0).isLt; omega⟩ + (x 0).val % 4 := by
  refine Eq.trans ?_ (quarters_nat p hp (x 0))
  exact congrArg (fun z => (quarters p z).toNat) (ix1_self x).symm

theorem quarters_lt (p : IVec S4096 32) (hp : ∀ t, nat p t < 32768) (x : S16384.Idx) : (quarters p x).toNat < 131072 := by
  rw [quarters_at p hp]
  have := hp ⟨(x 0).val / 4, by have : (x 0).val < 16384 := (x 0).isLt; omega⟩
  omega

theorem quarters_inj (p : IVec S4096 32) (hp : ∀ t, nat p t < 32768) (hi : ∀ t u, nat p t = nat p u → t = u) :
    Function.Injective fun x => (quarters p x).toNat := by
  intro x y e
  dsimp only at e
  rw [quarters_at p hp, quarters_at p hp] at e
  have h1 := hi ⟨(x 0).val / 4, by have : (x 0).val < 16384 := (x 0).isLt; omega⟩ ⟨(y 0).val / 4, by have : (y 0).val < 16384 := (y 0).isLt; omega⟩ (by omega)
  have h2 := congrArg Fin.val h1
  dsimp only at h2
  rw [← ix1_self x, ← ix1_self y]
  congr 1
  apply Fin.ext
  omega

theorem Good.distinct (h : Good m) (d : Dev nD) :
    Dispatch.Distinct (F := F) (at' d (V1 m d) main_v9) (at' d (V1 m d) main_v18) := by
  rw [show at' d (V1 m d) main_v9 = quarters (V0 m d (Proc.devRef .tc main_arg1)) from ops1_v9 _,
    show at' d (V1 m d) main_v18 = quarters (V0 m d (Proc.devRef .tc main_arg2)) from ops1_v18 _]
  refine ⟨quarters_lt _ (h d).lt1, quarters_lt _ (h d).lt2, quarters_inj _ (h d).lt1 fun t u => (h d).inj1,
    quarters_inj _ (h d).lt2 fun t u => (h d).inj2, fun x y e => ?_⟩
  replace e : (quarters (V0 m d (Proc.devRef .tc main_arg1)) x).toNat = (quarters (V0 m d (Proc.devRef .tc main_arg2)) y).toNat := e
  rw [quarters_at _ (h d).lt1, quarters_at _ (h d).lt2] at e
  exact (h d).disjoint ⟨(x 0).val / 4, by have : (x 0).val < 16384 := (x 0).isLt; omega⟩ ⟨(y 0).val / 4, by have : (y 0).val < 16384 := (y 0).isLt; omega⟩ (by omega)

/-! ## What the calls leave alone -/

section

variable (m) (a : (p : Fin 2) → (pcfgs (F := F) p).Adm) (d : Dev nD)

theorem V4_keep (r : Ref sig .tc) (h : r ≠ main_v27) : V4 m a d (Proc.devRef .tc r) = V3 m d (Proc.devRef .tc r) :=
  afterRegion_keeps (Moe.dat a d (V3 m d)) (V3 m d) (launch1 (F := F)).win.arr_inj (fun _ => rfl) r fun w e =>
    match w with
    | 0 => rfl | 1 => rfl | 2 => rfl | 3 => rfl
    | 4 => absurd e.symm h

theorem V8_keep (r : Ref sig .tc) (h : r ≠ main_v50) : V8 m a d (Proc.devRef .tc r) = V7 m a d (Proc.devRef .tc r) :=
  afterRegion_keeps (Comb.dat a d (V7 m a d)) (V7 m a d) (launch3 (F := F)).win.arr_inj (fun _ => rfl) r fun w e =>
    match w with
    | 0 => rfl | 1 => rfl | 2 => rfl | 3 => rfl
    | 4 => absurd e.symm h

theorem V3_V0 (r : Ref sig .tc) (h1 : r ∉ outs1) (h2 : r ≠ main_v19) (h3 : r ∉ outs2) :
    V3 m d (Proc.devRef .tc r) = V0 m d (Proc.devRef .tc r) := by
  unfold V3
  rw [ops2_keep _ r h3]
  unfold V2
  rw [Function.update_of_ne (StableHlo.devRef_ne_of_ne h2)]
  unfold V1
  rw [ops1_keep _ r h1]

theorem V7_V4 (r : Ref sig .tc) (h1 : r ∉ outs3) (h2 : r ≠ main_v47_0) (h3 : r ≠ main_v47_1) (h4 : r ∉ outs4) :
    V7 m a d (Proc.devRef .tc r) = V4 m a d (Proc.devRef .tc r) := by
  unfold V7
  rw [ops4_keep _ r h4]
  unfold V6
  rw [Function.update_of_ne (StableHlo.devRef_ne_of_ne h3), Function.update_of_ne (StableHlo.devRef_ne_of_ne h2)]
  unfold V5
  rw [ops3_keep _ r h1]

/-- An array nothing writes ends as it began. -/
theorem V8_V0 (r : Ref sig .tc) (h : r ∉ outs1 ++ outs2 ++ outs3 ++ outs4 ++ [main_v19, main_v27, main_v47_0, main_v47_1, main_v50]) :
    V8 m a d (Proc.devRef .tc r) = V0 m d (Proc.devRef .tc r) := by
  simp only [List.mem_append, not_or, List.mem_cons] at h
  obtain ⟨⟨⟨⟨h1, h2⟩, h3⟩, h4⟩, n1, n2, n3, n4, n5, -⟩ := h
  rw [V8_keep m a d r n5, V7_V4 m a d r h3 n3 n4 h4, V4_keep m a d r n2, V3_V0 m d r h1 n1 h2]

end

/-- The run, from slots and tables as the precondition says. -/
theorem run_good [∀ e, Nonempty (Elt F e)] (ρ : Dev nD → PrngReg) (h : Good m) :
    θ_run (defs (F := F)) (threads (F := F)) ⟨m, fun _ => 0, ρ⟩ (Ends m (adm h)) := by
  have e1 : ∀ d, at' d (V5 m (adm h) d) main_v37 = quarters (V0 m d (Proc.devRef .tc main_arg1)) := fun d =>
    (ops3_v37 _).trans (congrArg quarters ((V4_keep m _ d main_arg1 (by decide)).trans (V3_V0 m d main_arg1 (by decide) (by decide) (by decide))))
  have e2 : ∀ d, at' d (V5 m (adm h) d) main_v46 = quarters (V0 m d (Proc.devRef .tc main_arg2)) := fun d =>
    (ops3_v46 _).trans (congrArg quarters ((V4_keep m _ d main_arg2 (by decide)).trans (V3_V0 m d main_arg2 (by decide) (by decide) (by decide))))
  refine run_main m (adm h) ρ (adm_given h) h.distinct (fun d x => ?_) (fun d x => ?_)
  · rw [e1]
    exact quarters_lt _ (h d).lt1 x
  · rw [e2]
    exact quarters_lt _ (h d).lt2 x

/-- An argument array at the end. -/
theorem Ends.arg {a : (p : Fin 2) → (pcfgs (F := F) p).Adm} {r} (h : Ends m a r) (d : Dev nD) (b : Ref sig .tc) (hs : b.isScoped = false)
    (hn : b ∉ outs1 ++ outs2 ++ outs3 ++ outs4 ++ [main_v19, main_v27, main_v47_0, main_v47_1, main_v50]) :
    r.2.mem (d, Proc.devRef .tc b) = m (d, Proc.devRef .tc b) :=
  (h.1 d _ (mem_arrs b hs)).trans (V8_V0 m a d b hn)

end Cert.Proof

end
-- ==== Proof.BareOps.lean ====
/-
  The host lines of the kernel as it is read over machine floats: the same lines, under their other name.
-/
module

public import proofs.«01_k».proof.Proof.Frame
public import proofs.«01_k».proof.Proof.Gen.Kernel

@[expose] public section

noncomputable section

namespace Cert.Proof.Bare

open Cert.Kernel Cert.Kernel.Gen
open Idealize.ShloMosaic
open Idealize.SL.Sem
open Idealize.ShloMosaic.Pipeline

variable {F : FTy → Type} [FloatOps F]

/-! ## The host lines -/

/-- The host operations of the first line. -/
def ops1 : List (HloOp τ sig (Elt F)) := [
  StableHlo.reshape main_arg0 main_v0 (rfl : (.f32 : EltTy) = .f32) shapeCasts_S4096x8x128_S16384x2x128,
  StableHlo.unary main_arg1 main_v1 (broadcastInDim S4096x1 ![0] bcast_S4096_S4096x1_0 : (⟨S4096, .i32⟩ : BufTy).Contents (Elt F) → (⟨S4096x1, .i32⟩ : BufTy).Contents (Elt F)),
  StableHlo.nullary main_c (constantI S_ 32 4#32),
  StableHlo.unary main_c main_v2 (broadcastInDim S4096x1 ![] bcast_S_S4096x1 : (⟨S_, .i32⟩ : BufTy).Contents (Elt F) → (⟨S4096x1, .i32⟩ : BufTy).Contents (Elt F)),
  StableHlo.binary main_v1 main_v2 main_v3 (muli : (⟨S4096x1, .i32⟩ : BufTy).Contents (Elt F) → (⟨S4096x1, .i32⟩ : BufTy).Contents (Elt F) → (⟨S4096x1, .i32⟩ : BufTy).Contents (Elt F)),
  StableHlo.nullary main_v4 (iotaInDim S4 32 0),
  StableHlo.unary main_v4 main_v5 (broadcastInDim S1x4 ![1] bcast_S4_S1x4_1 : (⟨S4, .i32⟩ : BufTy).Contents (Elt F) → (⟨S1x4, .i32⟩ : BufTy).Contents (Elt F)),
  StableHlo.unary main_v3 main_v6 (broadcastInDim S4096x4 ![0, 1] bcast_S4096x1_S4096x4_0_1 : (⟨S4096x1, .i32⟩ : BufTy).Contents (Elt F) → (⟨S4096x4, .i32⟩ : BufTy).Contents (Elt F)),
  StableHlo.unary main_v5 main_v7 (broadcastInDim S4096x4 ![0, 1] bcast_S1x4_S4096x4_0_1 : (⟨S1x4, .i32⟩ : BufTy).Contents (Elt F) → (⟨S4096x4, .i32⟩ : BufTy).Contents (Elt F)),
  StableHlo.binary main_v6 main_v7 main_v8 (addi : (⟨S4096x4, .i32⟩ : BufTy).Contents (Elt F) → (⟨S4096x4, .i32⟩ : BufTy).Contents (Elt F) → (⟨S4096x4, .i32⟩ : BufTy).Contents (Elt F)),
  StableHlo.reshape main_v8 main_v9 (rfl : (.i32 : EltTy) = .i32) shapeCasts_S4096x4_S16384,
  StableHlo.unary main_arg2 main_v10 (broadcastInDim S4096x1 ![0] bcast_S4096_S4096x1_0 : (⟨S4096, .i32⟩ : BufTy).Contents (Elt F) → (⟨S4096x1, .i32⟩ : BufTy).Contents (Elt F)),
  StableHlo.nullary main_c_0 (constantI S_ 32 4#32),
  StableHlo.unary main_c_0 main_v11 (broadcastInDim S4096x1 ![] bcast_S_S4096x1 : (⟨S_, .i32⟩ : BufTy).Contents (Elt F) → (⟨S4096x1, .i32⟩ : BufTy).Contents (Elt F)),
  StableHlo.binary main_v10 main_v11 main_v12 (muli : (⟨S4096x1, .i32⟩ : BufTy).Contents (Elt F) → (⟨S4096x1, .i32⟩ : BufTy).Contents (Elt F) → (⟨S4096x1, .i32⟩ : BufTy).Contents (Elt F)),
  StableHlo.nullary main_v13 (iotaInDim S4 32 0),
  StableHlo.unary main_v13 main_v14 (broadcastInDim S1x4 ![1] bcast_S4_S1x4_1 : (⟨S4, .i32⟩ : BufTy).Contents (Elt F) → (⟨S1x4, .i32⟩ : BufTy).Contents (Elt F)),
  StableHlo.unary main_v12 main_v15 (broadcastInDim S4096x4 ![0, 1] bcast_S4096x1_S4096x4_0_1 : (⟨S4096x1, .i32⟩ : BufTy).Contents (Elt F) → (⟨S4096x4, .i32⟩ : BufTy).Contents (Elt F)),
  StableHlo.unary main_v14 main_v16 (broadcastInDim S4096x4 ![0, 1] bcast_S1x4_S4096x4_0_1 : (⟨S1x4, .i32⟩ : BufTy).Contents (Elt F) → (⟨S4096x4, .i32⟩ : BufTy).Contents (Elt F)),
  StableHlo.binary main_v15 main_v16 main_v17 (addi : (⟨S4096x4, .i32⟩ : BufTy).Contents (Elt F) → (⟨S4096x4, .i32⟩ : BufTy).Contents (Elt F) → (⟨S4096x4, .i32⟩ : BufTy).Contents (Elt F)),
  StableHlo.reshape main_v17 main_v18 (rfl : (.i32 : EltTy) = .i32) shapeCasts_S4096x4_S16384]

/-- The host operations of the second line. -/
def ops2 : List (HloOp τ sig (Elt F)) := [
  StableHlo.reshape main_v19 main_v20 (rfl : (.f32 : EltTy) = .f32) shapeCasts_S131072x2x128_S32768x8x128,
  StableHlo.unary main_arg7 main_v21 ((transpose S8x1024x512 [0, 2, 1] · transposes_S8x512x1024_S8x1024x512_0_2_1) : (⟨S8x512x1024, .f32⟩ : BufTy).Contents (Elt F) → (⟨S8x1024x512, .f32⟩ : BufTy).Contents (Elt F)),
  StableHlo.unary main_v21 main_v22 ((truncf .bf16 · bitsLt_bf16_f32) : (⟨S8x1024x512, .f32⟩ : BufTy).Contents (Elt F) → (⟨S8x1024x512, .bf16⟩ : BufTy).Contents (Elt F)),
  StableHlo.unary main_arg8 main_v23 ((transpose S8x1024x512 [0, 2, 1] · transposes_S8x512x1024_S8x1024x512_0_2_1) : (⟨S8x512x1024, .f32⟩ : BufTy).Contents (Elt F) → (⟨S8x1024x512, .f32⟩ : BufTy).Contents (Elt F)),
  StableHlo.unary main_v23 main_v24 ((truncf .bf16 · bitsLt_bf16_f32) : (⟨S8x1024x512, .f32⟩ : BufTy).Contents (Elt F) → (⟨S8x1024x512, .bf16⟩ : BufTy).Contents (Elt F)),
  StableHlo.unary main_arg9 main_v25 ((transpose S8x512x1024 [0, 2, 1] · transposes_S8x1024x512_S8x512x1024_0_2_1) : (⟨S8x1024x512, .f32⟩ : BufTy).Contents (Elt F) → (⟨S8x512x1024, .f32⟩ : BufTy).Contents (Elt F)),
  StableHlo.unary main_v25 main_v26 ((truncf .bf16 · bitsLt_bf16_f32) : (⟨S8x512x1024, .f32⟩ : BufTy).Contents (Elt F) → (⟨S8x512x1024, .bf16⟩ : BufTy).Contents (Elt F))]

/-- The host operations of the third line. -/
def ops3 : List (HloOp τ sig (Elt F)) := [
  StableHlo.reshape main_v27 main_v28 (rfl : (.f32 : EltTy) = .f32) shapeCasts_S32768x8x128_S131072x2x128,
  StableHlo.unary main_arg1 main_v29 (broadcastInDim S4096x1 ![0] bcast_S4096_S4096x1_0 : (⟨S4096, .i32⟩ : BufTy).Contents (Elt F) → (⟨S4096x1, .i32⟩ : BufTy).Contents (Elt F)),
  StableHlo.nullary main_c_1 (constantI S_ 32 4#32),
  StableHlo.unary main_c_1 main_v30 (broadcastInDim S4096x1 ![] bcast_S_S4096x1 : (⟨S_, .i32⟩ : BufTy).Contents (Elt F) → (⟨S4096x1, .i32⟩ : BufTy).Contents (Elt F)),
  StableHlo.binary main_v29 main_v30 main_v31 (muli : (⟨S4096x1, .i32⟩ : BufTy).Contents (Elt F) → (⟨S4096x1, .i32⟩ : BufTy).Contents (Elt F) → (⟨S4096x1, .i32⟩ : BufTy).Contents (Elt F)),
  StableHlo.nullary main_v32 (iotaInDim S4 32 0),
  StableHlo.unary main_v32 main_v33 (broadcastInDim S1x4 ![1] bcast_S4_S1x4_1 : (⟨S4, .i32⟩ : BufTy).Contents (Elt F) → (⟨S1x4, .i32⟩ : BufTy).Contents (Elt F)),
  StableHlo.unary main_v31 main_v34 (broadcastInDim S4096x4 ![0, 1] bcast_S4096x1_S4096x4_0_1 : (⟨S4096x1, .i32⟩ : BufTy).Contents (Elt F) → (⟨S4096x4, .i32⟩ : BufTy).Contents (Elt F)),
  StableHlo.unary main_v33 main_v35 (broadcastInDim S4096x4 ![0, 1] bcast_S1x4_S4096x4_0_1 : (⟨S1x4, .i32⟩ : BufTy).Contents (Elt F) → (⟨S4096x4, .i32⟩ : BufTy).Contents (Elt F)),
  StableHlo.binary main_v34 main_v35 main_v36 (addi : (⟨S4096x4, .i32⟩ : BufTy).Contents (Elt F) → (⟨S4096x4, .i32⟩ : BufTy).Contents (Elt F) → (⟨S4096x4, .i32⟩ : BufTy).Contents (Elt F)),
  StableHlo.reshape main_v36 main_v37 (rfl : (.i32 : EltTy) = .i32) shapeCasts_S4096x4_S16384,
  StableHlo.unary main_arg2 main_v38 (broadcastInDim S4096x1 ![0] bcast_S4096_S4096x1_0 : (⟨S4096, .i32⟩ : BufTy).Contents (Elt F) → (⟨S4096x1, .i32⟩ : BufTy).Contents (Elt F)),
  StableHlo.nullary main_c_2 (constantI S_ 32 4#32),
  StableHlo.unary main_c_2 main_v39 (broadcastInDim S4096x1 ![] bcast_S_S4096x1 : (⟨S_, .i32⟩ : BufTy).Contents (Elt F) → (⟨S4096x1, .i32⟩ : BufTy).Contents (Elt F)),
  StableHlo.binary main_v38 main_v39 main_v40 (muli : (⟨S4096x1, .i32⟩ : BufTy).Contents (Elt F) → (⟨S4096x1, .i32⟩ : BufTy).Contents (Elt F) → (⟨S4096x1, .i32⟩ : BufTy).Contents (Elt F)),
  StableHlo.nullary main_v41 (iotaInDim S4 32 0),
  StableHlo.unary main_v41 main_v42 (broadcastInDim S1x4 ![1] bcast_S4_S1x4_1 : (⟨S4, .i32⟩ : BufTy).Contents (Elt F) → (⟨S1x4, .i32⟩ : BufTy).Contents (Elt F)),
  StableHlo.unary main_v40 main_v43 (broadcastInDim S4096x4 ![0, 1] bcast_S4096x1_S4096x4_0_1 : (⟨S4096x1, .i32⟩ : BufTy).Contents (Elt F) → (⟨S4096x4, .i32⟩ : BufTy).Contents (Elt F)),
  StableHlo.unary main_v42 main_v44 (broadcastInDim S4096x4 ![0, 1] bcast_S1x4_S4096x4_0_1 : (⟨S1x4, .i32⟩ : BufTy).Contents (Elt F) → (⟨S4096x4, .i32⟩ : BufTy).Contents (Elt F)),
  StableHlo.binary main_v43 main_v44 main_v45 (addi : (⟨S4096x4, .i32⟩ : BufTy).Contents (Elt F) → (⟨S4096x4, .i32⟩ : BufTy).Contents (Elt F) → (⟨S4096x4, .i32⟩ : BufTy).Contents (Elt F)),
  StableHlo.reshape main_v45 main_v46 (rfl : (.i32 : EltTy) = .i32) shapeCasts_S4096x4_S16384]

/-- The host operations of the last line. -/
def ops4 : List (HloOp τ sig (Elt F)) := [
  StableHlo.reshape main_v47_0 main_v48 (rfl : (.f32 : EltTy) = .f32) shapeCasts_S16384x2x128_S4096x8x128,
  StableHlo.reshape main_v47_1 main_v49 (rfl : (.f32 : EltTy) = .f32) shapeCasts_S16384x2x128_S4096x8x128]
/-- The host lines and the four calls, for any SparseCore calls and lines. -/
def mainWith (k : SparseCore.Cfg τ sig (Pipeline.Sig Λ₀ (Fin 2) fun p => (pcfgs (F := F) p).Adm) 2)
    (o1 o2 o3 o4 : List (HloOp τ sig (Elt F))) (d : Dev nD) :
    Prog (TpuEff nD τ sig (Elt F) (SparseCore.Sig (Pipeline.Sig Λ₀ (Fin 2) fun p => (pcfgs (F := F) p).Adm) 2) .tc) PUnit :=
  StableHlo.seq o1 >>= fun _ => k.run d 0 >>= fun _ => StableHlo.seq o2 >>= fun _ =>
    Prog.lift (.customCall (SparseCore.inner (Pipeline.entry 0)) ()) >>= fun _ => StableHlo.seq o3 >>= fun _ =>
    k.run d 1 >>= fun _ => StableHlo.seq o4 >>= fun _ =>
    Prog.lift (.customCall (SparseCore.inner (Pipeline.entry 1)) ()) >>= fun _ => pure ⟨⟩

/-- The program as its host lines and its four calls. -/
theorem main_eq (d : Dev nD) : main (F := F) d = mainWith sc ops1 ops2 ops3 ops4 d := rfl

/-! ## The lines are the same -/

set_option maxHeartbeats 2000000 in
theorem ops1_eq : ops1 (F := F) = Cert.Proof.ops1 (F := F) := rfl

set_option maxHeartbeats 2000000 in
theorem ops2_eq : ops2 (F := F) = Cert.Proof.ops2 (F := F) := rfl

set_option maxHeartbeats 2000000 in
theorem ops3_eq : ops3 (F := F) = Cert.Proof.ops3 (F := F) := rfl

set_option maxHeartbeats 2000000 in
theorem ops4_eq : ops4 (F := F) = Cert.Proof.ops4 (F := F) := rfl

end Cert.Proof.Bare

end
-- ==== Proof.Frames.lean ====
/-
  The frames of the two readings of the kernel.
-/
module

public import proofs.«01_k».proof.Proof.Frame
public import proofs.«01_k».proof.Proof.BareOps
public import proofs.«01_k».proof.Defs

@[expose] public section

noncomputable section

namespace Cert.Proof

open Cert.KernelIdeal Cert.KernelIdeal.Gen
open Idealize.ShloMosaic
open Idealize.SL.Sem

theorem good_ideal (m : (ℓ : Loc nD τ sig) → Buf (Elt Ideal) ℓ) (h : Cert.Pre_KernelIdeal m) : Good (F := Ideal) m := fun d =>
  routed_of_pre (F := Ideal) _ _ _ _ _ _ _ _ _ _ (h d)

theorem good_bits (m : (ℓ : Loc nD τ sig) → Buf (Elt Bits) ℓ) (h : Cert.Pre_Kernel m) : Good (F := Bits) m := fun d =>
  routed_of_pre (F := Bits) _ _ _ _ _ _ _ _ _ _ (h d)

/-- The run's end, argument by argument. -/
theorem frame_any {F : FTy → Type} [FloatOps F] [∀ e, Nonempty (Elt F e)] {m : (ℓ : Loc nD τ sig) → Buf (Elt F) ℓ} (ρ : Dev nD → PrngReg) (h : Good m) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run (defs (F := F)) _ _).mono
    (fun _ e => ⟨fun c => ⟨e.arg c main_arg0 rfl (by decide), e.arg c main_arg1 rfl (by decide), e.arg c main_arg2 rfl (by decide),
      e.arg c main_arg3 rfl (by decide), e.arg c main_arg4 rfl (by decide), e.arg c main_arg5 rfl (by decide), e.arg c main_arg6 rfl (by decide),
      e.arg c main_arg7 rfl (by decide), e.arg c main_arg8 rfl (by decide), e.arg c main_arg9 rfl (by decide)⟩, e.2⟩)
    (run_good ρ h)

theorem frame_ideal : Cert.quiescent_KernelIdeal := fun m ρ h => frame_any (F := Ideal) ρ (good_ideal m h)

/-! ## The other reading: the same text, so the same run -/

section

variable (pc : Fin 2 → Pipeline.PCfg sig Λ₀ (Elt Bits))

/-- The SparseCore calls, beside pipelines `pc`. -/
abbrev scOf : SparseCore.Cfg τ sig (Pipeline.Sig Λ₀ (Fin 2) fun p => (pc p).Adm) 2 where
  kind := (sc (F := Bits)).kind
  nCore := (sc (F := Bits)).nCore
  nSub := (sc (F := Bits)).nSub
  hkind := (sc (F := Bits)).hkind
  hCore := (sc (F := Bits)).hCore
  hSub := (sc (F := Bits)).hSub
  body := fun | 0 => Pipeline.kernel 0 | 1 => Pipeline.kernel 2 | ⟨_ + 2, h⟩ => absurd h (Nat.not_lt.2 (Nat.le_add_left _ _))
  args := fun | 0 => ⟨⟩ | 1 => ⟨⟩ | ⟨_ + 2, h⟩ => absurd h (Nat.not_lt.2 (Nat.le_add_left _ _))
  start := sc_start
  done := sc_done
  go := sc_go
  taskDone := sc_taskDone

/-- The program, beside pipelines `pc`, for any SparseCore calls and lines. -/
def mainOf (k : SparseCore.Cfg τ sig (Pipeline.Sig Λ₀ (Fin 2) fun p => (pc p).Adm) 2) (o1 o2 o3 o4 : List (HloOp τ sig (Elt Bits)))
    (d : Dev nD) : Prog (TpuEff nD τ sig (Elt Bits) (SparseCore.Sig (Pipeline.Sig Λ₀ (Fin 2) fun p => (pc p).Adm) 2) .tc) PUnit :=
  StableHlo.seq o1 >>= fun _ => k.run d 0 >>= fun _ => StableHlo.seq o2 >>= fun _ =>
    Prog.lift (.customCall (SparseCore.inner (Pipeline.entry 0)) ()) >>= fun _ => StableHlo.seq o3 >>= fun _ =>
    k.run d 1 >>= fun _ => StableHlo.seq o4 >>= fun _ =>
    Prog.lift (.customCall (SparseCore.inner (Pipeline.entry 1)) ()) >>= fun _ => pure ⟨⟩

/-- The run of any program with this program's pipelines and bodies. -/
theorem frame_of {o1 o2 o3 o4 : List (HloOp τ sig (Elt Bits))} (h1 : o1 = ops1) (h2 : o2 = ops2) (h3 : o3 = ops3) (h4 : o4 = ops4)
    (d0 : Defs nD τ sig (Elt Bits) Λ₀) (hp : pc = pcfgs (F := Bits)) (hd : d0 = defs₀ (F := Bits))
    {m : (ℓ : Loc nD τ sig) → Buf (Elt Bits) ℓ} (ρ : Dev nD → PrngReg) (h : Good m) :
    θ_run ((scOf pc).defs (Pipeline.defs pc d0)) ((scOf pc).threads (mainOf pc (scOf pc) o1 o2 o3 o4)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  subst hp hd h1 h2 h3 h4
  have e : mainOf (pcfgs (F := Bits)) (scOf (pcfgs (F := Bits))) ops1 ops2 ops3 ops4 = main (F := Bits) := funext fun d => (main_eq d).symm
  rw [e]
  exact frame_any (F := Bits) ρ h

end

set_option maxHeartbeats 1000000 in
theorem pcfgs_eq : Cert.Kernel.pcfgs (F := Bits) = pcfgs (F := Bits) := rfl

set_option maxHeartbeats 1000000 in
theorem defs₀_eq : Cert.Kernel.defs₀ (F := Bits) = defs₀ (F := Bits) := by
  funext p l x
  match p, l, x with
  | .scVector c s, 0, _ => rfl
  | .tc, 1, (t, s) => rfl
  | .scVector c s, 2, _ => rfl
  | .tc, 3, (t, s) => rfl
  | .tc, 0, _ => rfl
  | .tc, 2, _ => rfl
  | .scVector c s, 1, _ => rfl
  | .scVector c s, 3, _ => rfl
  | .scScalar c, 0, _ => rfl
  | .scScalar c, 1, _ => rfl
  | .scScalar c, 2, _ => rfl
  | .scScalar c, 3, _ => rfl

set_option maxHeartbeats 1000000 in
theorem sc_eq : Cert.Kernel.sc (F := Bits) = scOf (Cert.Kernel.pcfgs (F := Bits)) := rfl

set_option maxHeartbeats 1000000 in
theorem mainWith_eq (k) (o1 o2 o3 o4) (d) : Bare.mainWith (F := Bits) k o1 o2 o3 o4 d =
    mainOf (Cert.Kernel.pcfgs (F := Bits)) k o1 o2 o3 o4 d := rfl

end Cert.Proof

end
-- ==== Proof.Bare.lean ====
/-
  The frame of the kernel over machine floats.
-/
module

public import proofs.«01_k».proof.Proof.Frames

@[expose] public section

noncomputable section

namespace Cert.Proof

open Cert.KernelIdeal Cert.KernelIdeal.Gen
open Idealize.ShloMosaic
open Idealize.SL.Sem

set_option maxHeartbeats 2000000 in
/-- The program's text over machine floats is that program. -/
theorem main_bare : Cert.Kernel.main (F := Bits) =
    mainOf (Cert.Kernel.pcfgs (F := Bits)) (scOf (Cert.Kernel.pcfgs (F := Bits))) (Bare.ops1 (F := Bits)) (Bare.ops2 (F := Bits))
      (Bare.ops3 (F := Bits)) (Bare.ops4 (F := Bits)) := by
  funext d
  have a := Bare.main_eq (F := Bits) d
  have b := mainWith_eq (Cert.Kernel.sc (F := Bits)) (Bare.ops1 (F := Bits)) (Bare.ops2 (F := Bits)) (Bare.ops3 (F := Bits)) (Bare.ops4 (F := Bits)) d
  have c := congrArg (fun k => mainOf (Cert.Kernel.pcfgs (F := Bits)) k (Bare.ops1 (F := Bits)) (Bare.ops2 (F := Bits))
      (Bare.ops3 (F := Bits)) (Bare.ops4 (F := Bits)) d) sc_eq
  exact a.trans (b.trans c)

set_option maxHeartbeats 2000000 in
theorem threads_bare : Cert.Kernel.threads (F := Bits) = (scOf (Cert.Kernel.pcfgs (F := Bits))).threads (Cert.Kernel.main (F := Bits)) := rfl

set_option maxHeartbeats 2000000 in
theorem defs_bare : Cert.Kernel.defs (F := Bits) = (scOf (Cert.Kernel.pcfgs (F := Bits))).defs
    (Pipeline.defs (Cert.Kernel.pcfgs (F := Bits)) (Cert.Kernel.defs₀ (F := Bits))) := rfl

set_option maxHeartbeats 4000000 in
/-- A run of that program is a run of the kernel over machine floats. -/
theorem run_bare {m : (ℓ : Loc nD τ sig) → Buf (Elt Bits) ℓ} (ρ : Dev nD → PrngReg) {Q}
    (hQ : θ_run ((scOf (Cert.Kernel.pcfgs (F := Bits))).defs (Pipeline.defs (Cert.Kernel.pcfgs (F := Bits)) (Cert.Kernel.defs₀ (F := Bits))))
      ((scOf (Cert.Kernel.pcfgs (F := Bits))).threads (mainOf (Cert.Kernel.pcfgs (F := Bits)) (scOf (Cert.Kernel.pcfgs (F := Bits)))
        (Bare.ops1 (F := Bits)) (Bare.ops2 (F := Bits)) (Bare.ops3 (F := Bits)) (Bare.ops4 (F := Bits)))) ⟨m, fun _ => 0, ρ⟩ Q) :
    θ_run (Cert.Kernel.defs (F := Bits)) (Cert.Kernel.threads (F := Bits)) ⟨m, fun _ => 0, ρ⟩ Q := by
  have t := threads_bare.trans (congrArg (fun x => (scOf (Cert.Kernel.pcfgs (F := Bits))).threads x) main_bare)
  rw [defs_bare, t]
  exact hQ

theorem frame_kernel : Cert.quiescent_Kernel := by
  intro m ρ h
  have e := frame_of (Cert.Kernel.pcfgs (F := Bits)) Bare.ops1_eq Bare.ops2_eq Bare.ops3_eq Bare.ops4_eq
    (Cert.Kernel.defs₀ (F := Bits)) pcfgs_eq defs₀_eq (m := m) ρ (good_bits m h)
  have e' := run_bare ρ e
  exact e'

end Cert.Proof

end
-- ==== Proof.Reference.lean ====
/-
  The reference is host operations alone: it declares no semaphore, and its run is read back as one expression.
-/
module

public import proofs.«01_k».proof.Defs
public import proofs.«01_k».proof.Proof.Gen.ReferenceIdeal.Run
public import proofs.«01_k».proof.Proof.Gen.Pre_routed
public import Idealize.ShloMosaic.Lib.Quiescent

@[expose] public section

noncomputable section

namespace Cert.Proof

open Cert.ReferenceIdeal Cert.ReferenceIdeal.Gen
open Idealize.ShloMosaic Idealize.SL.Sem

theorem frame_reference : Cert.quiescent_ReferenceIdeal := fun m ρ _ =>
  (θ_run (defs (F := Ideal)) _ _).mono (fun r h => ⟨fun c => (h c).2, sem_eq_zero_of_no_sems (by decide) r.2⟩)
    (Value.run (F := Ideal) m ρ)

theorem frame_reference_routed : Cert.quiescent_ReferenceIdeal_pre_routed := fun m ρ _ =>
  (θ_run (defs (F := Ideal)) _ _).mono (fun r h => ⟨fun c => (h c).2, sem_eq_zero_of_no_sems (by decide) r.2⟩)
    (Value.run (F := Ideal) m ρ)

end Cert.Proof

end
-- ==== Proof.Path.lean ====
/-
  The way of the rows: what a token's slot holds after the scattering call, what the expert call makes of it, and what
  the gathering call brings back for the token.
-/
module

public import proofs.«01_k».proof.Proof.Frame

@[expose] public section

noncomputable section

namespace Cert.Proof

open Cert.KernelIdeal Cert.KernelIdeal.Gen
open Idealize.ShloMosaic
open Idealize.ShloMosaic.Pipeline
open Idealize.SL.Sem

/-! ## A row of 8 × 128 numbers as four rows of 2 × 128 -/

section

variable {α : Type}

/-- Quarter `j / 2` of row `t`. -/
def quarterOf {n : ℕ} (t : Fin n) (j : Fin 8) : Fin (4 * n) := ⟨4 * t.val + j.val / 2, by omega⟩

/-- The place of line `j` of a row in its quarter. -/
def lineOf (j : Fin 8) : Fin 2 := ⟨j.val % 2, by omega⟩

theorem split_tokens (x : S4096x8x128.Idx → α) (t : Fin 4096) (j : Fin 8) (l : Fin 128) :
    shapeCast S16384x2x128 x shapeCasts_S4096x8x128_S16384x2x128 (ValueIdx.ix3 (quarterOf t j) (lineOf j) l) = x (ValueIdx.ix3 t j l) :=
  shapeCast_apply _ _ _ _ (by
    rw [Shape.rowMajor_val_three, Shape.rowMajor_val_three]
    show (t.val * 8 + j.val) * 128 + l.val = ((4 * t.val + j.val / 2) * 2 + j.val % 2) * 128 + l.val
    omega)

theorem join_tokens (x : S16384x2x128.Idx → α) (t : Fin 4096) (j : Fin 8) (l : Fin 128) :
    shapeCast S4096x8x128 x shapeCasts_S16384x2x128_S4096x8x128 (ValueIdx.ix3 t j l) = x (ValueIdx.ix3 (quarterOf t j) (lineOf j) l) :=
  shapeCast_apply _ _ _ _ (by
    rw [Shape.rowMajor_val_three, Shape.rowMajor_val_three]
    show ((4 * t.val + j.val / 2) * 2 + j.val % 2) * 128 + l.val = (t.val * 8 + j.val) * 128 + l.val
    omega)

theorem split_slots (x : S32768x8x128.Idx → α) (p : Fin 32768) (j : Fin 8) (l : Fin 128) :
    shapeCast S131072x2x128 x shapeCasts_S32768x8x128_S131072x2x128 (ValueIdx.ix3 (quarterOf p j) (lineOf j) l) = x (ValueIdx.ix3 p j l) :=
  shapeCast_apply _ _ _ _ (by
    rw [Shape.rowMajor_val_three, Shape.rowMajor_val_three]
    show (p.val * 8 + j.val) * 128 + l.val = ((4 * p.val + j.val / 2) * 2 + j.val % 2) * 128 + l.val
    omega)

theorem join_slots (x : S131072x2x128.Idx → α) (p : Fin 32768) (j : Fin 8) (l : Fin 128) :
    shapeCast S32768x8x128 x shapeCasts_S131072x2x128_S32768x8x128 (ValueIdx.ix3 p j l) = x (ValueIdx.ix3 (quarterOf p j) (lineOf j) l) :=
  shapeCast_apply _ _ _ _ (by
    rw [Shape.rowMajor_val_three, Shape.rowMajor_val_three]
    show ((4 * p.val + j.val / 2) * 2 + j.val % 2) * 128 + l.val = (p.val * 8 + j.val) * 128 + l.val
    omega)

theorem quarters_of (v : IVec S4096 32) (hv : ∀ t, nat v t < 32768) (t : Fin 4096) (j : Fin 8) :
    (quarters v (ValueIdx.ix1 (quarterOf t j))).toNat = (quarterOf (⟨nat v t, hv t⟩ : Fin 32768) j).val := by
  refine (quarters_nat v hv (quarterOf t j)).trans ?_
  have e : (⟨(quarterOf t j).val / 4, by have := (quarterOf t j).isLt; omega⟩ : Fin 4096) = t :=
    Fin.ext (by show (4 * t.val + j.val / 2) / 4 = t.val; omega)
  rw [e]
  show 4 * nat v t + (4 * t.val + j.val / 2) % 4 = 4 * nat v t + j.val / 2
  omega

/-- Collecting the quarters of slots `v` from a table of slots brings every token its slot's row. -/
theorem collected {F : FTy → Type} (x : S32768x8x128.Idx → Elt F .f32) (v : IVec S4096 32) (hv : ∀ t, nat v t < 32768)
    (t : Fin 4096) (j : Fin 8) (l : Fin 128) :
    shapeCast S4096x8x128 (Collect.gath (F := F) (shapeCast S131072x2x128 x shapeCasts_S32768x8x128_S131072x2x128) (quarters v))
      shapeCasts_S16384x2x128_S4096x8x128 (ValueIdx.ix3 t j l) = x (ValueIdx.ix3 ⟨nat v t, hv t⟩ j l) := by
  rw [join_tokens]
  refine Eq.trans ?_ (split_slots x ⟨nat v t, hv t⟩ j l)
  unfold Collect.gath
  have e : Fin.ofNat 131072 (BitVec.toNat (quarters v (ValueIdx.ix1 (quarterOf t j)))) = (quarterOf (⟨nat v t, hv t⟩ : Fin 32768) j : Fin 131072) := by
    apply Fin.ext
    rw [Fin.val_ofNat, quarters_of v hv]
    exact Nat.mod_eq_of_lt (quarterOf (⟨nat v t, hv t⟩ : Fin 32768) j).isLt
  exact congrArg (fun q => shapeCast S131072x2x128 x shapeCasts_S32768x8x128_S131072x2x128 (ValueIdx.ix3 q (lineOf j) l)) e

end

variable {F : FTy → Type} [FloatOps F] {m : (ℓ : Loc nD τ sig) → Buf (Elt F) ℓ} (h : Good m) (d : Dev nD)

/-- Argument `r`'s contents at the start. -/
abbrev arg (m : (ℓ : Loc nD τ sig) → Buf (Elt F) ℓ) (d : Dev nD) (r : Ref sig .tc) := V0 m d (Proc.devRef .tc r)

def slot1 (h : Good m) (d : Dev nD) (t : Fin 4096) : Fin 32768 := ⟨nat (arg m d main_arg1) t, (h d).lt1 t⟩
def slot2 (h : Good m) (d : Dev nD) (t : Fin 4096) : Fin 32768 := ⟨nat (arg m d main_arg2) t, (h d).lt2 t⟩

/-! ## After the scattering call -/

theorem table_eq : V3 m d (Proc.devRef .tc main_v20) = shapeCast S32768x8x128 (Dispatch.out d (V1 m d)) shapeCasts_S131072x2x128_S32768x8x128 :=
  (ops2_v20 (V2 m d)).trans (congrArg (fun x => shapeCast S32768x8x128 x shapeCasts_S131072x2x128_S32768x8x128) (V2_v19 m d))

theorem tokens_eq (t : Fin 4096) (j : Fin 8) (l : Fin 128) :
    at' d (V1 m d) main_v0 (ValueIdx.ix3 (quarterOf t j) (lineOf j) l) = arg m d main_arg0 (ValueIdx.ix3 t j l) :=
  (congrFun (ops1_v0 (V0 m d)) _).trans (split_tokens _ t j l)

/-- A token's first slot holds the token. -/
theorem dispatched1 (t : Fin 4096) (j : Fin 8) (l : Fin 128) :
    V3 m d (Proc.devRef .tc main_v20) (ValueIdx.ix3 (slot1 h d t) j l) = arg m d main_arg0 (ValueIdx.ix3 t j l) := by
  rw [table_eq]
  refine (join_slots _ _ j l).trans (Eq.trans ?_ (tokens_eq d t j l))
  exact Dispatch.disp_fst (h.distinct d) _ (quarterOf t j)
    ((congrArg (fun f => BitVec.toNat (f (ValueIdx.ix1 (quarterOf t j)))) (ops1_v9 (V0 m d))).trans (quarters_of _ (h d).lt1 t j))

/-- And so does its second. -/
theorem dispatched2 (t : Fin 4096) (j : Fin 8) (l : Fin 128) :
    V3 m d (Proc.devRef .tc main_v20) (ValueIdx.ix3 (slot2 h d t) j l) = arg m d main_arg0 (ValueIdx.ix3 t j l) := by
  rw [table_eq]
  refine (join_slots _ _ j l).trans (Eq.trans ?_ (tokens_eq d t j l))
  exact Dispatch.disp_snd (h.distinct d) _ (quarterOf t j)
    ((congrArg (fun f => BitVec.toNat (f (ValueIdx.ix1 (quarterOf t j)))) (ops1_v18 (V0 m d))).trans (quarters_of _ (h d).lt2 t j))

/-! ## After the expert call -/

theorem at_val : ∀ t : Fin grid1.N, (Moe.at_ t).val = t.val := by decide +kernel

/-- The expert call's result at a slot whose block is listed. -/
theorem expert_at (k : S32768x8x128.Idx) (s : Fin 128) (hs : s.val < 23)
    (hb : (k 0).val / 512 = nat (arg m d main_arg4) s) :
    V4 m (adm h) d (Proc.devRef .tc main_v27) k
      = Moe.out (V3 m d (Proc.devRef .tc main_v20)) (V3 m d (Proc.devRef .tc main_v22)) (V3 m d (Proc.devRef .tc main_v24)) (V3 m d (Proc.devRef .tc main_v26)) k := by
  obtain rfl : d = 0 := Subsingleton.elim d 0
  have hN : grid1.N = 23 := by decide +kernel
  have e : Moe.at_ ⟨s.val, hN ▸ hs⟩ = s := Fin.ext (at_val _)
  refine (congrFun (afterRegion_arr (Moe.dat (adm h) 0 (V3 m 0)) (V3 m 0) (launch1 (F := F)).win.arr_inj 4) k).trans ?_
  refine Moe.final (d := 0) (W := V3 m 0) (a := adm h) h.tables k ⟨s.val, hN ▸ hs⟩ ?_
  rw [e]
  exact hb.symm

/-! ## After the gathering call -/

theorem list1 : at' d (V5 m (adm h) d) main_v37 = quarters (arg m d main_arg1) :=
  (ops3_v37 _).trans (congrArg quarters ((V4_keep m _ d main_arg1 (by decide)).trans (V3_V0 m d main_arg1 (by decide) (by decide) (by decide))))

theorem list2 : at' d (V5 m (adm h) d) main_v46 = quarters (arg m d main_arg2) :=
  (ops3_v46 _).trans (congrArg quarters ((V4_keep m _ d main_arg2 (by decide)).trans (V3_V0 m d main_arg2 (by decide) (by decide) (by decide))))

theorem brought1 (t : Fin 4096) (j : Fin 8) (l : Fin 128) :
    V7 m (adm h) d (Proc.devRef .tc main_v48) (ValueIdx.ix3 t j l) = V4 m (adm h) d (Proc.devRef .tc main_v27) (ValueIdx.ix3 (slot1 h d t) j l) := by
  have e : V7 m (adm h) d (Proc.devRef .tc main_v48) = shapeCast S4096x8x128 (Collect.gath (F := F) (shapeCast S131072x2x128
      (V4 m (adm h) d (Proc.devRef .tc main_v27)) shapeCasts_S32768x8x128_S131072x2x128) (quarters (arg m d main_arg1))) shapeCasts_S16384x2x128_S4096x8x128 := by
    refine (ops4_v48 _).trans (congrArg (fun x => shapeCast S4096x8x128 x shapeCasts_S16384x2x128_S4096x8x128) ((V6_v47_0 m (adm h) d).trans ?_))
    exact congrArg₂ (Collect.gath (F := F)) (ops3_v28 _) (list1 h d)
  rw [e]
  exact collected (F := F) _ _ (h d).lt1 t j l

theorem brought2 (t : Fin 4096) (j : Fin 8) (l : Fin 128) :
    V7 m (adm h) d (Proc.devRef .tc main_v49) (ValueIdx.ix3 t j l) = V4 m (adm h) d (Proc.devRef .tc main_v27) (ValueIdx.ix3 (slot2 h d t) j l) := by
  have e : V7 m (adm h) d (Proc.devRef .tc main_v49) = shapeCast S4096x8x128 (Collect.gath (F := F) (shapeCast S131072x2x128
      (V4 m (adm h) d (Proc.devRef .tc main_v27)) shapeCasts_S32768x8x128_S131072x2x128) (quarters (arg m d main_arg2))) shapeCasts_S16384x2x128_S4096x8x128 := by
    refine (ops4_v49 _).trans (congrArg (fun x => shapeCast S4096x8x128 x shapeCasts_S16384x2x128_S4096x8x128) ((V6_v47_1 m (adm h) d).trans ?_))
    exact congrArg₂ (Collect.gath (F := F)) (ops3_v28 _) (list2 h d)
  rw [e]
  exact collected (F := F) _ _ (h d).lt2 t j l

/-! ## The result -/

theorem result_eq : V8 m (adm h) d (Proc.devRef .tc main_v50)
    = Comb.out (arg m d main_arg5) (V7 m (adm h) d (Proc.devRef .tc main_v48)) (V7 m (adm h) d (Proc.devRef .tc main_v49)) (arg m d main_arg6) := by
  have e5 : V7 m (adm h) d (Proc.devRef .tc main_arg5) = arg m d main_arg5 :=
    (V7_V4 m _ d main_arg5 (by decide) (by decide) (by decide) (by decide)).trans
      ((V4_keep m _ d main_arg5 (by decide)).trans (V3_V0 m d main_arg5 (by decide) (by decide) (by decide)))
  have e6 : V7 m (adm h) d (Proc.devRef .tc main_arg6) = arg m d main_arg6 :=
    (V7_V4 m _ d main_arg6 (by decide) (by decide) (by decide) (by decide)).trans
      ((V4_keep m _ d main_arg6 (by decide)).trans (V3_V0 m d main_arg6 (by decide) (by decide) (by decide)))
  refine (afterRegion_arr (Comb.dat (adm h) d (V7 m (adm h) d)) (V7 m (adm h) d) (launch3 (F := F)).win.arr_inj 4).trans ?_
  refine (Comb.final (adm h) d (V7 m (adm h) d)).trans ?_
  rw [e5, e6]

end Cert.Proof

end
-- ==== Proof.Ffn.lean ====
/-
  The feed-forward of one token by one expert, over the extended reals.
-/
module

public import Idealize.ShloMosaic.Lib.Pointwise

@[expose] public section

noncomputable section

namespace Cert.Proof

open Idealize.ShloMosaic

/-- Row `i` of expert `e`'s matrix `w` against the token `x`. -/
def proj (x : Fin 1024 → EReal) (w : (⟨3, ![8, 512, 1024]⟩ : Shape).Idx → EReal) (e : Fin 8) (i : Fin 512) : EReal :=
  ∑ k : Fin 1024, x k * w (ix3 e i k)

/-- The gated activation number `i` of expert `e` on the token `x`. -/
def gated (x : Fin 1024 → EReal) (wg wu : (⟨3, ![8, 512, 1024]⟩ : Shape).Idx → EReal) (e : Fin 8) (i : Fin 512) : EReal :=
  proj x wg e i * Ideal.logistic (proj x wg e i) * proj x wu e i

/-- Output `h` of expert `e` on the token `x`. -/
def ffn (x : Fin 1024 → EReal) (wg wu : (⟨3, ![8, 512, 1024]⟩ : Shape).Idx → EReal)
    (wd : (⟨3, ![8, 1024, 512]⟩ : Shape).Idx → EReal) (e : Fin 8) (h : Fin 1024) : EReal :=
  ∑ i : Fin 512, gated x wg wu e i * wd (ix3 e h i)

/-- Token `t`, its eight rows of 128 numbers in a line. -/
def row (x : (⟨3, ![4096, 8, 128]⟩ : Shape).Idx → EReal) (t : Fin 4096) (k : Fin 1024) : EReal :=
  x (ix3 t ⟨k.val / 128, by omega⟩ ⟨k.val % 128, by omega⟩)

end Cert.Proof

end
-- ==== Proof.FfnValue.lean ====
/-
  What the expert call's body computes for one row of its block and one lane, over the extended reals.
-/
module

public import proofs.«01_k».proof.Proof.Ffn
public import proofs.«01_k».proof.Proof.MoeBody

@[expose] public section

noncomputable section

namespace Cert.Proof.Moe

open Cert.KernelIdeal Cert.KernelIdeal.Gen
open Idealize.ShloMosaic

/-- A block's rows of 1024 numbers, put together from their eight parts. -/
def rows (a : Vec Ideal S512x8x128 .f32) : FVec Ideal S512x1024 .bf16 :=
  truncf .bf16 (concatenate S512x1024 1 [⟨S512x128, shapeCast S512x128 (part a 0) shapeCasts_S512x1x128_S512x128⟩,
    ⟨S512x128, shapeCast S512x128 (part a 1) shapeCasts_S512x1x128_S512x128⟩, ⟨S512x128, shapeCast S512x128 (part a 2) shapeCasts_S512x1x128_S512x128⟩,
    ⟨S512x128, shapeCast S512x128 (part a 3) shapeCasts_S512x1x128_S512x128⟩, ⟨S512x128, shapeCast S512x128 (part a 4) shapeCasts_S512x1x128_S512x128⟩,
    ⟨S512x128, shapeCast S512x128 (part a 5) shapeCasts_S512x1x128_S512x128⟩, ⟨S512x128, shapeCast S512x128 (part a 6) shapeCasts_S512x1x128_S512x128⟩,
    ⟨S512x128, shapeCast S512x128 (part a 7) shapeCasts_S512x1x128_S512x128⟩]
    concatenates_S512x128_S512x128_S512x128_S512x128_S512x128_S512x128_S512x128_S512x128_S512x1024_d1) bitsLt_bf16_f32

theorem rows_apply (a : Vec Ideal S512x8x128 .f32) (r : Fin 512) (k : Fin 1024) :
    rows a (ix2 r k) = a (ix3 r ⟨k.val / 128, by omega⟩ ⟨k.val % 128, by omega⟩) := by
  have key : ∀ (q : Fin 8) (l : Fin 128), q.val = k.val / 128 → l.val = k.val % 128 →
      a (ValueIdx.ix3 r q l) = a (ix3 r ⟨k.val / 128, by omega⟩ ⟨k.val % 128, by omega⟩) := fun q l hq hl => by
    rw [← ix3_eq_valueIdx]
    exact congrArg a (congrArg₂ (ix3 r) (Fin.ext hq) (Fin.ext hl))
  have hk := k.isLt
  pointwise [rows, part]
  split_ifs
  all_goals refine key _ _ ?_ ?_
  all_goals first
    | (show _ = k.val % 128; dsimp only; omega)
    | (show _ = k.val % 128; omega)
    | (show 0 = k.val / 128; omega)
    | (show 1 = k.val / 128; omega)
    | (show 2 = k.val / 128; omega)
    | (show 3 = k.val / 128; omega)
    | (show 4 = k.val / 128; omega)
    | (show 5 = k.val / 128; omega)
    | (show 6 = k.val / 128; omega)
    | (show 7 = k.val / 128; omega)

/-- The rows against the columns of a matrix. -/
def times (x : FVec Ideal S512x1024 .bf16) (w : Vec Ideal S1x1024x512 .bf16) : FVec Ideal S512x512 .f32 :=
  matmul dot_S512x1024_S1024x512_S512x512_1_0_0_1_n_n none x (shapeCast S1024x512 w shapeCasts_S1x1024x512_S1024x512 : FVec Ideal S1024x512 .bf16)
    (constant S512x512 .f32 0x00000000#32)

theorem times_apply (x : FVec Ideal S512x1024 .bf16) (w : Vec Ideal S1x1024x512 .bf16) (r i : Fin 512) :
    times x w (ix2 r i) = ∑ k : Fin 1024, x (ix2 r k) * w (ix3 0 k i) := by
  pointwise [times]

/-- The activations, from the two products. -/
def act (g u : FVec Ideal S512x512 .f32) : FVec Ideal S512x512 .f32 := mulf (mulf g (logistic g)) u

theorem act_apply (g u : FVec Ideal S512x512 .f32) (r i : Fin 512) :
    act g u (ix2 r i) = g (ix2 r i) * Ideal.logistic (g (ix2 r i)) * u (ix2 r i) := by
  pointwise [act]

theorem down_apply (y : FVec Ideal S512x512 .f32) (w : Vec Ideal S1x512x1024 .bf16) (r : Fin 512) (h : Fin 1024) :
    k1_pay4 y w (ix2 r h) = ∑ i : Fin 512, y (ix2 r i) * w (ix3 0 i h) := by
  pointwise [k1_pay4]

theorem pay3_eq (a : Vec Ideal S512x8x128 .f32) (wg wu : Vec Ideal S1x1024x512 .bf16) :
    k1_pay3 (part a 0) (part a 1) (part a 2) (part a 3) (part a 4) (part a 5) (part a 6) (part a 7) wg wu
      = act (times (rows a) wg) (times (rows a) wu) := rfl

/-- One row and one lane of the block's feed-forward, as that of the row by the expert whose matrices these are. -/
theorem ffn_apply (a : Vec Ideal S512x8x128 .f32) (wg wu : Vec Ideal S1x1024x512 .bf16) (wd : Vec Ideal S1x512x1024 .bf16)
    (x : Fin 1024 → EReal) (vg vu : (⟨3, ![8, 512, 1024]⟩ : Shape).Idx → EReal) (vd : (⟨3, ![8, 1024, 512]⟩ : Shape).Idx → EReal)
    (e : Fin 8) (r : Fin 512) (h : Fin 1024) (hx : ∀ k : Fin 1024, a (ix3 r ⟨k.val / 128, by omega⟩ ⟨k.val % 128, by omega⟩) = x k)
    (hg : ∀ k i, wg (ix3 0 k i) = vg (ix3 e i k)) (hu : ∀ k i, wu (ix3 0 k i) = vu (ix3 e i k))
    (hd : ∀ i, wd (ix3 0 i h) = vd (ix3 e h i)) : ffn a wg wu wd (ix2 r h) = Cert.Proof.ffn x vg vu vd e h := by
  have tg : ∀ i, times (rows a) wg (ix2 r i) = proj x vg e i := fun i => by
    rw [times_apply]
    exact Finset.sum_congr rfl fun k _ => by rw [rows_apply, hx, hg]
  have tu : ∀ i, times (rows a) wu (ix2 r i) = proj x vu e i := fun i => by
    rw [times_apply]
    exact Finset.sum_congr rfl fun k _ => by rw [rows_apply, hx, hu]
  unfold ffn Cert.Proof.ffn
  rw [pay3_eq, down_apply]
  refine Finset.sum_congr rfl fun i _ => ?_
  rw [act_apply, tg, tu, hd]
  rfl

end Cert.Proof.Moe

end
-- ==== Proof.RefValue.lean ====
/-
  What the reference computes for one token and one lane, over the extended reals.
-/
module

public import proofs.«01_k».proof.Proof.Ffn
public import proofs.«01_k».proof.Proof.Pre
public import proofs.«01_k».proof.Proof.Gen.ReferenceIdeal

@[expose] public section

noncomputable section

namespace Cert.Proof.Ref

open Cert.ReferenceIdeal Cert.ReferenceIdeal.Gen
open Idealize.ShloMosaic

/-- Every token against every row of every expert's matrix `w`. -/
def lines (x : FVec Ideal S4096x8x128 .f32) (w : FVec Ideal S8x512x1024 .f32) : FVec Ideal S4096x8x512 .f32 :=
  Host.dotGeneral dot_S4096x1024_S8x512x1024_S4096x8x512_1_2_0_01_n_n none (shapeCast _ x shapeCasts_S4096x8x128_S4096x1024) w

set_option maxRecDepth 16384 in
theorem lines_apply (x : FVec Ideal S4096x8x128 .f32) (w : FVec Ideal S8x512x1024 .f32) (t : Fin 4096) (e : Fin 8) (i : Fin 512) :
    lines x w (ix3 t e i) = proj (row x t) w e i := by
  pointwise [lines, proj, row]

/-- The gated activations. -/
def acts (g u : FVec Ideal S4096x8x512 .f32) : FVec Ideal S4096x8x512 .f32 :=
  mulf (mulf g (Host.divf (broadcastInDim S4096x8x512 ![] bcast_S_S4096x8x512 (constant S_ .f32 0x3F800000#32))
    (addf (broadcastInDim S4096x8x512 ![] bcast_S_S4096x8x512 (constant S_ .f32 0x3F800000#32)) (Host.exp (Host.negf g))))) u

theorem acts_apply (g u : FVec Ideal S4096x8x512 .f32) (t : Fin 4096) (e : Fin 8) (i : Fin 512) :
    acts g u (ix3 t e i) = g (ix3 t e i) * Ideal.logistic (g (ix3 t e i)) * u (ix3 t e i) := by
  pointwise [acts, Ideal.logistic]

/-- The outputs of every expert on every token. -/
def outs (a : FVec Ideal S4096x8x512 .f32) (w : FVec Ideal S8x1024x512 .f32) : FVec Ideal S4096x8x1024 .f32 :=
  transpose S4096x8x1024 [2, 0, 1] (Host.dotGeneral dot_S8x1024x512_S4096x8x512_S8x1024x4096_2_2_1_0_0_1 none w a)
    transposes_S8x1024x4096_S4096x8x1024_2_0_1

theorem outs_apply (a : FVec Ideal S4096x8x512 .f32) (w : FVec Ideal S8x1024x512 .f32) (t : Fin 4096) (e : Fin 8) (h : Fin 1024) :
    outs a w (ix3 t e h) = ∑ i : Fin 512, a (ix3 t e i) * w (ix3 e h i) := by
  pointwise [outs]
  exact Finset.sum_congr rfl fun i _ => mul_comm _ _

theorem uitofp_one : (FloatOps.uitofp FTy.f32 (1#1) : Ideal .f32) = (1 : EReal) := by
  show (((1#1 : BitVec 1).toNat : ℝ) : EReal) = 1
  simp

theorem uitofp_zero : (FloatOps.uitofp FTy.f32 (0#1) : Ideal .f32) = (0 : EReal) := by
  show (((0#1 : BitVec 1).toNat : ℝ) : EReal) = 0
  simp

/-- The mark of the expert of slot `p`. -/
def hot (p : IVec S4096 32) : FVec Ideal S4096x8 .f32 :=
  uitofp .f32 (cmpi .eq (broadcastInDim S4096x8 ![0, 1] bcast_S4096x1_S4096x8_0_1 (broadcastInDim S4096x1 ![0] bcast_S4096_S4096x1_0
    (Host.divsi p (broadcastInDim S4096 ![] bcast_S_S4096 (constantI S_ 32 4096#32)))))
    (broadcastInDim S4096x8 ![0, 1] bcast_S1x8_S4096x8_0_1 (iotaInDim S1x8 32 1)))

theorem hot_apply (p : IVec S4096 32) (t : Fin 4096) (e : Fin 8) (hp : (p (ix1 t)).toNat < 32768) :
    hot p (ix2 t e) = if (p (ix1 t)).toNat / 4096 = e.val then 1 else 0 := by
  have hd : (IntOp.divsi ArithUnit.host (p (ix1 t)) 4096#32).toNat = (p (ix1 t)).toNat / 4096 :=
    div_nat .host (b := 4096) (lt_trans hp (by norm_num)) (by norm_num) (by norm_num)
  have he : (BitVec.ofNat 32 e.val).toNat = e.val := by
    rw [BitVec.toNat_ofNat]
    exact Nat.mod_eq_of_lt (by omega)
  pointwise [hot]
  by_cases h : (p (ix1 t)).toNat / 4096 = e.val
  · rw [if_pos h, (BitVec.eq_of_toNat_eq (hd.trans (h.trans he.symm)) : IntOp.divsi ArithUnit.host (p (ix1 t)) 4096#32 = BitVec.ofNat 32 e.val),
      IntOp.cmpi_eq_self]
    exact uitofp_one
  · rw [if_neg h]
    have hn : IntOp.cmpi CmpIPredicate.eq (IntOp.divsi ArithUnit.host (p (ix1 t)) 4096#32) (BitVec.ofNat 32 e.val) = 0#1 := by
      rcases BitVec.eq_zero_or_eq_one (IntOp.cmpi CmpIPredicate.eq (IntOp.divsi ArithUnit.host (p (ix1 t)) 4096#32) (BitVec.ofNat 32 e.val)) with q | q
      · exact q
      · exact absurd (hd.symm.trans ((congrArg BitVec.toNat (StableHlo.Predicate.cmpi_eq_iff.1 q)).trans he)) h
    rw [hn]
    exact uitofp_zero

/-- The weights of the experts for every token. -/
def weights (w : FVec Ideal S4096x128 .f32) (h1 h2 : FVec Ideal S4096x8 .f32) : FVec Ideal S4096x8 .f32 :=
  addf (mulf (broadcastInDim S4096x8 ![0, 1] bcast_S4096x1_S4096x8_0_1 (extractStridedSlice S4096x1 ![0, 0] w slices_S4096x128_S4096x1_0_0)) h1)
    (mulf (broadcastInDim S4096x8 ![0, 1] bcast_S4096x1_S4096x8_0_1 (extractStridedSlice S4096x1 ![0, 1] w slices_S4096x128_S4096x1_0_1)) h2)

theorem weights_apply (w : FVec Ideal S4096x128 .f32) (h1 h2 : FVec Ideal S4096x8 .f32) (t : Fin 4096) (e : Fin 8) :
    weights w h1 h2 (ix2 t e) = w (ix2 t 0) * h1 (ix2 t e) + w (ix2 t 1) * h2 (ix2 t e) := by
  pointwise [weights]

/-- The reference's result. -/
def term (x : FVec Ideal S4096x8x128 .f32) (p1 p2 : IVec S4096 32) (r : FVec Ideal S4096x1024 .f32) (w : FVec Ideal S4096x128 .f32)
    (wg wu : FVec Ideal S8x512x1024 .f32) (wd : FVec Ideal S8x1024x512 .f32) : FVec Ideal S4096x1024 .f32 :=
  addf r (Host.dotGeneral dot_S4096x8x1024_S4096x8_S4096x1024_1_1_2_n_0_0 none (outs (acts (lines x wg) (lines x wu)) wd)
    (weights w (hot p1) (hot p2)))

theorem term_apply (x : FVec Ideal S4096x8x128 .f32) (p1 p2 : IVec S4096 32) (r : FVec Ideal S4096x1024 .f32) (w : FVec Ideal S4096x128 .f32)
    (wg wu : FVec Ideal S8x512x1024 .f32) (wd : FVec Ideal S8x1024x512 .f32) (t : Fin 4096) (h : Fin 1024) :
    term x p1 p2 r w wg wu wd (ix2 t h)
      = r (ix2 t h) + ∑ e : Fin 8, ffn (row x t) wg wu wd e h * (w (ix2 t 0) * hot p1 (ix2 t e) + w (ix2 t 1) * hot p2 (ix2 t e)) := by
  unfold term
  generalize hO : outs (acts (lines x wg) (lines x wu)) wd = O
  generalize hW : weights w (hot p1) (hot p2) = W
  pointwise
  refine congrArg _ (Finset.sum_congr rfl fun e _ => ?_)
  rw [← hO, ← hW, outs_apply, weights_apply]
  refine congrArg (· * _) (Finset.sum_congr rfl fun i _ => ?_)
  rw [acts_apply, lines_apply, lines_apply]
  rfl

end Cert.Proof.Ref

end
-- ==== Proof.Value.lean ====
/-
  The kernel's result over the extended reals is the reference's.
-/
module

public import proofs.«01_k».proof.Proof.Path
public import proofs.«01_k».proof.Proof.FfnValue
public import proofs.«01_k».proof.Proof.RefValue

@[expose] public section

noncomputable section

namespace Cert.Proof

open Cert.KernelIdeal Cert.KernelIdeal.Gen
open Idealize.ShloMosaic
open Idealize.ShloMosaic.Pipeline
open Idealize.SL.Sem

/-! ## The weights, as the expert call takes them -/

section

/-- A matrix of weights turned, in the narrow format. -/
def upside (x : FVec Ideal S8x512x1024 .f32) : FVec Ideal S8x1024x512 .bf16 :=
  truncf .bf16 (transpose S8x1024x512 [0, 2, 1] x transposes_S8x512x1024_S8x1024x512_0_2_1) bitsLt_bf16_f32

/-- The same of the last matrix. -/
def downside (x : FVec Ideal S8x1024x512 .f32) : FVec Ideal S8x512x1024 .bf16 :=
  truncf .bf16 (transpose S8x512x1024 [0, 2, 1] x transposes_S8x1024x512_S8x512x1024_0_2_1) bitsLt_bf16_f32

variable (V : Vals Ideal)

theorem ops2_v22 : StableHlo.after ops2 V (Proc.devRef .tc main_v22)
    = upside (V (Proc.devRef .tc main_arg7)) := by
  unfold ops2
  after_reads_simp
  rfl

theorem ops2_v24 : StableHlo.after ops2 V (Proc.devRef .tc main_v24)
    = upside (V (Proc.devRef .tc main_arg8)) := by
  unfold ops2
  after_reads_simp
  rfl

theorem ops2_v26 : StableHlo.after ops2 V (Proc.devRef .tc main_v26)
    = downside (V (Proc.devRef .tc main_arg9)) := by
  unfold ops2
  after_reads_simp
  rfl

theorem up_at (x : FVec Ideal S8x512x1024 .f32) (e : Fin 8) (k : Fin 1024) (i : Fin 512) :
    upside x (ix3 e k i) = x (ix3 e i k) := by
  pointwise [upside]

theorem down_at (x : FVec Ideal S8x1024x512 .f32) (e : Fin 8) (i : Fin 512) (k : Fin 1024) :
    downside x (ix3 e i k) = x (ix3 e k i) := by
  pointwise [downside]

end

variable {m : (ℓ : Loc nD τ sig) → Buf (Elt Ideal) ℓ} (h : Good m) (d : Dev nD)

theorem V2_arg (r : Ref sig .tc) (h1 : r ∉ outs1) (h2 : r ≠ main_v19) : V2 m d (Proc.devRef .tc r) = arg m d r :=
  (V2_of_ne m d _ (StableHlo.devRef_ne_of_ne h2)).trans (ops1_keep _ r h1)

theorem gates_at (e : Fin 8) (k : Fin 1024) (i : Fin 512) :
    V3 m d (Proc.devRef .tc main_v22) (ix3 e k i) = arg m d main_arg7 (ix3 e i k) := by
  refine (congrFun (ops2_v22 (V2 m d)) (ix3 e k i)).trans ((up_at _ e k i).trans ?_)
  exact congrFun (V2_arg d main_arg7 (by decide) (by decide)) _

theorem ups_at (e : Fin 8) (k : Fin 1024) (i : Fin 512) :
    V3 m d (Proc.devRef .tc main_v24) (ix3 e k i) = arg m d main_arg8 (ix3 e i k) := by
  refine (congrFun (ops2_v24 (V2 m d)) (ix3 e k i)).trans ((up_at _ e k i).trans ?_)
  exact congrFun (V2_arg d main_arg8 (by decide) (by decide)) _

theorem downs_at (e : Fin 8) (i : Fin 512) (k : Fin 1024) :
    V3 m d (Proc.devRef .tc main_v26) (ix3 e i k) = arg m d main_arg9 (ix3 e k i) := by
  refine (congrFun (ops2_v26 (V2 m d)) (ix3 e i k)).trans ((down_at _ e i k).trans ?_)
  exact congrFun (V2_arg d main_arg9 (by decide) (by decide)) _

/-! ## What a token's slot holds after the expert call -/

/-- A slot that holds token `t` and whose block is listed ends with the slot's expert's feed-forward of the token. -/
theorem slot_value (t : Fin 4096) (p : Fin 32768) (e : Fin 8) (he : p.val / 4096 = e.val)
    (hx : ∀ j l, V3 m d (Proc.devRef .tc main_v20) (ValueIdx.ix3 p j l) = arg m d main_arg0 (ValueIdx.ix3 t j l))
    (s : Fin 128) (hs : s.val < 23) (hb : p.val / 512 = nat (arg m d main_arg4) s) (k : Fin 1024) :
    V4 m (adm h) d (Proc.devRef .tc main_v27) (ValueIdx.ix3 p ⟨k.val / 128, by omega⟩ ⟨k.val % 128, by omega⟩)
      = ffn (row (arg m d main_arg0) t) (arg m d main_arg7) (arg m d main_arg8) (arg m d main_arg9) e k := by
  refine (expert_at h d _ s hs hb).trans ?_
  refine (Moe.out_at _ _ _ _ _ ⟨p.val / 512, by omega⟩ e ⟨p.val % 512, by omega⟩ rfl he rfl).trans ?_
  have hk : (⟨128 * (k.val / 128) + k.val % 128, by omega⟩ : Fin 1024) = k := Fin.ext (by show 128 * (k.val / 128) + k.val % 128 = k.val; omega)
  unfold Moe.blk
  refine Eq.trans (congrArg (Moe.ffn _ _ _ _) (show _ = (ix2 ⟨p.val % 512, by omega⟩ k : S512x1024.Idx) from ?_)) ?_
  · rw [ix2_eq_valueIdx]
    exact congrArg (ValueIdx.ix2 _) hk
  · refine Moe.ffn_apply _ _ _ _ _ _ _ _ e _ k (fun q => ?_) (fun q i => ?_) (fun q i => ?_) (fun i => ?_)
    · have hp : (⟨p.val / 512 * 512 + p.val % 512, by omega⟩ : Fin 32768) = p := Fin.ext (by show p.val / 512 * 512 + p.val % 512 = p.val; omega)
      refine Eq.trans (congrArg (fun z => V3 m d (Proc.devRef .tc main_v20) (ValueIdx.ix3 z ⟨q.val / 128, by omega⟩ ⟨q.val % 128, by omega⟩)) hp) ?_
      refine (hx _ _).trans ?_
      unfold row
      rw [ix3_eq_valueIdx]
    · exact (congrArg (V3 m d (Proc.devRef .tc main_v22)) (ix3_eq_valueIdx e q i).symm).trans (gates_at d e q i)
    · exact (congrArg (V3 m d (Proc.devRef .tc main_v24)) (ix3_eq_valueIdx e q i).symm).trans (ups_at d e q i)
    · exact (congrArg (V3 m d (Proc.devRef .tc main_v26)) (ix3_eq_valueIdx e i k).symm).trans (downs_at d e i k)

theorem first_value (t : Fin 4096) (k : Fin 1024) :
    V4 m (adm h) d (Proc.devRef .tc main_v27) (ValueIdx.ix3 (slot1 h d t) ⟨k.val / 128, by omega⟩ ⟨k.val % 128, by omega⟩)
      = ffn (row (arg m d main_arg0) t) (arg m d main_arg7) (arg m d main_arg8) (arg m d main_arg9) ⟨(slot1 h d t).val / 4096, by omega⟩ k := by
  obtain ⟨s, hs, hb⟩ := (h d).listed1 t
  exact slot_value h d t _ _ rfl (dispatched1 h d t) s hs hb k

theorem second_value (t : Fin 4096) (k : Fin 1024) :
    V4 m (adm h) d (Proc.devRef .tc main_v27) (ValueIdx.ix3 (slot2 h d t) ⟨k.val / 128, by omega⟩ ⟨k.val % 128, by omega⟩)
      = ffn (row (arg m d main_arg0) t) (arg m d main_arg7) (arg m d main_arg8) (arg m d main_arg9) ⟨(slot2 h d t).val / 4096, by omega⟩ k := by
  obtain ⟨s, hs, hb⟩ := (h d).listed2 t
  exact slot_value h d t _ _ rfl (dispatched2 h d t) s hs hb k

/-! ## The combination -/

/-- A sum over the experts in which two of them are marked is the two marked terms: what is not marked counts zero,
    whatever its value. -/
theorem marked (f : Fin 8 → EReal) (a b : EReal) (u v : Fin 8) (hn : u ≠ v) :
    ∑ e : Fin 8, f e * (a * (if u.val = e.val then 1 else 0) + b * (if v.val = e.val then 1 else 0)) = a * f u + b * f v := by
  have key : ∀ e : Fin 8, f e * (a * (if u.val = e.val then 1 else 0) + b * (if v.val = e.val then 1 else 0))
      = (if u = e then a * f u else 0) + (if v = e then b * f v else 0) := fun e => by
    by_cases hu : u = e
    · have hv : v ≠ e := fun hv => hn (hu.trans hv.symm)
      rw [if_pos (congrArg Fin.val hu), if_neg fun q => hv (Fin.ext q), if_pos hu, if_neg hv, mul_one, mul_zero, add_zero, add_zero, mul_comm, hu]
    · rw [if_neg fun q => hu (Fin.ext q), if_neg hu, mul_zero, zero_add, zero_add]
      by_cases hv : v = e
      · rw [if_pos (congrArg Fin.val hv), if_pos hv, mul_one, mul_comm, hv]
      · rw [if_neg fun q => hv (Fin.ext q), if_neg hv, mul_zero, mul_zero]
  rw [Finset.sum_congr rfl fun e _ => key e, Finset.sum_add_distrib, Finset.sum_ite_eq, Finset.sum_ite_eq, if_pos (Finset.mem_univ _),
    if_pos (Finset.mem_univ _)]

/-- The combination of two slots' rows is the reference's, where the rows are the two experts' feed-forwards. -/
theorem combined (x : FVec Ideal S4096x8x128 .f32) (p1 p2 : IVec S4096 32) (r : FVec Ideal S4096x1024 .f32) (w : FVec Ideal S4096x128 .f32)
    (wg wu : FVec Ideal S8x512x1024 .f32) (wd : FVec Ideal S8x1024x512 .f32) (g1 g2 : FVec Ideal S4096x8x128 .f32)
    (t : Fin 4096) (k : Fin 1024) (l1 : nat p1 t < 32768) (l2 : nat p2 t < 32768) (hn : nat p1 t / 4096 ≠ nat p2 t / 4096)
    (h1 : g1 (ValueIdx.ix3 t (Fin.ofNat 8 (k.val / 128)) (Fin.ofNat 128 (k.val % 128))) = ffn (row x t) wg wu wd ⟨nat p1 t / 4096, by omega⟩ k)
    (h2 : g2 (ValueIdx.ix3 t (Fin.ofNat 8 (k.val / 128)) (Fin.ofNat 128 (k.val % 128))) = ffn (row x t) wg wu wd ⟨nat p2 t / 4096, by omega⟩ k) :
    Comb.out (F := Ideal) r g1 g2 w (ix2 t k) = Ref.term x p1 p2 r w wg wu wd (ix2 t k) := by
  rw [Ref.term_apply]
  have n1 : (p1 (ix1 t)).toNat = nat p1 t := congrArg (fun q => (p1 q).toNat) (ix1_eq_valueIdx t)
  have n2 : (p2 (ix1 t)).toNat = nat p2 t := congrArg (fun q => (p2 q).toNat) (ix1_eq_valueIdx t)
  have hh : ∀ e : Fin 8, w (ix2 t 0) * Ref.hot p1 (ix2 t e) + w (ix2 t 1) * Ref.hot p2 (ix2 t e)
      = w (ix2 t 0) * (if nat p1 t / 4096 = e.val then 1 else 0) + w (ix2 t 1) * (if nat p2 t / 4096 = e.val then 1 else 0) := fun e => by
    rw [Ref.hot_apply p1 t e (n1 ▸ l1), Ref.hot_apply p2 t e (n2 ▸ l2), n1, n2]
  rw [Finset.sum_congr rfl fun e _ => congrArg _ (hh e)]
  have hm := marked (fun e => ffn (row x t) wg wu wd e k) (w (ix2 t 0)) (w (ix2 t 1)) ⟨nat p1 t / 4096, by omega⟩ ⟨nat p2 t / 4096, by omega⟩
    (fun q => hn (congrArg Fin.val q))
  refine Eq.trans ?_ (congrArg (fun q => r (ix2 t k) + q) hm.symm)
  have o : Comb.out (F := Ideal) r g1 g2 w (ix2 t k)
      = (r (ix2 t k) + w (ix2 t 0) * g1 (ValueIdx.ix3 t (Fin.ofNat 8 (k.val / 128)) (Fin.ofNat 128 (k.val % 128))))
        + w (ix2 t 1) * g2 (ValueIdx.ix3 t (Fin.ofNat 8 (k.val / 128)) (Fin.ofNat 128 (k.val % 128))) := by
    rw [ix2_eq_valueIdx t 0, ix2_eq_valueIdx t 1]
    rfl
  rw [o, h1, h2, add_assoc]

/-- The kernel's result is the reference's. -/
theorem value : V8 m (adm h) d (Proc.devRef .tc main_v50)
    = Ref.term (arg m d main_arg0) (arg m d main_arg1) (arg m d main_arg2) (arg m d main_arg5) (arg m d main_arg6)
        (arg m d main_arg7) (arg m d main_arg8) (arg m d main_arg9) := by
  rw [result_eq]
  refine funext fun (z : S4096x1024.Idx) => ?_
  obtain ⟨t, k, rfl⟩ : ∃ (t : Fin 4096) (k : Fin 1024), z = ix2 t k := ⟨z 0, z 1, eq_ix2 z⟩
  have q8 : (Fin.ofNat 8 (k.val / 128) : Fin 8) = ⟨k.val / 128, by omega⟩ := Fin.ext (Nat.mod_eq_of_lt (by omega))
  have q128 : (Fin.ofNat 128 (k.val % 128) : Fin 128) = ⟨k.val % 128, by omega⟩ := Fin.ext (Nat.mod_eq_of_lt (by omega))
  have b1 := ((brought1 h d t (Fin.ofNat 8 (k.val / 128)) (Fin.ofNat 128 (k.val % 128))).trans (by rw [q8, q128])).trans (first_value h d t k)
  have b2 := ((brought2 h d t (Fin.ofNat 8 (k.val / 128)) (Fin.ofNat 128 (k.val % 128))).trans (by rw [q8, q128])).trans (second_value h d t k)
  exact combined _ _ _ _ _ _ _ _ _ _ t k ((h d).lt1 t) ((h d).lt2 t) ((h d).ne t) b1 b2

end Cert.Proof

end
-- ==== Proof.Algebraic.lean ====
/-
  Over the extended reals the kernel and the reference end with one and the same result.
-/
module

public import proofs.«01_k».proof.Proof.Value
public import proofs.«01_k».proof.Proof.Frames
public import proofs.«01_k».proof.Proof.Reference

@[expose] public section

noncomputable section

namespace Cert.Proof

open Idealize.ShloMosaic
open Idealize.SL.Sem

theorem algebraic : Cert.algebraic_KernelIdeal_ReferenceIdeal := by
  intro m ρ m' ρ' hP hA
  have h := good_ideal m hP
  refine ⟨fun c => V8 m (adm h) c (Proc.devRef .tc Cert.KernelIdeal.main_v50), ?_, ?_⟩
  · refine (θ_run (Cert.KernelIdeal.defs (F := Ideal)) _ _).mono (fun r e c => ⟨e.1 c _ (mem_arrs Cert.KernelIdeal.main_v50 rfl), ?_⟩) (run_good ρ h)
    exact ⟨e.arg c _ rfl (by decide), e.arg c _ rfl (by decide), e.arg c _ rfl (by decide), e.arg c _ rfl (by decide), e.arg c _ rfl (by decide),
      e.arg c _ rfl (by decide), e.arg c _ rfl (by decide), e.arg c _ rfl (by decide), e.arg c _ rfl (by decide), e.arg c _ rfl (by decide)⟩
  · refine (θ_run (Cert.ReferenceIdeal.defs (F := Ideal)) _ _).mono (fun r e c => ⟨(e c).1.trans ?_, (e c).2⟩)
      (Cert.ReferenceIdeal.Value.run (F := Ideal) m' ρ')
    obtain ⟨a0, a1, a2, -, -, a5, a6, a7, a8, a9⟩ := hA c
    rw [a0, a1, a2, a5, a6, a7, a8, a9]
    exact (value h c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_routed
public import proofs.«01_k».proof.Proof.Gen.ReferenceIdeal.Run
public import proofs.«01_k».proof.Proof.Bare
public import proofs.«01_k».proof.Proof.Reference
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_routed.Gen.facts,
  frame_kernel, frame_ideal, frame_reference, frame_reference_routed, trivial, algebraic⟩

end Cert.Proof

end
